-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5)
      ∧ r.2.mem ((c.tc : Thread Cert.OProj.nD Cert.OProj.τ).loc Cert.OProj.main_arg6) = m ((c.tc : Thread Cert.OProj.nD Cert.OProj.τ).loc Cert.OProj.main_arg6))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
      ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5)
      ∧ r.2.mem ((c.tc : Thread Cert.OProjRefIdeal.nD Cert.OProjRefIdeal.τ).loc Cert.OProjRefIdeal.main_arg6) = m ((c.tc : Thread Cert.OProjRefIdeal.nD Cert.OProjRefIdeal.τ).loc Cert.OProjRefIdeal.main_arg6))
      ∧ r.2.sem = fun _ => 0)

def preserves_GateUp_GateUpIdeal : Prop :=
  IdealRules.named_const.Statement Cert.GateUpIdeal.κ "gelu_c1" .f32 0x3D122279#32 ((80338380498831 / 2251799813685248 : ℝ) : EReal)

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v3_0)) (v1 : (c : Dev Cert.GateUpIdeal.nD) → Buf (Elt Ideal) ((c.tc : Thread Cert.GateUpIdeal.nD Cert.GateUpIdeal.τ).loc Cert.GateUpIdeal.main_v3_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3_0) = v0 c
          ∧ r.2.mem ((c.tc : Thread Cert.GateUpIdeal.nD Cert.GateUpIdeal.τ).loc Cert.GateUpIdeal.main_v3_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v3_0) = v0 c
          ∧ r.2.mem ((c.tc : Thread Cert.GateUpRefIdeal.nD Cert.GateUpRefIdeal.τ).loc Cert.GateUpRefIdeal.main_v3_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)
      ∧ m' ((c.tc : Thread Cert.OProjRefIdeal.nD Cert.OProjRefIdeal.τ).loc Cert.OProjRefIdeal.main_arg6) = m ((c.tc : Thread Cert.OProjIdeal.nD Cert.OProjIdeal.τ).loc Cert.OProjIdeal.main_arg6)) →
    ∃ (v0 : (c : Dev Cert.OProjIdeal.nD) → Buf (Elt Ideal) ((c.tc : Thread Cert.OProjIdeal.nD Cert.OProjIdeal.τ).loc Cert.OProjIdeal.main_v4_0)) (v1 : (c : Dev Cert.OProjIdeal.nD) → Buf (Elt Ideal) ((c.tc : Thread Cert.OProjIdeal.nD Cert.OProjIdeal.τ).loc Cert.OProjIdeal.main_v4_1)) (v2 : (c : Dev Cert.OProjIdeal.nD) → Buf (Elt Ideal) ((c.tc : Thread Cert.OProjIdeal.nD Cert.OProjIdeal.τ).loc Cert.OProjIdeal.main_v4_2)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v4_0) = v0 c
          ∧ r.2.mem ((c.tc : Thread Cert.OProjIdeal.nD Cert.OProjIdeal.τ).loc Cert.OProjIdeal.main_v4_1) = v1 c
          ∧ r.2.mem ((c.tc : Thread Cert.OProjIdeal.nD Cert.OProjIdeal.τ).loc Cert.OProjIdeal.main_v4_2) = v2 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
          ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v4_0) = v0 c
          ∧ r.2.mem ((c.tc : Thread Cert.OProjRefIdeal.nD Cert.OProjRefIdeal.τ).loc Cert.OProjRefIdeal.main_v4_1) = v1 c
          ∧ r.2.mem ((c.tc : Thread Cert.OProjRefIdeal.nD Cert.OProjRefIdeal.τ).loc Cert.OProjRefIdeal.main_v4_2) = v2 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5)
          ∧ r.2.mem ((c.tc : Thread Cert.OProjRefIdeal.nD Cert.OProjRefIdeal.τ).loc Cert.OProjRefIdeal.main_arg6) = m' ((c.tc : Thread Cert.OProjRefIdeal.nD Cert.OProjRefIdeal.τ).loc Cert.OProjRefIdeal.main_arg6))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOProj : Cert.OProj.Facts) (hOProjIdeal : Cert.OProjIdeal.Facts) (hOProjRefIdeal : Cert.OProjRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_OProj (hOProj := hOProj)
    ∧ quiescent_OProjIdeal (hOProjIdeal := hOProjIdeal)
    ∧ quiescent_OProjRefIdeal (hOProjRefIdeal := hOProjRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_OProj_OProjIdeal
    ∧ algebraic_OProjIdeal_OProjRefIdeal (hOProjIdeal := hOProjIdeal) (hOProjRefIdeal := hOProjRefIdeal)
-- ==== GateUp.lean ====
abbrev S15360x4608 : Shape := ⟨2, ![15360, 4608]⟩
abbrev S15360 : Shape := ⟨1, ![15360]⟩
abbrev S4608x9216 : Shape := ⟨2, ![4608, 9216]⟩
abbrev S9216 : Shape := ⟨1, ![9216]⟩
abbrev S1x9216 : Shape := ⟨2, ![1, 9216]⟩
abbrev S15360x1 : Shape := ⟨2, ![15360, 1]⟩
abbrev S15360x9216 : Shape := ⟨2, ![15360, 9216]⟩
abbrev S30x4x128 : Shape := ⟨3, ![30, 4, 128]⟩
abbrev S512x4608 : Shape := ⟨2, ![512, 4608]⟩
abbrev S512x1 : Shape := ⟨2, ![512, 1]⟩
abbrev S4608x512 : Shape := ⟨2, ![4608, 512]⟩
abbrev S512x512 : Shape := ⟨2, ![512, 512]⟩
abbrev S1x4x128 : Shape := ⟨3, ![1, 4, 128]⟩
abbrev S18x512x512 : Shape := ⟨3, ![18, 512, 512]⟩
abbrev S512x128 : Shape := ⟨2, ![512, 128]⟩
abbrev S1x512 : Shape := ⟨2, ![1, 512]⟩
abbrev S1x512x512 : Shape := ⟨3, ![1, 512, 512]⟩
abbrev S512 : Shape := ⟨1, ![512]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x1x128 : Shape := ⟨3, ![1, 1, 128]⟩

abbrev nBuf : Space → Nat
  | .hbm => 11
  | .vmem => 17
  | .smem => 0
  | _ => 0

abbrev bufTy : (tb : Table) → Fin (tcTables nBuf tb) → BufTy
  | .hbm, ⟨0, _⟩ => ⟨S15360x4608, .fp8e4m3⟩
  | .hbm, ⟨1, _⟩ => ⟨S15360, .f32⟩
  | .hbm, ⟨2, _⟩ => ⟨S4608x9216, .fp8e4m3⟩
  | .hbm, ⟨3, _⟩ => ⟨S9216, .f32⟩
  | .hbm, ⟨4, _⟩ => ⟨S4608x9216, .fp8e4m3⟩
  | .hbm, ⟨5, _⟩ => ⟨S9216, .f32⟩
  | .hbm, ⟨6, _⟩ => ⟨S1x9216, .f32⟩
  | .hbm, ⟨7, _⟩ => ⟨S1x9216, .f32⟩
  | .hbm, ⟨8, _⟩ => ⟨S15360x1, .f32⟩
  | .hbm, ⟨9, _⟩ => ⟨S15360x9216, .fp8e4m3⟩
  | .hbm, ⟨10, _⟩ => ⟨S30x4x128, .f32⟩
  | .local _ .vmem, ⟨0, _⟩ => ⟨S512x4608, .fp8e4m3⟩
  | .local _ .vmem, ⟨1, _⟩ => ⟨S512x4608, .fp8e4m3⟩
  | .local _ .vmem, ⟨2, _⟩ => ⟨S512x1, .f32⟩
  | .local _ .vmem, ⟨3, _⟩ => ⟨S512x1, .f32⟩
  | .local _ .vmem, ⟨4, _⟩ => ⟨S4608x512, .fp8e4m3⟩
  | .local _ .vmem, ⟨5, _⟩ => ⟨S4608x512, .fp8e4m3⟩
  | .local _ .vmem, ⟨6, _⟩ => ⟨S1x9216, .f32⟩
  | .local _ .vmem, ⟨7, _⟩ => ⟨S4608x512, .fp8e4m3⟩
  | .local _ .vmem, ⟨8, _⟩ => ⟨S4608x512, .fp8e4m3⟩
  | .local _ .vmem, ⟨9, _⟩ => ⟨S1x9216, .f32⟩
  | .local _ .vmem, ⟨10, _⟩ => ⟨S512x512, .fp8e4m3⟩
  | .local _ .vmem, ⟨11, _⟩ => ⟨S512x512, .fp8e4m3⟩
  | .local _ .vmem, ⟨12, _⟩ => ⟨S1x4x128, .f32⟩
  | .local _ .vmem, ⟨13, _⟩ => ⟨S1x4x128, .f32⟩
  | .local _ .vmem, ⟨14, _⟩ => ⟨S18x512x512, .f32⟩
  | .local _ .vmem, ⟨15, _⟩ => ⟨S512x128, .f32⟩
  | .local _ .vmem, ⟨16, _⟩ => ⟨S512x1, .f32⟩
  | _, _ => ⟨S15360x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![31, 18], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let c0_12 : Index := 0#32
  let arg1 : BitVec 32 := BitVec.ofNat 32 (i 1).val
  let c512_i32 : BitVec 32 := 512#32
  let v0 : BitVec 32 := Scalar.muli arg1 c512_i32
  let v1 : BitVec 32 := v0
  let v25 : Index := Scalar.indexCast v1
  ![0, v25.toNat]
def k0_off2 (i : grid0.Coords) : Fin 3 → Nat :=
  let arg1 : BitVec 32 := BitVec.ofNat 32 (i 1).val
  let v51 : Index := Scalar.indexCast arg1
  let c0_20 : Index := 0#32
  let c0_21 : Index := 0#32
  ![v51.toNat, 0, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let c30_i32 : BitVec 32 := 30#32
  let v6 : BitVec 1 := Scalar.cmpi .slt arg0 c30_i32
  let v7 : BitVec 1 := Scalar.andi v5 v6
  let v8 : BitVec 32 := Scalar.extui v7
  let c0_i32_2 : BitVec 32 := 0#32
  let v9 : BitVec 1 := Scalar.cmpi .ne v8 c0_i32_2
  v9

def k0_off3 (i : grid0.Coords) : Fin 3 → Nat :=
  let arg1 : BitVec 32 := BitVec.ofNat 32 (i 1).val
  let v18 : Index := Scalar.indexCast arg1
  let c0 : Index := 0#32
  let c0_7 : Index := 0#32
  ![v18.toNat, 0, 0]
def k0_off4 (i : grid0.Coords) : Fin 2 → Nat :=
  let c0_20 : Index := 0#32
  let arg1 : BitVec 32 := BitVec.ofNat 32 (i 1).val
  let c512_i32 : BitVec 32 := 512#32
  let v0 : BitVec 32 := Scalar.muli arg1 c512_i32
  let v1 : BitVec 32 := v0
  let v37 : Index := Scalar.indexCast v1
  ![0, v37.toNat]
def k0_cond3 (i : grid0.Coords) : BitVec 1 :=
  let arg0 : BitVec 32 := BitVec.ofNat 32 (i 0).val
  let c30_i32_3 : BitVec 32 := 30#32
  let v10 : BitVec 1 := Scalar.cmpi .eq arg0 c30_i32_3
  let v11 : BitVec 32 := Scalar.extui v10
  let c0_i32_4 : BitVec 32 := 0#32
  let v12 : BitVec 1 := Scalar.cmpi .ne v11 c0_i32_4
  v12

def k0_off5 (i : grid0.Coords) : Fin 3 → Nat :=
  let arg1 : BitVec 32 := BitVec.ofNat 32 (i 1).val
  let v18 : Index := Scalar.indexCast arg1
  let c0 : Index := 0#32
  let c0_7 : Index := 0#32
  ![v18.toNat, 0, 0]
def k0_cond4 (i : grid0.Coords) : BitVec 1 :=
  let arg1 : BitVec 32 := BitVec.ofNat 32 (i 1).val
  let c17_i32 : BitVec 32 := 17#32
  let v13 : BitVec 1 := Scalar.cmpi .eq arg1 c17_i32
  let arg0 : BitVec 32 := BitVec.ofNat 32 (i 0).val
  let c30_i32_5 : BitVec 32 := 30#32
  let v14 : BitVec 1 := Scalar.cmpi .slt arg0 c30_i32_5
  let v15 : BitVec 1 := Scalar.andi v13 v14
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 1 := Scalar.cmpi .slt arg0 c30_i32
  let c17_i32 : BitVec 32 := 17#32
  let v1 : BitVec 32 := Scalar.select v0 arg1 c17_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 1 := Scalar.cmpi .slt arg0 c30_i32
  let c17_i32 : BitVec 32 := 17#32
  let v1 : BitVec 32 := Scalar.select v0 arg1 c17_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_7 (i : grid0.Coords) : Fin 3 → Nat :=
  let arg0 : BitVec 32 := BitVec.ofNat 32 (i 0).val
  let arg1 : BitVec 32 := BitVec.ofNat 32 (i 1).val
  let c29_i32 : BitVec 32 := 29#32
  let v0 : BitVec 32 := Scalar.minsi arg0 c29_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S512x4608 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4608x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4608x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateUpIdeal.lean ====
variable {F : FTy → Type} [FloatOps F] [Named F]
def κ : String → Option EReal := fun
  | "gelu_c1" => some ((80338380498831 / 2251799813685248 : ℝ) : EReal)
  | _ => none
-- ==== GateUpRefIdeal.lean ====
abbrev S15360x4608 : Shape := ⟨2, ![15360, 4608]⟩
abbrev S15360 : Shape := ⟨1, ![15360]⟩
abbrev S4608x9216 : Shape := ⟨2, ![4608, 9216]⟩
abbrev S9216 : Shape := ⟨1, ![9216]⟩
abbrev S15360x1 : Shape := ⟨2, ![15360, 1]⟩
abbrev S1x9216 : Shape := ⟨2, ![1, 9216]⟩
abbrev S15360x9216 : Shape := ⟨2, ![15360, 9216]⟩
abbrev S30x4x128 : Shape := ⟨3, ![30, 4, 128]⟩

abbrev nBuf : Space → Nat
  | .hbm => 11
  | .vmem => 8
  | .smem => 0
  | _ => 0

abbrev bufTy : (tb : Table) → Fin (tcTables nBuf tb) → BufTy
  | .hbm, ⟨0, _⟩ => ⟨S15360x4608, .fp8e4m3⟩
  | .hbm, ⟨1, _⟩ => ⟨S15360, .f32⟩
  | .hbm, ⟨2, _⟩ => ⟨S4608x9216, .fp8e4m3⟩
  | .hbm, ⟨3, _⟩ => ⟨S9216, .f32⟩
  | .hbm, ⟨4, _⟩ => ⟨S4608x9216, .fp8e4m3⟩
  | .hbm, ⟨5, _⟩ => ⟨S9216, .f32⟩
  | .hbm, ⟨6, _⟩ => ⟨S15360x1, .f32⟩
  | .hbm, ⟨7, _⟩ => ⟨S1x9216, .f32⟩
  | .hbm, ⟨8, _⟩ => ⟨S1x9216, .f32⟩
  | .hbm, ⟨9, _⟩ => ⟨S15360x9216, .fp8e4m3⟩
  | .hbm, ⟨10, _⟩ => ⟨S30x4x128, .f32⟩
  | .local _ .vmem, ⟨0, _⟩ => ⟨S15360x4608, .fp8e4m3⟩
  | .local _ .vmem, ⟨1, _⟩ => ⟨S15360x1, .f32⟩
  | .local _ .vmem, ⟨2, _⟩ => ⟨S4608x9216, .fp8e4m3⟩
  | .local _ .vmem, ⟨3, _⟩ => ⟨S1x9216, .f32⟩
  | .local _ .vmem, ⟨4, _⟩ => ⟨S4608x9216, .fp8e4m3⟩
  | .local _ .vmem, ⟨5, _⟩ => ⟨S1x9216, .f32⟩
  | .local _ .vmem, ⟨6, _⟩ => ⟨S15360x9216, .fp8e4m3⟩
  | .local _ .vmem, ⟨7, _⟩ => ⟨S30x4x128, .f32⟩
  | _, _ => ⟨S15360x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S15360x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x9216 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x9216 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S15360x9216 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S30x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S15360x9216 : Shape := ⟨2, ![15360, 9216]⟩
abbrev S15360 : Shape := ⟨1, ![15360]⟩
abbrev S9216x4608 : Shape := ⟨2, ![9216, 4608]⟩
abbrev S4608 : Shape := ⟨1, ![4608]⟩
abbrev S15360x4608 : Shape := ⟨2, ![15360, 4608]⟩
abbrev S1x4608 : Shape := ⟨2, ![1, 4608]⟩
abbrev S15360x1 : Shape := ⟨2, ![15360, 1]⟩
abbrev S512x9216 : Shape := ⟨2, ![512, 9216]⟩
abbrev S512x1 : Shape := ⟨2, ![512, 1]⟩
abbrev S9216x512 : Shape := ⟨2, ![9216, 512]⟩
abbrev S512x512 : Shape := ⟨2, ![512, 512]⟩
abbrev S9x512x512 : Shape := ⟨3, ![9, 512, 512]⟩
abbrev S512x128 : Shape := ⟨2, ![512, 128]⟩
abbrev S1x512 : Shape := ⟨2, ![1, 512]⟩
abbrev S1x512x512 : Shape := ⟨3, ![1, 512, 512]⟩
abbrev S512 : Shape := ⟨1, ![512]⟩

abbrev nBuf : Space → Nat
  | .hbm => 10
  | .vmem => 15
  | .smem => 0
  | _ => 0

abbrev bufTy : (tb : Table) → Fin (tcTables nBuf tb) → BufTy
  | .hbm, ⟨0, _⟩ => ⟨S15360x9216, .fp8e4m3⟩
  | .hbm, ⟨1, _⟩ => ⟨S15360, .f32⟩
  | .hbm, ⟨2, _⟩ => ⟨S9216x4608, .fp8e4m3⟩
  | .hbm, ⟨3, _⟩ => ⟨S4608, .f32⟩
  | .hbm, ⟨4, _⟩ => ⟨S4608, .f32⟩
  | .hbm, ⟨5, _⟩ => ⟨S15360x4608, .f32⟩
  | .hbm, ⟨6, _⟩ => ⟨S1x4608, .f32⟩
  | .hbm, ⟨7, _⟩ => ⟨S1x4608, .f32⟩
  | .hbm, ⟨8, _⟩ => ⟨S15360x1, .f32⟩
  | .hbm, ⟨9, _⟩ => ⟨S15360x4608, .bf16⟩
  | .local _ .vmem, ⟨0, _⟩ => ⟨S512x9216, .fp8e4m3⟩
  | .local _ .vmem, ⟨1, _⟩ => ⟨S512x9216, .fp8e4m3⟩
  | .local _ .vmem, ⟨2, _⟩ => ⟨S512x1, .f32⟩
  | .local _ .vmem, ⟨3, _⟩ => ⟨S512x1, .f32⟩
  | .local _ .vmem, ⟨4, _⟩ => ⟨S9216x512, .fp8e4m3⟩
  | .local _ .vmem, ⟨5, _⟩ => ⟨S9216x512, .fp8e4m3⟩
  | .local _ .vmem, ⟨6, _⟩ => ⟨S1x4608, .f32⟩
  | .local _ .vmem, ⟨7, _⟩ => ⟨S1x4608, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S9x512x512, .f32⟩
  | .local _ .vmem, ⟨13, _⟩ => ⟨S512x128, .f32⟩
  | .local _ .vmem, ⟨14, _⟩ => ⟨S512x1, .f32⟩
  | _, _ => ⟨S15360x9216, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![31, 9], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let c0_10 : Index := 0#32
  let arg1 : BitVec 32 := BitVec.ofNat 32 (i 1).val
  let c512_i32 : BitVec 32 := 512#32
  let v0 : BitVec 32 := Scalar.muli arg1 c512_i32
  let v1 : BitVec 32 := v0
  let v21 : Index := Scalar.indexCast v1
  ![0, v21.toNat]
def k0_off2 (i : grid0.Coords) : Fin 3 → Nat :=
  let arg1 : BitVec 32 := BitVec.ofNat 32 (i 1).val
  let v26 : Index := Scalar.indexCast arg1
  let c0_11 : Index := 0#32
  let c0_12 : Index := 0#32
  ![v26.toNat, 0, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let c30_i32 : BitVec 32 := 30#32
  let v6 : BitVec 1 := Scalar.cmpi .slt arg0 c30_i32
  let v7 : BitVec 1 := Scalar.andi v5 v6
  let v8 : BitVec 32 := Scalar.extui v7
  let c0_i32_2 : BitVec 32 := 0#32
  let v9 : BitVec 1 := Scalar.cmpi .ne v8 c0_i32_2
  v9

def k0_off3 (i : grid0.Coords) : Fin 3 → Nat :=
  let arg1 : BitVec 32 := BitVec.ofNat 32 (i 1).val
  let v19 : Index := Scalar.indexCast arg1
  let c0_8 : Index := 0#32
  let c0_9 : Index := 0#32
  ![v19.toNat, 0, 0]
def k0_off4 (i : grid0.Coords) : Fin 2 → Nat :=
  let c0_12 : Index := 0#32
  let arg1 : BitVec 32 := BitVec.ofNat 32 (i 1).val
  let c512_i32 : BitVec 32 := 512#32
  let v0 : BitVec 32 := Scalar.muli arg1 c512_i32
  let v1 : BitVec 32 := v0
  let v25 : Index := Scalar.indexCast v1
  ![0, v25.toNat]
def k0_cond3 (i : grid0.Coords) : BitVec 1 :=
  let arg0 : BitVec 32 := BitVec.ofNat 32 (i 0).val
  let c30_i32_3 : BitVec 32 := 30#32
  let v10 : BitVec 1 := Scalar.cmpi .eq arg0 c30_i32_3
  let v11 : BitVec 32 := Scalar.extui v10
  let c0_i32_4 : BitVec 32 := 0#32
  let v12 : BitVec 1 := Scalar.cmpi .ne v11 c0_i32_4
  v12

def k0_off5 (i : grid0.Coords) : Fin 3 → Nat :=
  let arg1 : BitVec 32 := BitVec.ofNat 32 (i 1).val
  let v19 : Index := Scalar.indexCast arg1
  let c0_8 : Index := 0#32
  let c0_9 : Index := 0#32
  ![v19.toNat, 0, 0]
def k0_off6 (i : grid0.Coords) : Fin 2 → Nat :=
  let c0_12 : Index := 0#32
  let arg1 : BitVec 32 := BitVec.ofNat 32 (i 1).val
  let c512_i32 : BitVec 32 := 512#32
  let v0 : BitVec 32 := Scalar.muli arg1 c512_i32
  let v1 : BitVec 32 := v0
  let v25 : Index := Scalar.indexCast v1
  ![0, v25.toNat]
def cc0_transform_0 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 1 := Scalar.cmpi .slt arg0 c30_i32
  let c8_i32 : BitVec 32 := 8#32
  let v1 : BitVec 32 := Scalar.select v0 arg1 c8_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

abbrev stage0_0 : Fin 2 → Memref sig .tc .vmem S512x9216 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S9216x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownRefIdeal.lean ====
abbrev S15360x9216 : Shape := ⟨2, ![15360, 9216]⟩
abbrev S15360 : Shape := ⟨1, ![15360]⟩
abbrev S9216x4608 : Shape := ⟨2, ![9216, 4608]⟩
abbrev S4608 : Shape := ⟨1, ![4608]⟩
abbrev S15360x4608 : Shape := ⟨2, ![15360, 4608]⟩
abbrev S15360x1 : Shape := ⟨2, ![15360, 1]⟩
abbrev S1x4608 : Shape := ⟨2, ![1, 4608]⟩

abbrev nBuf : Space → Nat
  | .hbm => 10
  | .vmem => 7
  | .smem => 0
  | _ => 0

abbrev bufTy : (tb : Table) → Fin (tcTables nBuf tb) → BufTy
  | .hbm, ⟨0, _⟩ => ⟨S15360x9216, .fp8e4m3⟩
  | .hbm, ⟨1, _⟩ => ⟨S15360, .f32⟩
  | .hbm, ⟨2, _⟩ => ⟨S9216x4608, .fp8e4m3⟩
  | .hbm, ⟨3, _⟩ => ⟨S4608, .f32⟩
  | .hbm, ⟨4, _⟩ => ⟨S4608, .f32⟩
  | .hbm, ⟨5, _⟩ => ⟨S15360x4608, .f32⟩
  | .hbm, ⟨6, _⟩ => ⟨S15360x1, .f32⟩
  | .hbm, ⟨7, _⟩ => ⟨S1x4608, .f32⟩
  | .hbm, ⟨8, _⟩ => ⟨S1x4608, .f32⟩
  | .hbm, ⟨9, _⟩ => ⟨S15360x4608, .bf16⟩
  | .local _ .vmem, ⟨0, _⟩ => ⟨S15360x9216, .fp8e4m3⟩
  | .local _ .vmem, ⟨1, _⟩ => ⟨S15360x1, .f32⟩
  | .local _ .vmem, ⟨2, _⟩ => ⟨S9216x4608, .fp8e4m3⟩
  | .local _ .vmem, ⟨3, _⟩ => ⟨S1x4608, .f32⟩
  | .local _ .vmem, ⟨4, _⟩ => ⟨S1x4608, .f32⟩
  | .local _ .vmem, ⟨5, _⟩ => ⟨S15360x4608, .f32⟩
  | .local _ .vmem, ⟨6, _⟩ => ⟨S15360x4608, .bf16⟩
  | _, _ => ⟨S15360x9216, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S15360x9216 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S15360x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S15360x4608 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== OProj.lean ====
abbrev S15360x4608 : Shape := ⟨2, ![15360, 4608]⟩
abbrev S15360x1024 : Shape := ⟨2, ![15360, 1024]⟩
abbrev S15360 : Shape := ⟨1, ![15360]⟩
abbrev S1024x4608 : Shape := ⟨2, ![1024, 4608]⟩
abbrev S4608 : Shape := ⟨1, ![4608]⟩
abbrev S1x4608 : Shape := ⟨2, ![1, 4608]⟩
abbrev S60x2x128 : Shape := ⟨3, ![60, 2, 128]⟩
abbrev S256x4608 : Shape := ⟨2, ![256, 4608]⟩
abbrev S256x1024 : Shape := ⟨2, ![256, 1024]⟩
abbrev S1x2x128 : Shape := ⟨3, ![1, 2, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩
abbrev S256x1 : Shape := ⟨2, ![256, 1]⟩
abbrev S256x128 : Shape := ⟨2, ![256, 128]⟩
abbrev S1024x512 : Shape := ⟨2, ![1024, 512]⟩
abbrev S256x512 : Shape := ⟨2, ![256, 512]⟩
abbrev S1x512 : Shape := ⟨2, ![1, 512]⟩
abbrev S256 : Shape := ⟨1, ![256]⟩

abbrev nBuf : Space → Nat
  | .hbm => 14
  | .vmem => 16
  | .smem => 0
  | _ => 0

abbrev bufTy : (tb : Table) → Fin (tcTables nBuf tb) → BufTy
  | .hbm, ⟨0, _⟩ => ⟨S15360x4608, .bf16⟩
  | .hbm, ⟨1, _⟩ => ⟨S15360x1024, .fp8e4m3⟩
  | .hbm, ⟨2, _⟩ => ⟨S15360, .f32⟩
  | .hbm, ⟨3, _⟩ => ⟨S1024x4608, .fp8e4m3⟩
  | .hbm, ⟨4, _⟩ => ⟨S4608, .f32⟩
  | .hbm, ⟨5, _⟩ => ⟨S4608, .f32⟩
  | .hbm, ⟨6, _⟩ => ⟨S4608, .f32⟩
  | .hbm, ⟨7, _⟩ => ⟨S1x4608, .f32⟩
  | .hbm, ⟨8, _⟩ => ⟨S1x4608, .f32⟩
  | .hbm, ⟨9, _⟩ => ⟨S1x4608, .f32⟩
  | .hbm, ⟨10, _⟩ => ⟨S60x2x128, .f32⟩
  | .hbm, ⟨11, _⟩ => ⟨S15360x4608, .f32⟩
  | .hbm, ⟨12, _⟩ => ⟨S15360x4608, .fp8e4m3⟩
  | .hbm, ⟨13, _⟩ => ⟨S60x2x128, .f32⟩
  | .local _ .vmem, ⟨0, _⟩ => ⟨S256x4608, .bf16⟩
  | .local _ .vmem, ⟨1, _⟩ => ⟨S256x4608, .bf16⟩
  | .local _ .vmem, ⟨2, _⟩ => ⟨S256x1024, .fp8e4m3⟩
  | .local _ .vmem, ⟨3, _⟩ => ⟨S256x1024, .fp8e4m3⟩
  | .local _ .vmem, ⟨4, _⟩ => ⟨S1x2x128, .f32⟩
  | .local _ .vmem, ⟨5, _⟩ => ⟨S1x2x128, .f32⟩
  | .local _ .vmem, ⟨6, _⟩ => ⟨S1024x4608, .fp8e4m3⟩
  | .local _ .vmem, ⟨7, _⟩ => ⟨S1x4608, .f32⟩
  | .local _ .vmem, ⟨8, _⟩ => ⟨S1x4608, .f32⟩
  | .local _ .vmem, ⟨9, _⟩ => ⟨S1x4608, .f32⟩
  | .local _ .vmem, ⟨10, _⟩ => ⟨S256x4608, .f32⟩
  | .local _ .vmem, ⟨11, _⟩ => ⟨S256x4608, .f32⟩
  | .local _ .vmem, ⟨12, _⟩ => ⟨S256x4608, .fp8e4m3⟩
  | .local _ .vmem, ⟨13, _⟩ => ⟨S256x4608, .fp8e4m3⟩
  | .local _ .vmem, ⟨14, _⟩ => ⟨S1x2x128, .f32⟩
  | .local _ .vmem, ⟨15, _⟩ => ⟨S1x2x128, .f32⟩
  | _, _ => ⟨S15360x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4608 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4608 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4608 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OProjRefIdeal.lean ====
abbrev S15360x4608 : Shape := ⟨2, ![15360, 4608]⟩
abbrev S15360x1024 : Shape := ⟨2, ![15360, 1024]⟩
abbrev S15360 : Shape := ⟨1, ![15360]⟩
abbrev S1024x4608 : Shape := ⟨2, ![1024, 4608]⟩
abbrev S4608 : Shape := ⟨1, ![4608]⟩
abbrev S15360x1 : Shape := ⟨2, ![15360, 1]⟩
abbrev S1x4608 : Shape := ⟨2, ![1, 4608]⟩
abbrev S60x2x128 : Shape := ⟨3, ![60, 2, 128]⟩

abbrev nBuf : Space → Nat
  | .hbm => 14
  | .vmem => 10
  | .smem => 0
  | _ => 0

abbrev bufTy : (tb : Table) → Fin (tcTables nBuf tb) → BufTy
  | .hbm, ⟨0, _⟩ => ⟨S15360x4608, .bf16⟩
  | .hbm, ⟨1, _⟩ => ⟨S15360x1024, .fp8e4m3⟩
  | .hbm, ⟨2, _⟩ => ⟨S15360, .f32⟩
  | .hbm, ⟨3, _⟩ => ⟨S1024x4608, .fp8e4m3⟩
  | .hbm, ⟨4, _⟩ => ⟨S4608, .f32⟩
  | .hbm, ⟨5, _⟩ => ⟨S4608, .f32⟩
  | .hbm, ⟨6, _⟩ => ⟨S4608, .f32⟩
  | .hbm, ⟨7, _⟩ => ⟨S15360x1, .f32⟩
  | .hbm, ⟨8, _⟩ => ⟨S1x4608, .f32⟩
  | .hbm, ⟨9, _⟩ => ⟨S1x4608, .f32⟩
  | .hbm, ⟨10, _⟩ => ⟨S1x4608, .f32⟩
  | .hbm, ⟨11, _⟩ => ⟨S15360x4608, .f32⟩
  | .hbm, ⟨12, _⟩ => ⟨S15360x4608, .fp8e4m3⟩
  | .hbm, ⟨13, _⟩ => ⟨S60x2x128, .f32⟩
  | .local _ .vmem, ⟨0, _⟩ => ⟨S15360x4608, .bf16⟩
  | .local _ .vmem, ⟨1, _⟩ => ⟨S15360x1024, .fp8e4m3⟩
  | .local _ .vmem, ⟨2, _⟩ => ⟨S15360x1, .f32⟩
  | .local _ .vmem, ⟨3, _⟩ => ⟨S1024x4608, .fp8e4m3⟩
  | .local _ .vmem, ⟨4, _⟩ => ⟨S1x4608, .f32⟩
  | .local _ .vmem, ⟨5, _⟩ => ⟨S1x4608, .f32⟩
  | .local _ .vmem, ⟨6, _⟩ => ⟨S1x4608, .f32⟩
  | .local _ .vmem, ⟨7, _⟩ => ⟨S15360x4608, .f32⟩
  | .local _ .vmem, ⟨8, _⟩ => ⟨S15360x4608, .fp8e4m3⟩
  | .local _ .vmem, ⟨9, _⟩ => ⟨S60x2x128, .f32⟩
  | _, _ => ⟨S15360x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S15360x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x4608 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S15360x4608 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S15360x4608 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S60x2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.GateUpBody.lean ====
/- The body of the gate/up kernel at each kind of grid point. -/
module

public import proofs.«01_k».proof.Proof.Gen.GateUp.Skeleton
public import proofs.«01_k».proof.Proof.Gen.GateUp.Frame
public import Idealize.ShloMosaic.Lib.VecWindow

@[expose] public section

set_option maxRecDepth 16384

noncomputable section

namespace Cert.GateUp.Hand

open Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point does to the values held -/

theorem inb_cols (i : grid0.Coords) : ∀ a, (![0, 512 * (i 1).val] : Fin 2 → ℕ) a + S1x512.size a ≤ S1x9216.size a := by
  have h : (i 1).val < 18 := (i 1).isLt
  intro a; match a with
  | ⟨0, _⟩ => exact Nat.le_refl 1
  | ⟨1, _⟩ => show 512 * (i 1).val + 512 ≤ 9216; omega

theorem inb_slice (i : grid0.Coords) : ∀ a, (![(i 1).val, 0, 0] : Fin 3 → ℕ) a + S1x512x512.size a ≤ S18x512x512.size a := by
  have h : (i 1).val < 18 := (i 1).isLt
  intro a; match a with
  | ⟨0, _⟩ => show (i 1).val + 1 ≤ 18; omega
  | ⟨1, _⟩ => exact Nat.le_refl 512
  | ⟨2, _⟩ => exact Nat.le_refl 512

/-- The point's 512 columns of a row vector. -/
def cols (i : grid0.Coords) (x : S1x9216.Idx → Elt F .f32) : Vec F S1x512 .f32 :=
  VecWindow.window x ![0, 512 * (i 1).val] S1x512.size (inb_cols i)

/-- The point's slice of the strip. -/
def slice (i : grid0.Coords) (x : S18x512x512.Idx → Elt F .f32) : Vec F S1x512x512 .f32 :=
  VecWindow.window x ![(i 1).val, 0, 0] S1x512x512.size (inb_slice i)

/-- The activation block of the point, as the strip keeps it. -/
def blockY (i : grid0.Coords) (x2 : S512x4608.Idx → Elt F .fp8e4m3) (x3 : S512x1.Idx → Elt F .f32) (x4 : S4608x512.Idx → Elt F .fp8e4m3) (x5 : S1x9216.Idx → Elt F .f32)
    (x6 : S4608x512.Idx → Elt F .fp8e4m3) (x7 : S1x9216.Idx → Elt F .f32) : Vec F S1x512x512 .f32 :=
  k0_pay9 x2 x3 x4 (cols i x5) x6 (cols i x7)

/-- The strip after a point that stores its activation block. -/
def next10 (i : grid0.Coords) (x2 : S512x4608.Idx → Elt F .fp8e4m3) (x3 : S512x1.Idx → Elt F .f32) (x4 : S4608x512.Idx → Elt F .fp8e4m3) (x5 : S1x9216.Idx → Elt F .f32)
    (x6 : S4608x512.Idx → Elt F .fp8e4m3) (x7 : S1x9216.Idx → Elt F .f32)
    (x10 : S18x512x512.Idx → Elt F .f32) : S18x512x512.Idx → Elt F .f32 :=
  VecWindow.put x10 ![(i 1).val, 0, 0] S1x512x512.size (blockY i x2 x3 x4 x5 x6 x7)

/-- The running maxima of magnitudes, from the point's own columns of the two weight scales. -/
def runMax (i : grid0.Coords) (a : Vec F S512x4608 .fp8e4m3) (b : Vec F S512x1 .f32) (d : Vec F S4608x512 .fp8e4m3) (e : Vec F S1x512 .f32)
    (f : Vec F S4608x512 .fp8e4m3) (g : Vec F S1x512 .f32) (x11 : Vec F S512x128 .f32) : FVec F S512x128 .f32 :=
  k0_pay1 i (k0_pay11 a b d e f g) (k0_pay12 a b d e f g) (k0_pay13 a b d e f g) (k0_pay14 a b d e f g) x11

/-- The running maxima of magnitudes after a point that takes its activation block in. -/
def next11 (i : grid0.Coords) (x2 : S512x4608.Idx → Elt F .fp8e4m3) (x3 : S512x1.Idx → Elt F .f32) (x4 : S4608x512.Idx → Elt F .fp8e4m3) (x5 : S1x9216.Idx → Elt F .f32)
    (x6 : S4608x512.Idx → Elt F .fp8e4m3) (x7 : S1x9216.Idx → Elt F .f32)
    (x11 : S512x128.Idx → Elt F .f32) : S512x128.Idx → Elt F .f32 :=
  runMax i x2 x3 x4 (cols i x5) x6 (cols i x7) x11

/-- The scale block after the row block's last point: four runs of 128 tokens' scales, written one after the other. -/
def scales (x9 : S1x4x128.Idx → Elt F .f32) (x11 : S512x128.Idx → Elt F .f32) : S1x4x128.Idx → Elt F .f32 :=
  VecWindow.put (VecWindow.put (VecWindow.put (VecWindow.put x9 ![0, 0, 0] S1x1x128.size (k0_pay25 x11)) ![0, 1, 0] S1x1x128.size (k0_pay26 x11))
    ![0, 2, 0] S1x1x128.size (k0_pay6 k0_pay24 (k0_pay27 x11))) ![0, 3, 0] S1x1x128.size (k0_pay7 (k0_pay22 x11) k0_pay24)

/-- The four stores of the scale block, read back. -/
theorem read_scales {sp : Space} (v : View sig .tc sp S1x4x128 .f32) (f : v.ty.Contents (Elt F))
    (h0 : ∀ a, (![0, 0, 0] : Fin 3 → ℕ) a + S1x1x128.size a ≤ S1x4x128.size a) (h1 : ∀ a, (![0, 1, 0] : Fin 3 → ℕ) a + S1x1x128.size a ≤ S1x4x128.size a)
    (h2 : ∀ a, (![0, 2, 0] : Fin 3 → ℕ) a + S1x1x128.size a ≤ S1x4x128.size a) (h3 : ∀ a, (![0, 3, 0] : Fin 3 → ℕ) a + S1x1x128.size a ≤ S1x4x128.size a)
    (y : S512x128.Idx → Elt F .f32) :
    v.read (Elt F) (v.writes (Elt F) f [⟨Rect.unit ![0, 3, 0] S1x1x128.size h3, k0_pay7 (k0_pay22 y) k0_pay24⟩,
      ⟨Rect.unit ![0, 2, 0] S1x1x128.size h2, k0_pay6 k0_pay24 (k0_pay27 y)⟩, ⟨Rect.unit ![0, 1, 0] S1x1x128.size h1, k0_pay26 y⟩,
      ⟨Rect.unit ![0, 0, 0] S1x1x128.size h0, k0_pay25 y⟩]) = scales (v.read (Elt F) f) y := by
  rw [View.read_writes_cons_put v f h3 _ _ rfl, View.read_writes_cons_put v f h2 _ _ rfl, View.read_writes_cons_put v f h1 _ _ rfl,
    View.read_writes_cons_put v f h0 _ _ rfl, View.writes_nil]
  rfl

section
variable (i : grid0.Coords) (a : Vec F S512x4608 .fp8e4m3) (b : Vec F S512x1 .f32) (d : Vec F S4608x512 .fp8e4m3) (e : Vec F S1x512 .f32)
    (f : Vec F S4608x512 .fp8e4m3) (g : Vec F S1x512 .f32) (x : Vec F S512x128 .f32)

/-- The middle rows' activation block is computed as the first row's, -/
theorem k0_pay3_eq : k0_pay3 (k0_pay17 a b d e) (k0_pay18 a b f g) (k0_pay19 a b d e) (k0_pay20 a b d e) (k0_pay21 (F := F)) = k0_pay9 a b d e f g := rfl

/-- and so are their running maxima. -/
theorem k0_pay4_eq : k0_pay4 i (k0_pay17 a b d e) (k0_pay18 a b f g) (k0_pay19 a b d e) (k0_pay20 a b d e) (k0_pay21 (F := F)) x = runMax i a b d e f g x := rfl

end

variable (c : Dev nD) (i : grid0.Coords)
    (arg2 : Memref sig .tc .vmem S512x4608 .fp8e4m3) (harg2 : arg2.IsWhole)
    (arg3 : Memref sig .tc .vmem S512x1 .f32) (harg3 : arg3.IsWhole)
    (arg4 : Memref sig .tc .vmem S4608x512 .fp8e4m3) (harg4 : arg4.IsWhole)
    (arg5 : Memref sig .tc .vmem S1x9216 .f32) (harg5 : arg5.IsWhole)
    (arg6 : Memref sig .tc .vmem S4608x512 .fp8e4m3) (harg6 : arg6.IsWhole)
    (arg7 : Memref sig .tc .vmem S1x9216 .f32) (harg7 : arg7.IsWhole)
    (arg8 : Memref sig .tc .vmem S512x512 .fp8e4m3) (harg8 : arg8.IsWhole)
    (arg9 : Memref sig .tc .vmem S1x4x128 .f32) (harg9 : arg9.IsWhole)
    (arg10 : Memref sig .tc .vmem S18x512x512 .f32) (harg10 : arg10.IsWhole)
    (arg11 : Memref sig .tc .vmem S512x128 .f32) (harg11 : arg11.IsWhole)
    (arg12 : Memref sig .tc .vmem S512x1 .f32) (harg12 : arg12.IsWhole)
    (x2 : S512x4608.Idx → Elt F .fp8e4m3)
    (x3 : S512x1.Idx → Elt F .f32)
    (x4 : S4608x512.Idx → Elt F .fp8e4m3)
    (x5 : S1x9216.Idx → Elt F .f32)
    (x6 : S4608x512.Idx → Elt F .fp8e4m3)
    (x7 : S1x9216.Idx → Elt F .f32)
    (x8 : S512x512.Idx → Elt F .fp8e4m3)
    (x9 : S1x4x128.Idx → Elt F .f32)
    (x10 : S18x512x512.Idx → Elt F .f32)
    (x11 : S512x128.Idx → Elt F .f32)
    (x12 : S512x1.Idx → Elt F .f32)

/-- The eleven buffers of the body, each held whole at the values named. -/
def held : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12)

set_option maxHeartbeats 1000000 in
/-- A point of the first row before its last block: the activation block and its maxima are stored. -/
theorem body_first (hc1 : k0_cond1 i = 1#1) (hc2 : ¬ k0_cond2 i = 1#1) (hc3 : ¬ k0_cond3 i = 1#1) (hc4 : ¬ k0_cond4 i = 1#1) (E : Set ℕ) (K : PUnit → sProp 𝕄) :
    iprop(held c arg2 arg3 arg4 arg5 arg6 arg7 arg8 arg9 arg10 arg11 arg12 x2 x3 x4 x5 x6 x7 x8 x9 x10 x11 x12 ∗ (held c arg2 arg3 arg4 arg5 arg6 arg7 arg8 arg9 arg10 arg11 arg12 x2 x3 x4 x5 x6 x7 x8 x9 (next10 i x2 x3 x4 x5 x6 x7 x10) (next11 i x2 x3 x4 x5 x6 x7 x11) x12 -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K := by
  simp only [cc0_gateup_eq_skeleton]
  unfold cc0_gateup_skel
  simp only [k0_part1_eq_skeleton, k0_part2_eq_skeleton, k0_part3_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact harg8.read_unread x8
  isplitl [H9]
  · iexists _; isplitr; swap; iexact H9; ipureintro
    exact harg9.read_unread x9
  isplitl [H10]
  · iexists _; isplitr; swap; iexact H10; ipureintro
    refine (View.read_writes_cons_put arg10.view _ _ _ _ (k0_off2_eq i)).trans ?_
    rw [View.writes_nil, harg10.read_unread]
    exact congrArg (VecWindow.put x10 _ _) ((congr (congr (congr (congr (congr (congrArg k0_pay9 ((View.readAt_full arg2.view _ _).trans (harg2.read_unread x2))) ((View.readAt_full arg3.view _ _).trans (harg3.read_unread x3))) ((View.readAt_full arg4.view _ _).trans (harg4.read_unread x4))) ((View.readAt_unit arg5.view _ _ (k0_off1_eq i) (inb_cols i)).trans (congrArg (cols i) (harg5.read_unread x5)))) ((View.readAt_full arg6.view _ _).trans (harg6.read_unread x6))) ((View.readAt_unit arg7.view _ _ (k0_off1_eq i) (inb_cols i)).trans (congrArg (cols i) (harg7.read_unread x7)))))
  isplitl [H11]
  · iexists _; isplitr; swap; iexact H11; ipureintro
    exact ((View.read_writes_full arg11.view _ _ _ _).trans ((congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off1_eq i) (inb_cols i)).trans (congrArg (cols i) (harg5.read_unread x5)))) ((View.readAt_full arg6.view _ _).trans (harg6.read_unread x6))) ((View.readAt_unit arg7.view _ _ (k0_off1_eq i) (inb_cols i)).trans (congrArg (cols i) (harg7.read_unread x7)))) ((View.readAt_full arg11.view _ _).trans (harg11.read_unread x11)))))
  iexists _; isplitr; swap; iexact H12; ipureintro
  exact harg12.read_unread x12

set_option maxHeartbeats 1000000 in
/-- The last point of the first row: the scales and their reciprocals are stored too. -/
theorem body_first_last (hc1 : k0_cond1 i = 1#1) (hc2 : ¬ k0_cond2 i = 1#1) (hc3 : ¬ k0_cond3 i = 1#1) (hc4 : k0_cond4 i = 1#1) (E : Set ℕ) (K : PUnit → sProp 𝕄) :
    iprop(held c arg2 arg3 arg4 arg5 arg6 arg7 arg8 arg9 arg10 arg11 arg12 x2 x3 x4 x5 x6 x7 x8 x9 x10 x11 x12 ∗ (held c arg2 arg3 arg4 arg5 arg6 arg7 arg8 arg9 arg10 arg11 arg12 x2 x3 x4 x5 x6 x7 x8 (scales x9 (next11 i x2 x3 x4 x5 x6 x7 x11)) (next10 i x2 x3 x4 x5 x6 x7 x10) (next11 i x2 x3 x4 x5 x6 x7 x11) (k0_pay23 (next11 i x2 x3 x4 x5 x6 x7 x11)) -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K := by
  simp only [cc0_gateup_eq_skeleton]
  unfold cc0_gateup_skel
  simp only [k0_part1_eq_skeleton, k0_part2_eq_skeleton, k0_part3_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact harg8.read_unread x8
  isplitl [H9]
  · iexists _; isplitr; swap; iexact H9; ipureintro
    refine (read_scales arg9.view _ _ _ _ _ _).trans ?_
    rw [harg9.read_unread]
    refine congrArg (scales x9) ((View.readAt_full arg11.view _ _).trans ?_)
    exact ((View.read_writes_full arg11.view _ _ _ _).trans ((congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off1_eq i) (inb_cols i)).trans (congrArg (cols i) (harg5.read_unread x5)))) ((View.readAt_full arg6.view _ _).trans (harg6.read_unread x6))) ((View.readAt_unit arg7.view _ _ (k0_off1_eq i) (inb_cols i)).trans (congrArg (cols i) (harg7.read_unread x7)))) ((View.readAt_full arg11.view _ _).trans (harg11.read_unread x11)))))
  isplitl [H10]
  · iexists _; isplitr; swap; iexact H10; ipureintro
    refine (View.read_writes_cons_put arg10.view _ _ _ _ (k0_off2_eq i)).trans ?_
    rw [View.writes_nil, harg10.read_unread]
    exact congrArg (VecWindow.put x10 _ _) ((congr (congr (congr (congr (congr (congrArg k0_pay9 ((View.readAt_full arg2.view _ _).trans (harg2.read_unread x2))) ((View.readAt_full arg3.view _ _).trans (harg3.read_unread x3))) ((View.readAt_full arg4.view _ _).trans (harg4.read_unread x4))) ((View.readAt_unit arg5.view _ _ (k0_off1_eq i) (inb_cols i)).trans (congrArg (cols i) (harg5.read_unread x5)))) ((View.readAt_full arg6.view _ _).trans (harg6.read_unread x6))) ((View.readAt_unit arg7.view _ _ (k0_off1_eq i) (inb_cols i)).trans (congrArg (cols i) (harg7.read_unread x7)))))
  isplitl [H11]
  · iexists _; isplitr; swap; iexact H11; ipureintro
    exact ((View.read_writes_full arg11.view _ _ _ _).trans ((congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off1_eq i) (inb_cols i)).trans (congrArg (cols i) (harg5.read_unread x5)))) ((View.readAt_full arg6.view _ _).trans (harg6.read_unread x6))) ((View.readAt_unit arg7.view _ _ (k0_off1_eq i) (inb_cols i)).trans (congrArg (cols i) (harg7.read_unread x7)))) ((View.readAt_full arg11.view _ _).trans (harg11.read_unread x11)))))
  iexists _; isplitr; swap; iexact H12; ipureintro
  refine (View.read_writes_full arg12.view _ _ _ _).trans (congrArg k0_pay23 ((View.readAt_full arg11.view _ _).trans ?_))
  exact ((View.read_writes_full arg11.view _ _ _ _).trans ((congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off1_eq i) (inb_cols i)).trans (congrArg (cols i) (harg5.read_unread x5)))) ((View.readAt_full arg6.view _ _).trans (harg6.read_unread x6))) ((View.readAt_unit arg7.view _ _ (k0_off1_eq i) (inb_cols i)).trans (congrArg (cols i) (harg7.read_unread x7)))) ((View.readAt_full arg11.view _ _).trans (harg11.read_unread x11)))))

set_option maxHeartbeats 1000000 in
/-- A point of a middle row before its last block: the previous row's codes are stored, then this row's activation block and maxima. -/
theorem body_mid (hc1 : ¬ k0_cond1 i = 1#1) (hc2 : k0_cond2 i = 1#1) (hc3 : ¬ k0_cond3 i = 1#1) (hc4 : ¬ k0_cond4 i = 1#1) (E : Set ℕ) (K : PUnit → sProp 𝕄) :
    iprop(held c arg2 arg3 arg4 arg5 arg6 arg7 arg8 arg9 arg10 arg11 arg12 x2 x3 x4 x5 x6 x7 x8 x9 x10 x11 x12 ∗ (held c arg2 arg3 arg4 arg5 arg6 arg7 arg8 arg9 arg10 arg11 arg12 x2 x3 x4 x5 x6 x7 (k0_pay15 (slice i x10) x12) x9 (next10 i x2 x3 x4 x5 x6 x7 x10) (next11 i x2 x3 x4 x5 x6 x7 x11) x12 -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K := by
  simp only [cc0_gateup_eq_skeleton]
  unfold cc0_gateup_skel
  simp only [k0_part1_eq_skeleton, k0_part2_eq_skeleton, k0_part3_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact (View.read_writes_full arg8.view _ _ _ _).trans (congr (congrArg k0_pay15 ((View.readAt_unit arg10.view _ _ (k0_off3_eq i) (inb_slice i)).trans (congrArg (slice i) (harg10.read_unread x10)))) ((View.readAt_full arg12.view _ _).trans (harg12.read_unread x12)))
  isplitl [H9]
  · iexists _; isplitr; swap; iexact H9; ipureintro
    exact harg9.read_unread x9
  isplitl [H10]
  · iexists _; isplitr; swap; iexact H10; ipureintro
    refine (View.read_writes_cons_put arg10.view _ _ _ _ (k0_off3_eq i)).trans ?_
    rw [View.writes_nil, harg10.read_unread]
    exact congrArg (VecWindow.put x10 _ _) ((k0_pay3_eq _ _ _ _ _ _).trans (congr (congr (congr (congr (congr (congrArg k0_pay9 ((View.readAt_full arg2.view _ _).trans (harg2.read_unread x2))) ((View.readAt_full arg3.view _ _).trans (harg3.read_unread x3))) ((View.readAt_full arg4.view _ _).trans (harg4.read_unread x4))) ((View.readAt_unit arg5.view _ _ (k0_off4_eq i) (inb_cols i)).trans (congrArg (cols i) (harg5.read_unread x5)))) ((View.readAt_full arg6.view _ _).trans (harg6.read_unread x6))) ((View.readAt_unit arg7.view _ _ (k0_off4_eq i) (inb_cols i)).trans (congrArg (cols i) (harg7.read_unread x7)))))
  isplitl [H11]
  · iexists _; isplitr; swap; iexact H11; ipureintro
    exact ((View.read_writes_full arg11.view _ _ _ _).trans ((k0_pay4_eq i _ _ _ _ _ _ _).trans (congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off4_eq i) (inb_cols i)).trans (congrArg (cols i) (harg5.read_unread x5)))) ((View.readAt_full arg6.view _ _).trans (harg6.read_unread x6))) ((View.readAt_unit arg7.view _ _ (k0_off4_eq i) (inb_cols i)).trans (congrArg (cols i) (harg7.read_unread x7)))) ((View.readAt_full arg11.view _ _).trans (harg11.read_unread x11)))))
  iexists _; isplitr; swap; iexact H12; ipureintro
  exact harg12.read_unread x12

set_option maxHeartbeats 1000000 in
/-- The last point of a middle row. -/
theorem body_mid_last (hc1 : ¬ k0_cond1 i = 1#1) (hc2 : k0_cond2 i = 1#1) (hc3 : ¬ k0_cond3 i = 1#1) (hc4 : k0_cond4 i = 1#1) (E : Set ℕ) (K : PUnit → sProp 𝕄) :
    iprop(held c arg2 arg3 arg4 arg5 arg6 arg7 arg8 arg9 arg10 arg11 arg12 x2 x3 x4 x5 x6 x7 x8 x9 x10 x11 x12 ∗ (held c arg2 arg3 arg4 arg5 arg6 arg7 arg8 arg9 arg10 arg11 arg12 x2 x3 x4 x5 x6 x7 (k0_pay15 (slice i x10) x12) (scales x9 (next11 i x2 x3 x4 x5 x6 x7 x11)) (next10 i x2 x3 x4 x5 x6 x7 x10) (next11 i x2 x3 x4 x5 x6 x7 x11) (k0_pay23 (next11 i x2 x3 x4 x5 x6 x7 x11)) -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K := by
  simp only [cc0_gateup_eq_skeleton]
  unfold cc0_gateup_skel
  simp only [k0_part1_eq_skeleton, k0_part2_eq_skeleton, k0_part3_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact (View.read_writes_full arg8.view _ _ _ _).trans (congr (congrArg k0_pay15 ((View.readAt_unit arg10.view _ _ (k0_off3_eq i) (inb_slice i)).trans (congrArg (slice i) (harg10.read_unread x10)))) ((View.readAt_full arg12.view _ _).trans (harg12.read_unread x12)))
  isplitl [H9]
  · iexists _; isplitr; swap; iexact H9; ipureintro
    refine (read_scales arg9.view _ _ _ _ _ _).trans ?_
    rw [harg9.read_unread]
    refine congrArg (scales x9) ((View.readAt_full arg11.view _ _).trans ?_)
    exact ((View.read_writes_full arg11.view _ _ _ _).trans ((k0_pay4_eq i _ _ _ _ _ _ _).trans (congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off4_eq i) (inb_cols i)).trans (congrArg (cols i) (harg5.read_unread x5)))) ((View.readAt_full arg6.view _ _).trans (harg6.read_unread x6))) ((View.readAt_unit arg7.view _ _ (k0_off4_eq i) (inb_cols i)).trans (congrArg (cols i) (harg7.read_unread x7)))) ((View.readAt_full arg11.view _ _).trans (harg11.read_unread x11)))))
  isplitl [H10]
  · iexists _; isplitr; swap; iexact H10; ipureintro
    refine (View.read_writes_cons_put arg10.view _ _ _ _ (k0_off3_eq i)).trans ?_
    rw [View.writes_nil, harg10.read_unread]
    exact congrArg (VecWindow.put x10 _ _) ((k0_pay3_eq _ _ _ _ _ _).trans (congr (congr (congr (congr (congr (congrArg k0_pay9 ((View.readAt_full arg2.view _ _).trans (harg2.read_unread x2))) ((View.readAt_full arg3.view _ _).trans (harg3.read_unread x3))) ((View.readAt_full arg4.view _ _).trans (harg4.read_unread x4))) ((View.readAt_unit arg5.view _ _ (k0_off4_eq i) (inb_cols i)).trans (congrArg (cols i) (harg5.read_unread x5)))) ((View.readAt_full arg6.view _ _).trans (harg6.read_unread x6))) ((View.readAt_unit arg7.view _ _ (k0_off4_eq i) (inb_cols i)).trans (congrArg (cols i) (harg7.read_unread x7)))))
  isplitl [H11]
  · iexists _; isplitr; swap; iexact H11; ipureintro
    exact ((View.read_writes_full arg11.view _ _ _ _).trans ((k0_pay4_eq i _ _ _ _ _ _ _).trans (congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off4_eq i) (inb_cols i)).trans (congrArg (cols i) (harg5.read_unread x5)))) ((View.readAt_full arg6.view _ _).trans (harg6.read_unread x6))) ((View.readAt_unit arg7.view _ _ (k0_off4_eq i) (inb_cols i)).trans (congrArg (cols i) (harg7.read_unread x7)))) ((View.readAt_full arg11.view _ _).trans (harg11.read_unread x11)))))
  iexists _; isplitr; swap; iexact H12; ipureintro
  refine (View.read_writes_full arg12.view _ _ _ _).trans (congrArg k0_pay23 ((View.readAt_full arg11.view _ _).trans ?_))
  exact ((View.read_writes_full arg11.view _ _ _ _).trans ((k0_pay4_eq i _ _ _ _ _ _ _).trans (congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off4_eq i) (inb_cols i)).trans (congrArg (cols i) (harg5.read_unread x5)))) ((View.readAt_full arg6.view _ _).trans (harg6.read_unread x6))) ((View.readAt_unit arg7.view _ _ (k0_off4_eq i) (inb_cols i)).trans (congrArg (cols i) (harg7.read_unread x7)))) ((View.readAt_full arg11.view _ _).trans (harg11.read_unread x11)))))

set_option maxHeartbeats 1000000 in
/-- A point after the last row: only the last row's codes are stored. -/
theorem body_end (hc1 : ¬ k0_cond1 i = 1#1) (hc2 : ¬ k0_cond2 i = 1#1) (hc3 : k0_cond3 i = 1#1) (hc4 : ¬ k0_cond4 i = 1#1) (E : Set ℕ) (K : PUnit → sProp 𝕄) :
    iprop(held c arg2 arg3 arg4 arg5 arg6 arg7 arg8 arg9 arg10 arg11 arg12 x2 x3 x4 x5 x6 x7 x8 x9 x10 x11 x12 ∗ (held c arg2 arg3 arg4 arg5 arg6 arg7 arg8 arg9 arg10 arg11 arg12 x2 x3 x4 x5 x6 x7 (k0_pay15 (slice i x10) x12) x9 x10 x11 x12 -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K := by
  simp only [cc0_gateup_eq_skeleton]
  unfold cc0_gateup_skel
  simp only [k0_part1_eq_skeleton, k0_part2_eq_skeleton, k0_part3_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact (View.read_writes_full arg8.view _ _ _ _).trans (congr (congrArg k0_pay15 ((View.readAt_unit arg10.view _ _ (k0_off5_eq i) (inb_slice i)).trans (congrArg (slice i) (harg10.read_unread x10)))) ((View.readAt_full arg12.view _ _).trans (harg12.read_unread x12)))
  isplitl [H9]
  · iexists _; isplitr; swap; iexact H9; ipureintro
    exact harg9.read_unread x9
  isplitl [H10]
  · iexists _; isplitr; swap; iexact H10; ipureintro
    exact harg10.read_unread x10
  isplitl [H11]
  · iexists _; isplitr; swap; iexact H11; ipureintro
    exact harg11.read_unread x11
  iexists _; isplitr; swap; iexact H12; ipureintro
  exact harg12.read_unread x12

end Cert.GateUp.Hand

end
-- ==== Proof.GateUpRun.lean ====
/- The run of the gate/up kernel: what its scratch holds before every grid point, the body's obligation at every point, and the launch. -/
module

public import proofs.«01_k».proof.Proof.GateUpBody
public import Idealize.ShloMosaic.Lib.Claim
public import Idealize.ShloMosaic.Lib.Pipeline.TableIdle

@[expose] public section

set_option maxRecDepth 16384

noncomputable section

namespace Cert.GateUp.Hand

open Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- Point `t` is row block `t / 18`, column block `t % 18`. -/
theorem coords_tab : ∀ t : Fin cfg0.N, (grid0.coords t 0).val = t.val / 18 ∧ (grid0.coords t 1).val = t.val % 18 := by decide +kernel

/-- The four conditions of the body, by the point's number. -/
theorem cond_tab : ∀ t : Fin cfg0.N, (k0_cond1 (grid0.coords t) = 1#1 ↔ t.val < 18) ∧ (k0_cond2 (grid0.coords t) = 1#1 ↔ 18 ≤ t.val ∧ t.val < 540)
    ∧ (k0_cond3 (grid0.coords t) = 1#1 ↔ 540 ≤ t.val) ∧ (k0_cond4 (grid0.coords t) = 1#1 ↔ t.val % 18 = 17 ∧ t.val < 540) := by decide +kernel

/-- The window of the codes is idle exactly in the first row, -/
theorem idle_tab : ∀ t : Fin cfg0.N, cfg0.idle 6 (cfg0.grid.coords t) = decide (t.val < 18) := by decide +kernel

/-- and is not written back there. -/
theorem flush_tab : ∀ t : Fin cfg0.N, t.val < 18 → (cfg0.win 6).flush t = false := by
  intro t; rw [Pipeline.Window.flush_eq_flushF]; revert t; decide +kernel

/-- The window of the scales is idle but at the last point of a row, -/
theorem idle7_tab : ∀ t : Fin cfg0.N, cfg0.idle 7 (cfg0.grid.coords t) = !decide (t.val % 18 = 17 ∧ t.val < 540) := by decide +kernel

/-- and is written back at the ends of the rows, the last one's block only after the points past the last row. -/
theorem flush7_tab : ∀ t : Fin cfg0.N, (cfg0.win 7).flush t = decide (t.val % 18 = 17 ∧ t.val ≠ 539) := by
  intro t; rw [Pipeline.Window.flush_eq_flushF]; revert t; decide +kernel

/-- A scale block waits in its buffer only past the last row. -/
theorem fresh7 : ∀ n, n ≤ cfg0.N → cfg0.fresh 7 n = (decide (n < 540) || decide (n = 558)) :=
  Pipeline.Cfg.fresh_tab cfg0 7 (fun n => decide (n < 540) || decide (n = 558)) rfl (fun t => by
    rw [idle7_tab, flush7_tab]
    have h : t.val < 558 := Nat.lt_of_lt_of_eq t.isLt N_0
    by_cases h1 : t.val < 539
    · by_cases h2 : t.val % 18 = 17
      · simp [h2, show t.val + 1 < 540 by omega, show t.val ≠ 539 by omega]
      · simp [h2, show t.val + 1 < 540 by omega, show t.val < 540 by omega]
    · by_cases h3 : t.val = 557
      · simp [h3]
      · by_cases h4 : t.val = 539
        · simp [h4]
        · simp [show ¬ t.val + 1 < 540 by omega, show ¬ t.val < 540 by omega, show ¬ t.val + 1 = 558 by omega, show ¬ t.val = 558 by omega, show ¬ t.val % 18 = 17 by omega])

theorem t_lt (t : Fin cfg0.N) : t.val < 558 := Nat.lt_of_lt_of_eq t.isLt N_0

/-- The point numbered `n` (the last one past the end). -/
def pt (n : ℕ) : Fin cfg0.N := ⟨min n 557, Nat.lt_of_lt_of_eq (by omega : min n 557 < 558) N_0.symm⟩

theorem pt_val (t : Fin cfg0.N) : pt t.val = t :=
  Fin.ext (by have h := t_lt t; show min t.val 557 = t.val; omega)

/-! ## What the scratch holds -/

/-- The activation block of point `n`. -/
def Yat (c : Dev nD) (n : ℕ) : Vec F S1x512x512 .f32 := blockY (grid0.coords (pt n)) (iblk m c 0 (pt n)) (iblk m c 1 (pt n)) (iblk m c 2 (pt n)) (iblk m c 3 (pt n)) (iblk m c 4 (pt n)) (iblk m c 5 (pt n))

/-- The running maxima of magnitudes after point `n`, of its row block. -/
def SSat (c : Dev nD) : ℕ → (S512x128.Idx → Elt F .f32)
  | 0 => next11 (grid0.coords (pt 0)) (iblk m c 0 (pt 0)) (iblk m c 1 (pt 0)) (iblk m c 2 (pt 0)) (iblk m c 3 (pt 0)) (iblk m c 4 (pt 0)) (iblk m c 5 (pt 0)) (fun _ => Scalar.ofBits .f32 0#32)
  | n + 1 => next11 (grid0.coords (pt (n + 1))) (iblk m c 0 (pt (n + 1))) (iblk m c 1 (pt (n + 1))) (iblk m c 2 (pt (n + 1))) (iblk m c 3 (pt (n + 1))) (iblk m c 4 (pt (n + 1))) (iblk m c 5 (pt (n + 1))) (SSat c n)

/-- The scales' reciprocals computed at point `n`, the last of its row block, -/
def FACat (c : Dev nD) (n : ℕ) : S512x1.Idx → Elt F .f32 := k0_pay23 (SSat m c n)

/-- and the scales themselves, as stored. -/
def SCat (c : Dev nD) (n : ℕ) : S1x4x128.Idx → Elt F .f32 := scales (fun _ => Scalar.ofBits .f32 0#32) (SSat m c n)

/-- The codes stored at point `n`, of the row block before it. -/
def OUTat (c : Dev nD) (n : ℕ) : S512x512.Idx → Elt F .fp8e4m3 := k0_pay15 (Yat m c (n - 18)) (FACat m c (n / 18 * 18 - 1))

/-- The scale block's four stores cover it: what it held before does not matter. -/
theorem scales_indep (x9 x9' : S1x4x128.Idx → Elt F .f32) (x11 : S512x128.Idx → Elt F .f32) : scales x9 x11 = scales x9' x11 := by
  funext y
  unfold scales
  by_cases h3 : ∀ a, (![0, 3, 0] : Fin 3 → ℕ) a ≤ (y a).val ∧ (y a).val < (![0, 3, 0] : Fin 3 → ℕ) a + S1x1x128.size a
  · unfold VecWindow.put; rw [dif_pos h3, dif_pos h3]
  by_cases h2 : ∀ a, (![0, 2, 0] : Fin 3 → ℕ) a ≤ (y a).val ∧ (y a).val < (![0, 2, 0] : Fin 3 → ℕ) a + S1x1x128.size a
  · unfold VecWindow.put; rw [dif_neg h3, dif_neg h3, dif_pos h2, dif_pos h2]
  by_cases h1 : ∀ a, (![0, 1, 0] : Fin 3 → ℕ) a ≤ (y a).val ∧ (y a).val < (![0, 1, 0] : Fin 3 → ℕ) a + S1x1x128.size a
  · unfold VecWindow.put; rw [dif_neg h3, dif_neg h3, dif_neg h2, dif_neg h2, dif_pos h1, dif_pos h1]
  have hy0 : (y 0).val < 1 := (y 0).isLt
  have hy1 : (y 1).val < 4 := (y 1).isLt
  have hy2 : (y 2).val < 128 := (y 2).isLt
  have key : ∀ k : ℕ, (¬ ∀ a, (![0, k, 0] : Fin 3 → ℕ) a ≤ (y a).val ∧ (y a).val < (![0, k, 0] : Fin 3 → ℕ) a + S1x1x128.size a) → (y 1).val ≠ k := by
    intro k hk e
    exact hk fun a => match a with
      | ⟨0, _⟩ => ⟨Nat.zero_le _, by show (y 0).val < 0 + 1; omega⟩
      | ⟨1, _⟩ => ⟨by show k ≤ (y 1).val; omega, by show (y 1).val < k + 1; omega⟩
      | ⟨2, _⟩ => ⟨Nat.zero_le _, by show (y 2).val < 0 + 128; omega⟩
  have h0 : ∀ a, (![0, 0, 0] : Fin 3 → ℕ) a ≤ (y a).val ∧ (y a).val < (![0, 0, 0] : Fin 3 → ℕ) a + S1x1x128.size a := by
    by_contra h0
    have := key 0 h0; have := key 1 h1; have := key 2 h2; have := key 3 h3
    omega
  unfold VecWindow.put
  rw [dif_neg h3, dif_neg h3, dif_neg h2, dif_neg h2, dif_neg h1, dif_neg h1, dif_pos h0, dif_pos h0]

theorem inb_at (j : ℕ) (hj : j < 18) : ∀ a, (![j, 0, 0] : Fin 3 → ℕ) a + S1x512x512.size a ≤ S18x512x512.size a := by
  intro a; match a with
  | ⟨0, _⟩ => show j + 1 ≤ 18; omega
  | ⟨1, _⟩ => exact Nat.le_refl 512
  | ⟨2, _⟩ => exact Nat.le_refl 512

/-- What is known of the scratch before point `n`. -/
structure Inv (c : Dev nD) (n : ℕ) (x10 : S18x512x512.Idx → Elt F .f32) (x11 : S512x128.Idx → Elt F .f32) (x12 : S512x1.Idx → Elt F .f32) : Prop where
  strip : ∀ (j : ℕ) (hj : j < 18), j < n → VecWindow.window x10 ![j, 0, 0] S1x512x512.size (inb_at j hj) = Yat m c (j + 18 * min 29 ((n - 1 - j) / 18))
  maxima : 0 < n → n ≤ 540 → x11 = SSat m c (n - 1)
  recip : 18 ≤ n → x12 = FACat m c (18 * min 29 (n / 18 - 1) + 17)

theorem inv_zero (c : Dev nD) (x10 : S18x512x512.Idx → Elt F .f32) (x11 : S512x128.Idx → Elt F .f32) (x12 : S512x1.Idx → Elt F .f32) : Inv m c 0 x10 x11 x12 :=
  ⟨fun j hj h => absurd h (Nat.not_lt_zero j), fun h => absurd h (Nat.lt_irrefl 0), fun h => absurd h (by omega)⟩

/-- In the first column the maxima start afresh. -/
theorem next11_fresh (i : grid0.Coords) (hi : (i 1).val = 0) (x2 : S512x4608.Idx → Elt F .fp8e4m3) (x3 : S512x1.Idx → Elt F .f32) (x4 : S4608x512.Idx → Elt F .fp8e4m3) (x5 : S1x9216.Idx → Elt F .f32)
    (x6 : S4608x512.Idx → Elt F .fp8e4m3) (x7 : S1x9216.Idx → Elt F .f32) (x x' : S512x128.Idx → Elt F .f32) :
    next11 i x2 x3 x4 x5 x6 x7 x = next11 i x2 x3 x4 x5 x6 x7 x' := by
  unfold next11 runMax k0_pay1
  rw [hi]
  rfl

theorem Yat_eq (c : Dev nD) (t : Fin cfg0.N) : blockY (grid0.coords t) (iblk m c 0 t) (iblk m c 1 t) (iblk m c 2 t) (iblk m c 3 t) (iblk m c 4 t) (iblk m c 5 t) = Yat m c t.val := by
  unfold Yat; rw [pt_val]

theorem slice_eq (i : grid0.Coords) (x : S18x512x512.Idx → Elt F .f32) (j : ℕ) (hj : j < 18) (h : (i 1).val = j) :
    slice i x = VecWindow.window x ![j, 0, 0] S1x512x512.size (inb_at j hj) := by
  subst h; rfl

theorem slice_inv {c : Dev nD} {t : Fin cfg0.N} {x10 : S18x512x512.Idx → Elt F .f32} {x11 : S512x128.Idx → Elt F .f32} {x12 : S512x1.Idx → Elt F .f32}
    (h : Inv m c t.val x10 x11 x12) (ht : 18 ≤ t.val) : slice (grid0.coords t) x10 = Yat m c (t.val - 18) := by
  have hN := t_lt t
  have e := (coords_tab t).2
  have hs := h.strip (t.val % 18) (by omega) (by omega)
  rw [show t.val % 18 + 18 * min 29 ((t.val - 1 - t.val % 18) / 18) = t.val - 18 by omega] at hs
  rw [← hs]
  exact slice_eq _ _ _ (by omega) e

theorem recip_inv {c : Dev nD} {n : ℕ} {x10 : S18x512x512.Idx → Elt F .f32} {x11 : S512x128.Idx → Elt F .f32} {x12 : S512x1.Idx → Elt F .f32}
    (h : Inv m c n x10 x11 x12) (ht : 18 ≤ n) (hN : n < 558) : x12 = FACat m c (n / 18 * 18 - 1) := by
  rw [h.recip ht]; congr 1; omega

/-- The maxima after a point that takes its block in. -/
theorem maxima_step {c : Dev nD} {t : Fin cfg0.N} {x10 : S18x512x512.Idx → Elt F .f32} {x11 : S512x128.Idx → Elt F .f32} {x12 : S512x1.Idx → Elt F .f32}
    (h : Inv m c t.val x10 x11 x12) (ht : t.val < 540) : next11 (grid0.coords t) (iblk m c 0 t) (iblk m c 1 t) (iblk m c 2 t) (iblk m c 3 t) (iblk m c 4 t) (iblk m c 5 t) x11 = SSat m c t.val := by
  have e := (coords_tab t).2
  rcases Nat.eq_zero_or_pos t.val with h0 | h0
  · have et : pt 0 = t := by rw [← h0]; exact pt_val t
    rw [h0, show SSat m c 0 = next11 (grid0.coords (pt 0)) (iblk m c 0 (pt 0)) (iblk m c 1 (pt 0)) (iblk m c 2 (pt 0)) (iblk m c 3 (pt 0)) (iblk m c 4 (pt 0)) (iblk m c 5 (pt 0)) (fun _ => Scalar.ofBits .f32 0#32) from rfl, et]
    exact next11_fresh _ (by omega) _ _ _ _ _ _ _ _
  · have hx := h.maxima h0 (by omega)
    obtain ⟨k, hk⟩ : ∃ k, t.val = k + 1 := ⟨t.val - 1, by omega⟩
    have et : pt (k + 1) = t := by rw [← hk]; exact pt_val t
    rw [hk, show SSat m c (k + 1) = next11 (grid0.coords (pt (k + 1))) (iblk m c 0 (pt (k + 1))) (iblk m c 1 (pt (k + 1))) (iblk m c 2 (pt (k + 1))) (iblk m c 3 (pt (k + 1))) (iblk m c 4 (pt (k + 1))) (iblk m c 5 (pt (k + 1))) (SSat m c k) from rfl, et]
    rw [hx, hk]; rfl

/-- One point before the last row's end keeps the invariant. -/
theorem inv_step {c : Dev nD} {t : Fin cfg0.N} {x10 : S18x512x512.Idx → Elt F .f32} {x11 : S512x128.Idx → Elt F .f32} {x12 : S512x1.Idx → Elt F .f32} {x12' : S512x1.Idx → Elt F .f32}
    (h : Inv m c t.val x10 x11 x12) (ht : t.val < 540)
    (h8 : t.val % 18 = 17 → x12' = k0_pay23 (next11 (grid0.coords t) (iblk m c 0 t) (iblk m c 1 t) (iblk m c 2 t) (iblk m c 3 t) (iblk m c 4 t) (iblk m c 5 t) x11))
    (h7 : t.val % 18 ≠ 17 → x12' = x12) :
    Inv m c (t.val + 1) (next10 (grid0.coords t) (iblk m c 0 t) (iblk m c 1 t) (iblk m c 2 t) (iblk m c 3 t) (iblk m c 4 t) (iblk m c 5 t) x10)
      (next11 (grid0.coords t) (iblk m c 0 t) (iblk m c 1 t) (iblk m c 2 t) (iblk m c 3 t) (iblk m c 4 t) (iblk m c 5 t) x11) x12' := by
  have e := (coords_tab t).2
  have hss := maxima_step m h ht
  refine ⟨fun j hj hjn => ?_, fun _ _ => hss, fun h9 => ?_⟩
  · unfold next10
    rw [Yat_eq m c t]
    by_cases hjt : j = t.val % 18
    · have e1 : t.val = j + 18 * min 29 ((t.val + 1 - 1 - j) / 18) := by omega
      rw [← e1]
      have e' : (grid0.coords t 1).val = j := by omega
      rw [e']
      exact VecWindow.window_put_same _ _ _ _ _
    · rw [VecWindow.window_put_of_disjoint _ _ _ _ _ _ _ (0 : Fin 3) (by
        show j + 1 ≤ (grid0.coords t 1).val ∨ (grid0.coords t 1).val + 1 ≤ j
        omega)]
      rw [h.strip j hj (by omega)]
      congr 1; omega
  · by_cases h88 : t.val % 18 = 17
    · rw [h8 h88, hss, show 18 * min 29 ((t.val + 1) / 18 - 1) + 17 = t.val by omega]
      rfl
    · rw [h7 h88, h.recip (by omega)]
      congr 1; omega

/-- A point after the last row changes nothing. -/
theorem inv_end {c : Dev nD} {n : ℕ} {x10 : S18x512x512.Idx → Elt F .f32} {x11 : S512x128.Idx → Elt F .f32} {x12 : S512x1.Idx → Elt F .f32}
    (h : Inv m c n x10 x11 x12) (hn : 540 ≤ n) (hN : n < 558) : Inv m c (n + 1) x10 x11 x12 := by
  refine ⟨fun j hj hjn => ?_, fun _ h' => absurd h' (by omega), fun h9 => ?_⟩
  · rw [h.strip j hj (by omega)]; congr 1; omega
  · rw [h.recip (by omega)]; congr 1; omega

/-- The invariant of the run before point `n`: the scratch as `Inv` says, and the generator register. -/
def Phi (c : Dev nD) (n : ℕ) : sProp 𝕄 :=
  iprop((∃ x10 : S18x512x512.Idx → Elt F .f32, ∃ x11 : S512x128.Idx → Elt F .f32, ∃ x12 : S512x1.Idx → Elt F .f32, ⌜Inv m c n x10 x11 x12⌝
      ∗ owns (c : Thread nD τ) (Memref.whole cc0_scratch0) fullShare x10 ∗ owns (c : Thread nD τ) (Memref.whole cc0_scratch1) fullShare x11
      ∗ owns (c : Thread nD τ) (Memref.whole cc0_scratch2) fullShare x12) ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUTat m c t.val
    | ⟨7, _⟩ => SCat m c (18 * min 29 (t.val / 18) + 17)
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = OUTat m c t.val := by dsimp only [dats]
theorem after0_7 (c : Dev nD) (t : Fin cfg0.N) : (dats m 0 c).after 7 t = SCat m c (18 * min 29 (t.val / 18) + 17) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Past the last row the buffer of the scales holds the last row's. -/
theorem before0_7 (c : Dev nD) (t : Fin cfg0.N) (ht : 540 ≤ t.val) (d) : (dats m 0 c).before 7 t d = SCat m c (18 * min 29 (t.val / 18) + 17) := by
  have hN := t_lt t
  rw [(dats m 0 c).before_out_traj 7 rfl (fun _ _ => rfl) (fun t' h0 hi hf => by
    have hN' := t_lt t'
    rw [fresh7 _ (Nat.le_of_lt t'.isLt)] at hf
    have h1 : ¬ t'.val < 540 := fun h => by rw [decide_eq_true h] at hf; exact Bool.noConfusion hf
    rw [after0_7, after0_7]
    show SCat m c (18 * min 29 (t'.val / 18) + 17) = SCat m c (18 * min 29 ((t'.val - 1) / 18) + 17)
    congr 1; omega) t.val t rfl d, fresh7 _ (Nat.le_of_lt t.isLt), if_neg (by simp; omega), after0_7]
  show SCat m c (18 * min 29 ((t.val - 1) / 18) + 17) = SCat m c (18 * min 29 (t.val / 18) + 17)
  congr 1; omega

/-- What the body is called with at point `t`, the windows one by one, -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns: `O` of the window of the codes, `S` of that of the scales. -/
def bodyPost (c : Dev nD) (t : Fin cfg0.N) (O S : sProp 𝕄) : sProp 𝕄 :=
  iprop(Phi m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ O ∗ S)

/-- The codes of a point after the first row are `OUTat`. -/
theorem out_eq {c : Dev nD} {t : Fin cfg0.N} {x10 : S18x512x512.Idx → Elt F .f32} {x11 : S512x128.Idx → Elt F .f32} {x12 : S512x1.Idx → Elt F .f32}
    (h : Inv m c t.val x10 x11 x12) (ht : 18 ≤ t.val) :
    OUTat m c t.val = k0_pay15 (slice (grid0.coords t) x10) x12 := by
  have hN := t_lt t
  rw [slice_inv m h ht, recip_inv m h ht hN]
  rfl

/-- The scales stored at the last point of a row are `SCat`. -/
theorem scale_eq {c : Dev nD} {t : Fin cfg0.N} {x10 : S18x512x512.Idx → Elt F .f32} {x11 : S512x128.Idx → Elt F .f32} {x12 : S512x1.Idx → Elt F .f32}
    (h : Inv m c t.val x10 x11 x12) (ht : t.val < 540) (h' : t.val % 18 = 17) (x9 : S1x4x128.Idx → Elt F .f32) :
    SCat m c (18 * min 29 (t.val / 18) + 17) = scales x9 (next11 (grid0.coords t) (iblk m c 0 t) (iblk m c 1 t) (iblk m c 2 t) (iblk m c 3 t) (iblk m c 4 t) (iblk m c 5 t) x11) := by
  rw [maxima_step m h ht, show 18 * min 29 (t.val / 18) + 17 = t.val by omega]
  exact scales_indep _ _ _

set_option maxHeartbeats 1000000 in
/-- The body at a point of the first row before its end. -/
theorem sound_first (c : Dev nD) (t : Fin cfg0.N) (h : t.val < 18) (h' : t.val % 18 ≠ 17) :
    bodyPre m c t ⊢ wp frame (wpE (defs₀ (F := F)) Variants.none c none) Set.univ (bodyAt0 t) (fun _ => bodyPost m c t (iprop(∃ d, owns (c : Thread nD τ) (st0_6 t) fullShare ((dats m 0 c).before 6 t d))) (iprop(∃ d, owns (c : Thread nD τ) (st0_7 t) fullShare ((dats m 0 c).before 7 t d)))) := by
  have hN := t_lt t
  have hc := cond_tab t
  unfold bodyPre bodyPost bodyAt0 Phi
  simp only [before0_0, before0_1, before0_2, before0_3, before0_4, before0_5]
  iintro ⟨⟨⟨%x10, %x11, %x12, %hI, H10, H11, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_first c (grid0.coords t) _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) x10 x11 x12
    (hc.1.2 (by omega)) (fun h => absurd (hc.2.1.1 h) (by omega)) (fun h => absurd (hc.2.2.1.1 h) (by omega)) (fun h => absurd (hc.2.2.2.1 h) (by omega)) Set.univ _)
  unfold held
  isplitl [H0 H1 H2 H3 H4 H5 H6 H7 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    iexact H12
  iintro ⟨H0, H1, H2, H3, H4, H5, H6, H7, H10, H11, H12⟩
  isplitl [H10 H11 H12 Hr]
  · isplitl [H10 H11 H12]
    · iexists _; iexists _; iexists _
      isplitr; swap
      · isplitl [H10]; · iexact H10
        isplitl [H11]; · iexact H11
        iexact H12
      ipureintro
      exact inv_step m hI (by omega) (fun h => absurd h (by omega)) (fun _ => rfl)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  iexists d7; iexact H7

set_option maxHeartbeats 1000000 in
/-- The body at the last point of the first row. -/
theorem sound_first_last (c : Dev nD) (t : Fin cfg0.N) (h : t.val < 18) (h' : t.val % 18 = 17) :
    bodyPre m c t ⊢ wp frame (wpE (defs₀ (F := F)) Variants.none c none) Set.univ (bodyAt0 t) (fun _ => bodyPost m c t (iprop(∃ d, owns (c : Thread nD τ) (st0_6 t) fullShare ((dats m 0 c).before 6 t d))) (iprop(owns (c : Thread nD τ) (st0_7 t) fullShare (SCat m c (18 * min 29 (t.val / 18) + 17))))) := by
  have hN := t_lt t
  have hc := cond_tab t
  unfold bodyPre bodyPost bodyAt0 Phi
  simp only [before0_0, before0_1, before0_2, before0_3, before0_4, before0_5]
  iintro ⟨⟨⟨%x10, %x11, %x12, %hI, H10, H11, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_first_last c (grid0.coords t) _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) x10 x11 x12
    (hc.1.2 (by omega)) (fun h => absurd (hc.2.1.1 h) (by omega)) (fun h => absurd (hc.2.2.1.1 h) (by omega)) (hc.2.2.2.2 (by omega)) Set.univ _)
  unfold held
  isplitl [H0 H1 H2 H3 H4 H5 H6 H7 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    iexact H12
  iintro ⟨H0, H1, H2, H3, H4, H5, H6, H7, H10, H11, H12⟩
  isplitl [H10 H11 H12 Hr]
  · isplitl [H10 H11 H12]
    · iexists _; iexists _; iexists _
      isplitr; swap
      · isplitl [H10]; · iexact H10
        isplitl [H11]; · iexact H11
        iexact H12
      ipureintro
      exact inv_step m hI (by omega) (fun _ => rfl) (fun h => absurd h (by omega))
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  rw [scale_eq m hI (by omega) h' ((dats m 0 c).before 7 t d7)]; iexact H7

set_option maxHeartbeats 1000000 in
/-- The body at a point of a middle row before its end. -/
theorem sound_mid (c : Dev nD) (t : Fin cfg0.N) (h : 18 ≤ t.val) (h2 : t.val < 540) (h' : t.val % 18 ≠ 17) :
    bodyPre m c t ⊢ wp frame (wpE (defs₀ (F := F)) Variants.none c none) Set.univ (bodyAt0 t) (fun _ => bodyPost m c t (iprop(owns (c : Thread nD τ) (st0_6 t) fullShare (OUTat m c t.val))) (iprop(∃ d, owns (c : Thread nD τ) (st0_7 t) fullShare ((dats m 0 c).before 7 t d)))) := by
  have hN := t_lt t
  have hc := cond_tab t
  unfold bodyPre bodyPost bodyAt0 Phi
  simp only [before0_0, before0_1, before0_2, before0_3, before0_4, before0_5]
  iintro ⟨⟨⟨%x10, %x11, %x12, %hI, H10, H11, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_mid c (grid0.coords t) _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) x10 x11 x12
    (fun h => absurd (hc.1.1 h) (by omega)) (hc.2.1.2 (by omega)) (fun h => absurd (hc.2.2.1.1 h) (by omega)) (fun h => absurd (hc.2.2.2.1 h) (by omega)) Set.univ _)
  unfold held
  isplitl [H0 H1 H2 H3 H4 H5 H6 H7 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    iexact H12
  iintro ⟨H0, H1, H2, H3, H4, H5, H6, H7, H10, H11, H12⟩
  isplitl [H10 H11 H12 Hr]
  · isplitl [H10 H11 H12]
    · iexists _; iexists _; iexists _
      isplitr; swap
      · isplitl [H10]; · iexact H10
        isplitl [H11]; · iexact H11
        iexact H12
      ipureintro
      exact inv_step m hI (by omega) (fun h => absurd h (by omega)) (fun _ => rfl)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [out_eq m hI (by omega)]; iexact H6
  iexists d7; iexact H7

set_option maxHeartbeats 1000000 in
/-- The body at the last point of a middle row. -/
theorem sound_mid_last (c : Dev nD) (t : Fin cfg0.N) (h : 18 ≤ t.val) (h2 : t.val < 540) (h' : t.val % 18 = 17) :
    bodyPre m c t ⊢ wp frame (wpE (defs₀ (F := F)) Variants.none c none) Set.univ (bodyAt0 t) (fun _ => bodyPost m c t (iprop(owns (c : Thread nD τ) (st0_6 t) fullShare (OUTat m c t.val))) (iprop(owns (c : Thread nD τ) (st0_7 t) fullShare (SCat m c (18 * min 29 (t.val / 18) + 17))))) := by
  have hN := t_lt t
  have hc := cond_tab t
  unfold bodyPre bodyPost bodyAt0 Phi
  simp only [before0_0, before0_1, before0_2, before0_3, before0_4, before0_5]
  iintro ⟨⟨⟨%x10, %x11, %x12, %hI, H10, H11, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_mid_last c (grid0.coords t) _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) x10 x11 x12
    (fun h => absurd (hc.1.1 h) (by omega)) (hc.2.1.2 (by omega)) (fun h => absurd (hc.2.2.1.1 h) (by omega)) (hc.2.2.2.2 (by omega)) Set.univ _)
  unfold held
  isplitl [H0 H1 H2 H3 H4 H5 H6 H7 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    iexact H12
  iintro ⟨H0, H1, H2, H3, H4, H5, H6, H7, H10, H11, H12⟩
  isplitl [H10 H11 H12 Hr]
  · isplitl [H10 H11 H12]
    · iexists _; iexists _; iexists _
      isplitr; swap
      · isplitl [H10]; · iexact H10
        isplitl [H11]; · iexact H11
        iexact H12
      ipureintro
      exact inv_step m hI (by omega) (fun _ => rfl) (fun h => absurd h (by omega))
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [out_eq m hI (by omega)]; iexact H6
  rw [scale_eq m hI (by omega) h' ((dats m 0 c).before 7 t d7)]; iexact H7

set_option maxHeartbeats 1000000 in
/-- The body at a point after the last row, before the end. -/
theorem sound_end (c : Dev nD) (t : Fin cfg0.N) (h : 540 ≤ t.val) :
    bodyPre m c t ⊢ wp frame (wpE (defs₀ (F := F)) Variants.none c none) Set.univ (bodyAt0 t) (fun _ => bodyPost m c t (iprop(owns (c : Thread nD τ) (st0_6 t) fullShare (OUTat m c t.val))) (iprop(∃ d, owns (c : Thread nD τ) (st0_7 t) fullShare ((dats m 0 c).before 7 t d)))) := by
  have hN := t_lt t
  have hc := cond_tab t
  unfold bodyPre bodyPost bodyAt0 Phi
  simp only [before0_0, before0_1, before0_2, before0_3, before0_4, before0_5]
  iintro ⟨⟨⟨%x10, %x11, %x12, %hI, H10, H11, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_end c (grid0.coords t) _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) x10 x11 x12
    (fun h => absurd (hc.1.1 h) (by omega)) (fun h => absurd (hc.2.1.1 h) (by omega)) (hc.2.2.1.2 (by omega)) (fun h => absurd (hc.2.2.2.1 h) (by omega)) Set.univ _)
  unfold held
  isplitl [H0 H1 H2 H3 H4 H5 H6 H7 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    iexact H12
  iintro ⟨H0, H1, H2, H3, H4, H5, H6, H7, H10, H11, H12⟩
  isplitl [H10 H11 H12 Hr]
  · isplitl [H10 H11 H12]
    · iexists _; iexists _; iexists _
      isplitr; swap
      · isplitl [H10]; · iexact H10
        isplitl [H11]; · iexact H11
        iexact H12
      ipureintro
      exact inv_end m hI h hN
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [out_eq m hI (by omega)]; iexact H6
  iexists d7; iexact H7

set_option maxHeartbeats 1000000 in
/-- The body at the last point: the scales of the last row are still in their buffer. -/
theorem sound_end_last (c : Dev nD) (t : Fin cfg0.N) (h : 540 ≤ t.val) :
    bodyPre m c t ⊢ wp frame (wpE (defs₀ (F := F)) Variants.none c none) Set.univ (bodyAt0 t) (fun _ => bodyPost m c t (iprop(owns (c : Thread nD τ) (st0_6 t) fullShare (OUTat m c t.val))) (iprop(owns (c : Thread nD τ) (st0_7 t) fullShare (SCat m c (18 * min 29 (t.val / 18) + 17))))) := by
  have hN := t_lt t
  have hc := cond_tab t
  unfold bodyPre bodyPost bodyAt0 Phi
  simp only [before0_0, before0_1, before0_2, before0_3, before0_4, before0_5]
  iintro ⟨⟨⟨%x10, %x11, %x12, %hI, H10, H11, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_end c (grid0.coords t) _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) x10 x11 x12
    (fun h => absurd (hc.1.1 h) (by omega)) (fun h => absurd (hc.2.1.1 h) (by omega)) (hc.2.2.1.2 (by omega)) (fun h => absurd (hc.2.2.2.1 h) (by omega)) Set.univ _)
  unfold held
  isplitl [H0 H1 H2 H3 H4 H5 H6 H7 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    iexact H12
  iintro ⟨H0, H1, H2, H3, H4, H5, H6, H7, H10, H11, H12⟩
  isplitl [H10 H11 H12 Hr]
  · isplitl [H10 H11 H12]
    · iexists _; iexists _; iexists _
      isplitr; swap
      · isplitl [H10]; · iexact H10
        isplitl [H11]; · iexact H11
        iexact H12
      ipureintro
      exact inv_end m hI h hN
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [out_eq m hI (by omega)]; iexact H6
  rw [before0_7 m c t h d7]; iexact H7

/-- What the obligation asks of window 6's buffer back. -/
def left6 (c : Dev nD) (t : Fin cfg0.N) : sProp 𝕄 :=
  match cfg0.idle 6 (cfg0.grid.coords t) with
  | true => match (cfg0.win 6).flush t with
    | false => iprop(∃ d, owns (c : Thread nD τ) ((cfg0.win 6).stage (cfg0.slots t 6)) fullShare ((dats m 0 c).before 6 t d))
    | true => owns (c : Thread nD τ) ((cfg0.win 6).stage (cfg0.slots t 6)) fullShare ((dats m 0 c).after 6 t)
  | false => owns (c : Thread nD τ) ((cfg0.win 6).stage (cfg0.slots t 6)) fullShare ((dats m 0 c).after 6 t)

/-- What the obligation asks of window 7's buffer back. -/
def left7 (c : Dev nD) (t : Fin cfg0.N) : sProp 𝕄 :=
  match cfg0.idle 7 (cfg0.grid.coords t) with
  | true => match (cfg0.win 7).flush t with
    | false => iprop(∃ d, owns (c : Thread nD τ) ((cfg0.win 7).stage (cfg0.slots t 7)) fullShare ((dats m 0 c).before 7 t d))
    | true => owns (c : Thread nD τ) ((cfg0.win 7).stage (cfg0.slots t 7)) fullShare ((dats m 0 c).after 7 t)
  | false => owns (c : Thread nD τ) ((cfg0.win 7).stage (cfg0.slots t 7)) fullShare ((dats m 0 c).after 7 t)

theorem left6_idle (c : Dev nD) (t : Fin cfg0.N) (h : t.val < 18) : left6 m c t = iprop(∃ d, owns (c : Thread nD τ) (st0_6 t) fullShare ((dats m 0 c).before 6 t d)) := by
  unfold left6; rw [idle_tab t, flush_tab t h, decide_eq_true h]
theorem left6_live (c : Dev nD) (t : Fin cfg0.N) (h : ¬ t.val < 18) : left6 m c t = iprop(owns (c : Thread nD τ) (st0_6 t) fullShare (OUTat m c t.val)) := by
  unfold left6; rw [idle_tab t, decide_eq_false h]; rfl
theorem left7_idle (c : Dev nD) (t : Fin cfg0.N) (h : t.val % 18 ≠ 17) : left7 m c t = iprop(∃ d, owns (c : Thread nD τ) (st0_7 t) fullShare ((dats m 0 c).before 7 t d)) := by
  unfold left7
  rw [idle7_tab t, flush7_tab t, decide_eq_false (fun h' => h h'.1), decide_eq_false (fun h' => h h'.1)]; rfl
theorem left7_live (c : Dev nD) (t : Fin cfg0.N) (h : t.val % 18 = 17 ∧ t.val < 540) : left7 m c t = iprop(owns (c : Thread nD τ) (st0_7 t) fullShare (SCat m c (18 * min 29 (t.val / 18) + 17))) := by
  unfold left7
  rw [idle7_tab t, decide_eq_true h]; rfl
theorem left7_last (c : Dev nD) (t : Fin cfg0.N) (h : t.val % 18 = 17 ∧ 540 ≤ t.val) : left7 m c t = iprop(owns (c : Thread nD τ) (st0_7 t) fullShare (SCat m c (18 * min 29 (t.val / 18) + 17))) := by
  unfold left7
  rw [idle7_tab t, flush7_tab t, decide_eq_false (fun h' => absurd h'.2 (by omega)), decide_eq_true (⟨h.1, by omega⟩ : t.val % 18 = 17 ∧ t.val ≠ 539)]; rfl

/-- The body at every point. -/
theorem sound (c : Dev nD) (t : Fin cfg0.N) :
    bodyPre m c t ⊢ wp frame (wpE (defs₀ (F := F)) Variants.none c none) Set.univ (bodyAt0 t) (fun _ => bodyPost m c t (left6 m c t) (left7 m c t)) := by
  by_cases h9 : t.val < 18
  · rw [left6_idle m c t h9]
    by_cases h' : t.val % 18 = 17
    · rw [left7_live m c t ⟨h', by omega⟩]; exact sound_first_last m c t h9 h'
    · rw [left7_idle m c t h']; exact sound_first m c t h9 h'
  · rw [left6_live m c t h9]
    by_cases h2 : t.val < 540
    · by_cases h' : t.val % 18 = 17
      · rw [left7_live m c t ⟨h', h2⟩]; exact sound_mid_last m c t (by omega) h2 h'
      · rw [left7_idle m c t h']; exact sound_mid m c t (by omega) h2 h'
    · by_cases h' : t.val % 18 = 17
      · rw [left7_last m c t ⟨h', by omega⟩]; exact sound_end_last m c t (by omega)
      · rw [left7_idle m c t h']; exact sound_end m c t (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  have hs := sound m c t
  unfold left6 left7 at hs
  exact triple_restated hs rfl .rfl fun _ => .rfl

/-! ## The run and the frame -/

/-- Before the first point the scratch holds anything, -/
theorem phi_in (c : Dev nD) : Pipeline.ΦA spec0 c ⊢ (dats (F := F) m 0 c).Φ 0 := by
  show Pipeline.ΦA spec0 c ⊢ Phi m c 0
  unfold Pipeline.ΦA Phi
  rw [scopedRest0_eq]
  simp only [owns_whole]
  iintro ⟨⟨⟨%f10, H10⟩, ⟨%f11, H11⟩, ⟨%f12, H12⟩⟩, Hr⟩
  isplitl [H10 H11 H12]
  · iexists f10; iexists f11; iexists f12
    isplitr; swap
    · isplitl [H10]; · iexact H10
      isplitl [H11]; · iexact H11
      iexact H12
    ipureintro
    exact inv_zero m c _ _ _
  iexact Hr

/-- and after the last its contents are forgotten. -/
theorem phi_out (c : Dev nD) : (dats (F := F) m 0 c).Φ (Fin.last cfg0.N) ⊢ Pipeline.ΦA spec0 c := by
  show Phi m c cfg0.N ⊢ Pipeline.ΦA spec0 c
  unfold Pipeline.ΦA Phi
  rw [scopedRest0_eq]
  simp only [owns_whole]
  iintro ⟨⟨%x10, %x11, %x12, %hI, H10, H11, H12⟩, Hr⟩
  isplitl [H10 H11 H12]
  · isplitl [H10]; · iexists x10; iexact H10
    isplitl [H11]; · iexists x11; iexact H11
    iexists x12; iexact H12
  iexact Hr

set_option backward.isDefEq.respectTransparency.types false in
set_option maxHeartbeats 800000 in
/-- The launch: every array of the pipeline ends at what the proof data computes, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.GateUp.Hand

end
-- ==== Proof.GateUpIdealBody.lean ====
/- The body of the gate/up kernel at each kind of grid point. -/
module

public import proofs.«01_k».proof.Proof.Gen.GateUpIdeal.Skeleton
public import proofs.«01_k».proof.Proof.Gen.GateUpIdeal.Frame
public import Idealize.ShloMosaic.Lib.VecWindow

@[expose] public section

set_option maxRecDepth 16384

noncomputable section

namespace Cert.GateUpIdeal.Hand

open Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What one point does to the values held -/

theorem inb_cols (i : grid0.Coords) : ∀ a, (![0, 512 * (i 1).val] : Fin 2 → ℕ) a + S1x512.size a ≤ S1x9216.size a := by
  have h : (i 1).val < 18 := (i 1).isLt
  intro a; match a with
  | ⟨0, _⟩ => exact Nat.le_refl 1
  | ⟨1, _⟩ => show 512 * (i 1).val + 512 ≤ 9216; omega

theorem inb_slice (i : grid0.Coords) : ∀ a, (![(i 1).val, 0, 0] : Fin 3 → ℕ) a + S1x512x512.size a ≤ S18x512x512.size a := by
  have h : (i 1).val < 18 := (i 1).isLt
  intro a; match a with
  | ⟨0, _⟩ => show (i 1).val + 1 ≤ 18; omega
  | ⟨1, _⟩ => exact Nat.le_refl 512
  | ⟨2, _⟩ => exact Nat.le_refl 512

/-- The point's 512 columns of a row vector. -/
def cols (i : grid0.Coords) (x : S1x9216.Idx → Elt F .f32) : Vec F S1x512 .f32 :=
  VecWindow.window x ![0, 512 * (i 1).val] S1x512.size (inb_cols i)

/-- The point's slice of the strip. -/
def slice (i : grid0.Coords) (x : S18x512x512.Idx → Elt F .f32) : Vec F S1x512x512 .f32 :=
  VecWindow.window x ![(i 1).val, 0, 0] S1x512x512.size (inb_slice i)

/-- The activation block of the point, as the strip keeps it. -/
def blockY (i : grid0.Coords) (x2 : S512x4608.Idx → Elt F .fp8e4m3) (x3 : S512x1.Idx → Elt F .f32) (x4 : S4608x512.Idx → Elt F .fp8e4m3) (x5 : S1x9216.Idx → Elt F .f32)
    (x6 : S4608x512.Idx → Elt F .fp8e4m3) (x7 : S1x9216.Idx → Elt F .f32) : Vec F S1x512x512 .f32 :=
  k0_pay9 x2 x3 x4 (cols i x5) x6 (cols i x7)

/-- The strip after a point that stores its activation block. -/
def next10 (i : grid0.Coords) (x2 : S512x4608.Idx → Elt F .fp8e4m3) (x3 : S512x1.Idx → Elt F .f32) (x4 : S4608x512.Idx → Elt F .fp8e4m3) (x5 : S1x9216.Idx → Elt F .f32)
    (x6 : S4608x512.Idx → Elt F .fp8e4m3) (x7 : S1x9216.Idx → Elt F .f32)
    (x10 : S18x512x512.Idx → Elt F .f32) : S18x512x512.Idx → Elt F .f32 :=
  VecWindow.put x10 ![(i 1).val, 0, 0] S1x512x512.size (blockY i x2 x3 x4 x5 x6 x7)

/-- The running maxima of magnitudes, from the point's own columns of the two weight scales. -/
def runMax (i : grid0.Coords) (a : Vec F S512x4608 .fp8e4m3) (b : Vec F S512x1 .f32) (d : Vec F S4608x512 .fp8e4m3) (e : Vec F S1x512 .f32)
    (f : Vec F S4608x512 .fp8e4m3) (g : Vec F S1x512 .f32) (x11 : Vec F S512x128 .f32) : FVec F S512x128 .f32 :=
  k0_pay1 i (k0_pay11 a b d e f g) (k0_pay12 a b d e f g) (k0_pay13 a b d e f g) (k0_pay14 a b d e f g) x11

/-- The running maxima of magnitudes after a point that takes its activation block in. -/
def next11 (i : grid0.Coords) (x2 : S512x4608.Idx → Elt F .fp8e4m3) (x3 : S512x1.Idx → Elt F .f32) (x4 : S4608x512.Idx → Elt F .fp8e4m3) (x5 : S1x9216.Idx → Elt F .f32)
    (x6 : S4608x512.Idx → Elt F .fp8e4m3) (x7 : S1x9216.Idx → Elt F .f32)
    (x11 : S512x128.Idx → Elt F .f32) : S512x128.Idx → Elt F .f32 :=
  runMax i x2 x3 x4 (cols i x5) x6 (cols i x7) x11

/-- The scale block after the row block's last point: four runs of 128 tokens' scales, written one after the other. -/
def scales (x9 : S1x4x128.Idx → Elt F .f32) (x11 : S512x128.Idx → Elt F .f32) : S1x4x128.Idx → Elt F .f32 :=
  VecWindow.put (VecWindow.put (VecWindow.put (VecWindow.put x9 ![0, 0, 0] S1x1x128.size (k0_pay25 x11)) ![0, 1, 0] S1x1x128.size (k0_pay26 x11))
    ![0, 2, 0] S1x1x128.size (k0_pay6 k0_pay24 (k0_pay27 x11))) ![0, 3, 0] S1x1x128.size (k0_pay7 (k0_pay22 x11) k0_pay24)

/-- The four stores of the scale block, read back. -/
theorem read_scales {sp : Space} (v : View sig .tc sp S1x4x128 .f32) (f : v.ty.Contents (Elt F))
    (h0 : ∀ a, (![0, 0, 0] : Fin 3 → ℕ) a + S1x1x128.size a ≤ S1x4x128.size a) (h1 : ∀ a, (![0, 1, 0] : Fin 3 → ℕ) a + S1x1x128.size a ≤ S1x4x128.size a)
    (h2 : ∀ a, (![0, 2, 0] : Fin 3 → ℕ) a + S1x1x128.size a ≤ S1x4x128.size a) (h3 : ∀ a, (![0, 3, 0] : Fin 3 → ℕ) a + S1x1x128.size a ≤ S1x4x128.size a)
    (y : S512x128.Idx → Elt F .f32) :
    v.read (Elt F) (v.writes (Elt F) f [⟨Rect.unit ![0, 3, 0] S1x1x128.size h3, k0_pay7 (k0_pay22 y) k0_pay24⟩,
      ⟨Rect.unit ![0, 2, 0] S1x1x128.size h2, k0_pay6 k0_pay24 (k0_pay27 y)⟩, ⟨Rect.unit ![0, 1, 0] S1x1x128.size h1, k0_pay26 y⟩,
      ⟨Rect.unit ![0, 0, 0] S1x1x128.size h0, k0_pay25 y⟩]) = scales (v.read (Elt F) f) y := by
  rw [View.read_writes_cons_put v f h3 _ _ rfl, View.read_writes_cons_put v f h2 _ _ rfl, View.read_writes_cons_put v f h1 _ _ rfl,
    View.read_writes_cons_put v f h0 _ _ rfl, View.writes_nil]
  rfl

section
variable (i : grid0.Coords) (a : Vec F S512x4608 .fp8e4m3) (b : Vec F S512x1 .f32) (d : Vec F S4608x512 .fp8e4m3) (e : Vec F S1x512 .f32)
    (f : Vec F S4608x512 .fp8e4m3) (g : Vec F S1x512 .f32) (x : Vec F S512x128 .f32)

/-- The middle rows' activation block is computed as the first row's, -/
theorem k0_pay3_eq : k0_pay3 (k0_pay17 a b d e) (k0_pay18 a b f g) (k0_pay19 a b d e) (k0_pay20 a b d e) (k0_pay21 (F := F)) = k0_pay9 a b d e f g := rfl

/-- and so are their running maxima. -/
theorem k0_pay4_eq : k0_pay4 i (k0_pay17 a b d e) (k0_pay18 a b f g) (k0_pay19 a b d e) (k0_pay20 a b d e) (k0_pay21 (F := F)) x = runMax i a b d e f g x := rfl

end

variable (c : Dev nD) (i : grid0.Coords)
    (arg2 : Memref sig .tc .vmem S512x4608 .fp8e4m3) (harg2 : arg2.IsWhole)
    (arg3 : Memref sig .tc .vmem S512x1 .f32) (harg3 : arg3.IsWhole)
    (arg4 : Memref sig .tc .vmem S4608x512 .fp8e4m3) (harg4 : arg4.IsWhole)
    (arg5 : Memref sig .tc .vmem S1x9216 .f32) (harg5 : arg5.IsWhole)
    (arg6 : Memref sig .tc .vmem S4608x512 .fp8e4m3) (harg6 : arg6.IsWhole)
    (arg7 : Memref sig .tc .vmem S1x9216 .f32) (harg7 : arg7.IsWhole)
    (arg8 : Memref sig .tc .vmem S512x512 .fp8e4m3) (harg8 : arg8.IsWhole)
    (arg9 : Memref sig .tc .vmem S1x4x128 .f32) (harg9 : arg9.IsWhole)
    (arg10 : Memref sig .tc .vmem S18x512x512 .f32) (harg10 : arg10.IsWhole)
    (arg11 : Memref sig .tc .vmem S512x128 .f32) (harg11 : arg11.IsWhole)
    (arg12 : Memref sig .tc .vmem S512x1 .f32) (harg12 : arg12.IsWhole)
    (x2 : S512x4608.Idx → Elt F .fp8e4m3)
    (x3 : S512x1.Idx → Elt F .f32)
    (x4 : S4608x512.Idx → Elt F .fp8e4m3)
    (x5 : S1x9216.Idx → Elt F .f32)
    (x6 : S4608x512.Idx → Elt F .fp8e4m3)
    (x7 : S1x9216.Idx → Elt F .f32)
    (x8 : S512x512.Idx → Elt F .fp8e4m3)
    (x9 : S1x4x128.Idx → Elt F .f32)
    (x10 : S18x512x512.Idx → Elt F .f32)
    (x11 : S512x128.Idx → Elt F .f32)
    (x12 : S512x1.Idx → Elt F .f32)

/-- The eleven buffers of the body, each held whole at the values named. -/
def held : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12)

set_option maxHeartbeats 1000000 in
/-- A point of the first row before its last block: the activation block and its maxima are stored. -/
theorem body_first (hc1 : k0_cond1 i = 1#1) (hc2 : ¬ k0_cond2 i = 1#1) (hc3 : ¬ k0_cond3 i = 1#1) (hc4 : ¬ k0_cond4 i = 1#1) (E : Set ℕ) (K : PUnit → sProp 𝕄) :
    iprop(held c arg2 arg3 arg4 arg5 arg6 arg7 arg8 arg9 arg10 arg11 arg12 x2 x3 x4 x5 x6 x7 x8 x9 x10 x11 x12 ∗ (held c arg2 arg3 arg4 arg5 arg6 arg7 arg8 arg9 arg10 arg11 arg12 x2 x3 x4 x5 x6 x7 x8 x9 (next10 i x2 x3 x4 x5 x6 x7 x10) (next11 i x2 x3 x4 x5 x6 x7 x11) x12 -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K := by
  simp only [cc0_gateup_eq_skeleton]
  unfold cc0_gateup_skel
  simp only [k0_part1_eq_skeleton, k0_part2_eq_skeleton, k0_part3_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact harg8.read_unread x8
  isplitl [H9]
  · iexists _; isplitr; swap; iexact H9; ipureintro
    exact harg9.read_unread x9
  isplitl [H10]
  · iexists _; isplitr; swap; iexact H10; ipureintro
    refine (View.read_writes_cons_put arg10.view _ _ _ _ (k0_off2_eq i)).trans ?_
    rw [View.writes_nil, harg10.read_unread]
    exact congrArg (VecWindow.put x10 _ _) ((congr (congr (congr (congr (congr (congrArg k0_pay9 ((View.readAt_full arg2.view _ _).trans (harg2.read_unread x2))) ((View.readAt_full arg3.view _ _).trans (harg3.read_unread x3))) ((View.readAt_full arg4.view _ _).trans (harg4.read_unread x4))) ((View.readAt_unit arg5.view _ _ (k0_off1_eq i) (inb_cols i)).trans (congrArg (cols i) (harg5.read_unread x5)))) ((View.readAt_full arg6.view _ _).trans (harg6.read_unread x6))) ((View.readAt_unit arg7.view _ _ (k0_off1_eq i) (inb_cols i)).trans (congrArg (cols i) (harg7.read_unread x7)))))
  isplitl [H11]
  · iexists _; isplitr; swap; iexact H11; ipureintro
    exact ((View.read_writes_full arg11.view _ _ _ _).trans ((congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off1_eq i) (inb_cols i)).trans (congrArg (cols i) (harg5.read_unread x5)))) ((View.readAt_full arg6.view _ _).trans (harg6.read_unread x6))) ((View.readAt_unit arg7.view _ _ (k0_off1_eq i) (inb_cols i)).trans (congrArg (cols i) (harg7.read_unread x7)))) ((View.readAt_full arg11.view _ _).trans (harg11.read_unread x11)))))
  iexists _; isplitr; swap; iexact H12; ipureintro
  exact harg12.read_unread x12

set_option maxHeartbeats 1000000 in
/-- The last point of the first row: the scales and their reciprocals are stored too. -/
theorem body_first_last (hc1 : k0_cond1 i = 1#1) (hc2 : ¬ k0_cond2 i = 1#1) (hc3 : ¬ k0_cond3 i = 1#1) (hc4 : k0_cond4 i = 1#1) (E : Set ℕ) (K : PUnit → sProp 𝕄) :
    iprop(held c arg2 arg3 arg4 arg5 arg6 arg7 arg8 arg9 arg10 arg11 arg12 x2 x3 x4 x5 x6 x7 x8 x9 x10 x11 x12 ∗ (held c arg2 arg3 arg4 arg5 arg6 arg7 arg8 arg9 arg10 arg11 arg12 x2 x3 x4 x5 x6 x7 x8 (scales x9 (next11 i x2 x3 x4 x5 x6 x7 x11)) (next10 i x2 x3 x4 x5 x6 x7 x10) (next11 i x2 x3 x4 x5 x6 x7 x11) (k0_pay23 (next11 i x2 x3 x4 x5 x6 x7 x11)) -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K := by
  simp only [cc0_gateup_eq_skeleton]
  unfold cc0_gateup_skel
  simp only [k0_part1_eq_skeleton, k0_part2_eq_skeleton, k0_part3_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact harg8.read_unread x8
  isplitl [H9]
  · iexists _; isplitr; swap; iexact H9; ipureintro
    refine (read_scales arg9.view _ _ _ _ _ _).trans ?_
    rw [harg9.read_unread]
    refine congrArg (scales x9) ((View.readAt_full arg11.view _ _).trans ?_)
    exact ((View.read_writes_full arg11.view _ _ _ _).trans ((congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off1_eq i) (inb_cols i)).trans (congrArg (cols i) (harg5.read_unread x5)))) ((View.readAt_full arg6.view _ _).trans (harg6.read_unread x6))) ((View.readAt_unit arg7.view _ _ (k0_off1_eq i) (inb_cols i)).trans (congrArg (cols i) (harg7.read_unread x7)))) ((View.readAt_full arg11.view _ _).trans (harg11.read_unread x11)))))
  isplitl [H10]
  · iexists _; isplitr; swap; iexact H10; ipureintro
    refine (View.read_writes_cons_put arg10.view _ _ _ _ (k0_off2_eq i)).trans ?_
    rw [View.writes_nil, harg10.read_unread]
    exact congrArg (VecWindow.put x10 _ _) ((congr (congr (congr (congr (congr (congrArg k0_pay9 ((View.readAt_full arg2.view _ _).trans (harg2.read_unread x2))) ((View.readAt_full arg3.view _ _).trans (harg3.read_unread x3))) ((View.readAt_full arg4.view _ _).trans (harg4.read_unread x4))) ((View.readAt_unit arg5.view _ _ (k0_off1_eq i) (inb_cols i)).trans (congrArg (cols i) (harg5.read_unread x5)))) ((View.readAt_full arg6.view _ _).trans (harg6.read_unread x6))) ((View.readAt_unit arg7.view _ _ (k0_off1_eq i) (inb_cols i)).trans (congrArg (cols i) (harg7.read_unread x7)))))
  isplitl [H11]
  · iexists _; isplitr; swap; iexact H11; ipureintro
    exact ((View.read_writes_full arg11.view _ _ _ _).trans ((congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off1_eq i) (inb_cols i)).trans (congrArg (cols i) (harg5.read_unread x5)))) ((View.readAt_full arg6.view _ _).trans (harg6.read_unread x6))) ((View.readAt_unit arg7.view _ _ (k0_off1_eq i) (inb_cols i)).trans (congrArg (cols i) (harg7.read_unread x7)))) ((View.readAt_full arg11.view _ _).trans (harg11.read_unread x11)))))
  iexists _; isplitr; swap; iexact H12; ipureintro
  refine (View.read_writes_full arg12.view _ _ _ _).trans (congrArg k0_pay23 ((View.readAt_full arg11.view _ _).trans ?_))
  exact ((View.read_writes_full arg11.view _ _ _ _).trans ((congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off1_eq i) (inb_cols i)).trans (congrArg (cols i) (harg5.read_unread x5)))) ((View.readAt_full arg6.view _ _).trans (harg6.read_unread x6))) ((View.readAt_unit arg7.view _ _ (k0_off1_eq i) (inb_cols i)).trans (congrArg (cols i) (harg7.read_unread x7)))) ((View.readAt_full arg11.view _ _).trans (harg11.read_unread x11)))))

set_option maxHeartbeats 1000000 in
/-- A point of a middle row before its last block: the previous row's codes are stored, then this row's activation block and maxima. -/
theorem body_mid (hc1 : ¬ k0_cond1 i = 1#1) (hc2 : k0_cond2 i = 1#1) (hc3 : ¬ k0_cond3 i = 1#1) (hc4 : ¬ k0_cond4 i = 1#1) (E : Set ℕ) (K : PUnit → sProp 𝕄) :
    iprop(held c arg2 arg3 arg4 arg5 arg6 arg7 arg8 arg9 arg10 arg11 arg12 x2 x3 x4 x5 x6 x7 x8 x9 x10 x11 x12 ∗ (held c arg2 arg3 arg4 arg5 arg6 arg7 arg8 arg9 arg10 arg11 arg12 x2 x3 x4 x5 x6 x7 (k0_pay15 (slice i x10) x12) x9 (next10 i x2 x3 x4 x5 x6 x7 x10) (next11 i x2 x3 x4 x5 x6 x7 x11) x12 -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K := by
  simp only [cc0_gateup_eq_skeleton]
  unfold cc0_gateup_skel
  simp only [k0_part1_eq_skeleton, k0_part2_eq_skeleton, k0_part3_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact (View.read_writes_full arg8.view _ _ _ _).trans (congr (congrArg k0_pay15 ((View.readAt_unit arg10.view _ _ (k0_off3_eq i) (inb_slice i)).trans (congrArg (slice i) (harg10.read_unread x10)))) ((View.readAt_full arg12.view _ _).trans (harg12.read_unread x12)))
  isplitl [H9]
  · iexists _; isplitr; swap; iexact H9; ipureintro
    exact harg9.read_unread x9
  isplitl [H10]
  · iexists _; isplitr; swap; iexact H10; ipureintro
    refine (View.read_writes_cons_put arg10.view _ _ _ _ (k0_off3_eq i)).trans ?_
    rw [View.writes_nil, harg10.read_unread]
    exact congrArg (VecWindow.put x10 _ _) ((k0_pay3_eq _ _ _ _ _ _).trans (congr (congr (congr (congr (congr (congrArg k0_pay9 ((View.readAt_full arg2.view _ _).trans (harg2.read_unread x2))) ((View.readAt_full arg3.view _ _).trans (harg3.read_unread x3))) ((View.readAt_full arg4.view _ _).trans (harg4.read_unread x4))) ((View.readAt_unit arg5.view _ _ (k0_off4_eq i) (inb_cols i)).trans (congrArg (cols i) (harg5.read_unread x5)))) ((View.readAt_full arg6.view _ _).trans (harg6.read_unread x6))) ((View.readAt_unit arg7.view _ _ (k0_off4_eq i) (inb_cols i)).trans (congrArg (cols i) (harg7.read_unread x7)))))
  isplitl [H11]
  · iexists _; isplitr; swap; iexact H11; ipureintro
    exact ((View.read_writes_full arg11.view _ _ _ _).trans ((k0_pay4_eq i _ _ _ _ _ _ _).trans (congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off4_eq i) (inb_cols i)).trans (congrArg (cols i) (harg5.read_unread x5)))) ((View.readAt_full arg6.view _ _).trans (harg6.read_unread x6))) ((View.readAt_unit arg7.view _ _ (k0_off4_eq i) (inb_cols i)).trans (congrArg (cols i) (harg7.read_unread x7)))) ((View.readAt_full arg11.view _ _).trans (harg11.read_unread x11)))))
  iexists _; isplitr; swap; iexact H12; ipureintro
  exact harg12.read_unread x12

set_option maxHeartbeats 1000000 in
/-- The last point of a middle row. -/
theorem body_mid_last (hc1 : ¬ k0_cond1 i = 1#1) (hc2 : k0_cond2 i = 1#1) (hc3 : ¬ k0_cond3 i = 1#1) (hc4 : k0_cond4 i = 1#1) (E : Set ℕ) (K : PUnit → sProp 𝕄) :
    iprop(held c arg2 arg3 arg4 arg5 arg6 arg7 arg8 arg9 arg10 arg11 arg12 x2 x3 x4 x5 x6 x7 x8 x9 x10 x11 x12 ∗ (held c arg2 arg3 arg4 arg5 arg6 arg7 arg8 arg9 arg10 arg11 arg12 x2 x3 x4 x5 x6 x7 (k0_pay15 (slice i x10) x12) (scales x9 (next11 i x2 x3 x4 x5 x6 x7 x11)) (next10 i x2 x3 x4 x5 x6 x7 x10) (next11 i x2 x3 x4 x5 x6 x7 x11) (k0_pay23 (next11 i x2 x3 x4 x5 x6 x7 x11)) -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K := by
  simp only [cc0_gateup_eq_skeleton]
  unfold cc0_gateup_skel
  simp only [k0_part1_eq_skeleton, k0_part2_eq_skeleton, k0_part3_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact (View.read_writes_full arg8.view _ _ _ _).trans (congr (congrArg k0_pay15 ((View.readAt_unit arg10.view _ _ (k0_off3_eq i) (inb_slice i)).trans (congrArg (slice i) (harg10.read_unread x10)))) ((View.readAt_full arg12.view _ _).trans (harg12.read_unread x12)))
  isplitl [H9]
  · iexists _; isplitr; swap; iexact H9; ipureintro
    refine (read_scales arg9.view _ _ _ _ _ _).trans ?_
    rw [harg9.read_unread]
    refine congrArg (scales x9) ((View.readAt_full arg11.view _ _).trans ?_)
    exact ((View.read_writes_full arg11.view _ _ _ _).trans ((k0_pay4_eq i _ _ _ _ _ _ _).trans (congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off4_eq i) (inb_cols i)).trans (congrArg (cols i) (harg5.read_unread x5)))) ((View.readAt_full arg6.view _ _).trans (harg6.read_unread x6))) ((View.readAt_unit arg7.view _ _ (k0_off4_eq i) (inb_cols i)).trans (congrArg (cols i) (harg7.read_unread x7)))) ((View.readAt_full arg11.view _ _).trans (harg11.read_unread x11)))))
  isplitl [H10]
  · iexists _; isplitr; swap; iexact H10; ipureintro
    refine (View.read_writes_cons_put arg10.view _ _ _ _ (k0_off3_eq i)).trans ?_
    rw [View.writes_nil, harg10.read_unread]
    exact congrArg (VecWindow.put x10 _ _) ((k0_pay3_eq _ _ _ _ _ _).trans (congr (congr (congr (congr (congr (congrArg k0_pay9 ((View.readAt_full arg2.view _ _).trans (harg2.read_unread x2))) ((View.readAt_full arg3.view _ _).trans (harg3.read_unread x3))) ((View.readAt_full arg4.view _ _).trans (harg4.read_unread x4))) ((View.readAt_unit arg5.view _ _ (k0_off4_eq i) (inb_cols i)).trans (congrArg (cols i) (harg5.read_unread x5)))) ((View.readAt_full arg6.view _ _).trans (harg6.read_unread x6))) ((View.readAt_unit arg7.view _ _ (k0_off4_eq i) (inb_cols i)).trans (congrArg (cols i) (harg7.read_unread x7)))))
  isplitl [H11]
  · iexists _; isplitr; swap; iexact H11; ipureintro
    exact ((View.read_writes_full arg11.view _ _ _ _).trans ((k0_pay4_eq i _ _ _ _ _ _ _).trans (congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off4_eq i) (inb_cols i)).trans (congrArg (cols i) (harg5.read_unread x5)))) ((View.readAt_full arg6.view _ _).trans (harg6.read_unread x6))) ((View.readAt_unit arg7.view _ _ (k0_off4_eq i) (inb_cols i)).trans (congrArg (cols i) (harg7.read_unread x7)))) ((View.readAt_full arg11.view _ _).trans (harg11.read_unread x11)))))
  iexists _; isplitr; swap; iexact H12; ipureintro
  refine (View.read_writes_full arg12.view _ _ _ _).trans (congrArg k0_pay23 ((View.readAt_full arg11.view _ _).trans ?_))
  exact ((View.read_writes_full arg11.view _ _ _ _).trans ((k0_pay4_eq i _ _ _ _ _ _ _).trans (congr (congr (congr (congr (congr (congr (congrArg (runMax i) ((View.readAt_full arg2.view _ _).trans (harg2.read_unread x2))) ((View.readAt_full arg3.view _ _).trans (harg3.read_unread x3))) ((View.readAt_full arg4.view _ _).trans (harg4.read_unread x4))) ((View.readAt_unit arg5.view _ _ (k0_off4_eq i) (inb_cols i)).trans (congrArg (cols i) (harg5.read_unread x5)))) ((View.readAt_full arg6.view _ _).trans (harg6.read_unread x6))) ((View.readAt_unit arg7.view _ _ (k0_off4_eq i) (inb_cols i)).trans (congrArg (cols i) (harg7.read_unread x7)))) ((View.readAt_full arg11.view _ _).trans (harg11.read_unread x11)))))

set_option maxHeartbeats 1000000 in
/-- A point after the last row: only the last row's codes are stored. -/
theorem body_end (hc1 : ¬ k0_cond1 i = 1#1) (hc2 : ¬ k0_cond2 i = 1#1) (hc3 : k0_cond3 i = 1#1) (hc4 : ¬ k0_cond4 i = 1#1) (E : Set ℕ) (K : PUnit → sProp 𝕄) :
    iprop(held c arg2 arg3 arg4 arg5 arg6 arg7 arg8 arg9 arg10 arg11 arg12 x2 x3 x4 x5 x6 x7 x8 x9 x10 x11 x12 ∗ (held c arg2 arg3 arg4 arg5 arg6 arg7 arg8 arg9 arg10 arg11 arg12 x2 x3 x4 x5 x6 x7 (k0_pay15 (slice i x10) x12) x9 x10 x11 x12 -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K := by
  simp only [cc0_gateup_eq_skeleton]
  unfold cc0_gateup_skel
  simp only [k0_part1_eq_skeleton, k0_part2_eq_skeleton, k0_part3_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact (View.read_writes_full arg8.view _ _ _ _).trans (congr (congrArg k0_pay15 ((View.readAt_unit arg10.view _ _ (k0_off5_eq i) (inb_slice i)).trans (congrArg (slice i) (harg10.read_unread x10)))) ((View.readAt_full arg12.view _ _).trans (harg12.read_unread x12)))
  isplitl [H9]
  · iexists _; isplitr; swap; iexact H9; ipureintro
    exact harg9.read_unread x9
  isplitl [H10]
  · iexists _; isplitr; swap; iexact H10; ipureintro
    exact harg10.read_unread x10
  isplitl [H11]
  · iexists _; isplitr; swap; iexact H11; ipureintro
    exact harg11.read_unread x11
  iexists _; isplitr; swap; iexact H12; ipureintro
  exact harg12.read_unread x12

end Cert.GateUpIdeal.Hand

end
-- ==== Proof.GateUpIdealRun.lean ====
/- The run of the gate/up kernel: what its scratch holds before every grid point, the body's obligation at every point, and the launch. -/
module

public import proofs.«01_k».proof.Proof.GateUpIdealBody
public import Idealize.ShloMosaic.Lib.Claim
public import Idealize.ShloMosaic.Lib.Pipeline.TableIdle

@[expose] public section

set_option maxRecDepth 16384

noncomputable section

namespace Cert.GateUpIdeal.Hand

open Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The schedule -/

/-- Point `t` is row block `t / 18`, column block `t % 18`. -/
theorem coords_tab : ∀ t : Fin cfg0.N, (grid0.coords t 0).val = t.val / 18 ∧ (grid0.coords t 1).val = t.val % 18 := by decide +kernel

/-- The four conditions of the body, by the point's number. -/
theorem cond_tab : ∀ t : Fin cfg0.N, (k0_cond1 (grid0.coords t) = 1#1 ↔ t.val < 18) ∧ (k0_cond2 (grid0.coords t) = 1#1 ↔ 18 ≤ t.val ∧ t.val < 540)
    ∧ (k0_cond3 (grid0.coords t) = 1#1 ↔ 540 ≤ t.val) ∧ (k0_cond4 (grid0.coords t) = 1#1 ↔ t.val % 18 = 17 ∧ t.val < 540) := by decide +kernel

/-- The window of the codes is idle exactly in the first row, -/
theorem idle_tab : ∀ t : Fin cfg0.N, cfg0.idle 6 (cfg0.grid.coords t) = decide (t.val < 18) := by decide +kernel

/-- and is not written back there. -/
theorem flush_tab : ∀ t : Fin cfg0.N, t.val < 18 → (cfg0.win 6).flush t = false := by
  intro t; rw [Pipeline.Window.flush_eq_flushF]; revert t; decide +kernel

/-- The window of the scales is idle but at the last point of a row, -/
theorem idle7_tab : ∀ t : Fin cfg0.N, cfg0.idle 7 (cfg0.grid.coords t) = !decide (t.val % 18 = 17 ∧ t.val < 540) := by decide +kernel

/-- and is written back at the ends of the rows, the last one's block only after the points past the last row. -/
theorem flush7_tab : ∀ t : Fin cfg0.N, (cfg0.win 7).flush t = decide (t.val % 18 = 17 ∧ t.val ≠ 539) := by
  intro t; rw [Pipeline.Window.flush_eq_flushF]; revert t; decide +kernel

/-- A scale block waits in its buffer only past the last row. -/
theorem fresh7 : ∀ n, n ≤ cfg0.N → cfg0.fresh 7 n = (decide (n < 540) || decide (n = 558)) :=
  Pipeline.Cfg.fresh_tab cfg0 7 (fun n => decide (n < 540) || decide (n = 558)) rfl (fun t => by
    rw [idle7_tab, flush7_tab]
    have h : t.val < 558 := Nat.lt_of_lt_of_eq t.isLt N_0
    by_cases h1 : t.val < 539
    · by_cases h2 : t.val % 18 = 17
      · simp [h2, show t.val + 1 < 540 by omega, show t.val ≠ 539 by omega]
      · simp [h2, show t.val + 1 < 540 by omega, show t.val < 540 by omega]
    · by_cases h3 : t.val = 557
      · simp [h3]
      · by_cases h4 : t.val = 539
        · simp [h4]
        · simp [show ¬ t.val + 1 < 540 by omega, show ¬ t.val < 540 by omega, show ¬ t.val + 1 = 558 by omega, show ¬ t.val = 558 by omega, show ¬ t.val % 18 = 17 by omega])

theorem t_lt (t : Fin cfg0.N) : t.val < 558 := Nat.lt_of_lt_of_eq t.isLt N_0

/-- The point numbered `n` (the last one past the end). -/
def pt (n : ℕ) : Fin cfg0.N := ⟨min n 557, Nat.lt_of_lt_of_eq (by omega : min n 557 < 558) N_0.symm⟩

theorem pt_val (t : Fin cfg0.N) : pt t.val = t :=
  Fin.ext (by have h := t_lt t; show min t.val 557 = t.val; omega)

/-! ## What the scratch holds -/

/-- The activation block of point `n`. -/
def Yat (c : Dev nD) (n : ℕ) : Vec F S1x512x512 .f32 := blockY (grid0.coords (pt n)) (iblk m c 0 (pt n)) (iblk m c 1 (pt n)) (iblk m c 2 (pt n)) (iblk m c 3 (pt n)) (iblk m c 4 (pt n)) (iblk m c 5 (pt n))

/-- The running maxima of magnitudes after point `n`, of its row block. -/
def SSat (c : Dev nD) : ℕ → (S512x128.Idx → Elt F .f32)
  | 0 => next11 (grid0.coords (pt 0)) (iblk m c 0 (pt 0)) (iblk m c 1 (pt 0)) (iblk m c 2 (pt 0)) (iblk m c 3 (pt 0)) (iblk m c 4 (pt 0)) (iblk m c 5 (pt 0)) (fun _ => Scalar.ofBits .f32 0#32)
  | n + 1 => next11 (grid0.coords (pt (n + 1))) (iblk m c 0 (pt (n + 1))) (iblk m c 1 (pt (n + 1))) (iblk m c 2 (pt (n + 1))) (iblk m c 3 (pt (n + 1))) (iblk m c 4 (pt (n + 1))) (iblk m c 5 (pt (n + 1))) (SSat c n)

/-- The scales' reciprocals computed at point `n`, the last of its row block, -/
def FACat (c : Dev nD) (n : ℕ) : S512x1.Idx → Elt F .f32 := k0_pay23 (SSat m c n)

/-- and the scales themselves, as stored. -/
def SCat (c : Dev nD) (n : ℕ) : S1x4x128.Idx → Elt F .f32 := scales (fun _ => Scalar.ofBits .f32 0#32) (SSat m c n)

/-- The codes stored at point `n`, of the row block before it. -/
def OUTat (c : Dev nD) (n : ℕ) : S512x512.Idx → Elt F .fp8e4m3 := k0_pay15 (Yat m c (n - 18)) (FACat m c (n / 18 * 18 - 1))

/-- The scale block's four stores cover it: what it held before does not matter. -/
theorem scales_indep (x9 x9' : S1x4x128.Idx → Elt F .f32) (x11 : S512x128.Idx → Elt F .f32) : scales x9 x11 = scales x9' x11 := by
  funext y
  unfold scales
  by_cases h3 : ∀ a, (![0, 3, 0] : Fin 3 → ℕ) a ≤ (y a).val ∧ (y a).val < (![0, 3, 0] : Fin 3 → ℕ) a + S1x1x128.size a
  · unfold VecWindow.put; rw [dif_pos h3, dif_pos h3]
  by_cases h2 : ∀ a, (![0, 2, 0] : Fin 3 → ℕ) a ≤ (y a).val ∧ (y a).val < (![0, 2, 0] : Fin 3 → ℕ) a + S1x1x128.size a
  · unfold VecWindow.put; rw [dif_neg h3, dif_neg h3, dif_pos h2, dif_pos h2]
  by_cases h1 : ∀ a, (![0, 1, 0] : Fin 3 → ℕ) a ≤ (y a).val ∧ (y a).val < (![0, 1, 0] : Fin 3 → ℕ) a + S1x1x128.size a
  · unfold VecWindow.put; rw [dif_neg h3, dif_neg h3, dif_neg h2, dif_neg h2, dif_pos h1, dif_pos h1]
  have hy0 : (y 0).val < 1 := (y 0).isLt
  have hy1 : (y 1).val < 4 := (y 1).isLt
  have hy2 : (y 2).val < 128 := (y 2).isLt
  have key : ∀ k : ℕ, (¬ ∀ a, (![0, k, 0] : Fin 3 → ℕ) a ≤ (y a).val ∧ (y a).val < (![0, k, 0] : Fin 3 → ℕ) a + S1x1x128.size a) → (y 1).val ≠ k := by
    intro k hk e
    exact hk fun a => match a with
      | ⟨0, _⟩ => ⟨Nat.zero_le _, by show (y 0).val < 0 + 1; omega⟩
      | ⟨1, _⟩ => ⟨by show k ≤ (y 1).val; omega, by show (y 1).val < k + 1; omega⟩
      | ⟨2, _⟩ => ⟨Nat.zero_le _, by show (y 2).val < 0 + 128; omega⟩
  have h0 : ∀ a, (![0, 0, 0] : Fin 3 → ℕ) a ≤ (y a).val ∧ (y a).val < (![0, 0, 0] : Fin 3 → ℕ) a + S1x1x128.size a := by
    by_contra h0
    have := key 0 h0; have := key 1 h1; have := key 2 h2; have := key 3 h3
    omega
  unfold VecWindow.put
  rw [dif_neg h3, dif_neg h3, dif_neg h2, dif_neg h2, dif_neg h1, dif_neg h1, dif_pos h0, dif_pos h0]

theorem inb_at (j : ℕ) (hj : j < 18) : ∀ a, (![j, 0, 0] : Fin 3 → ℕ) a + S1x512x512.size a ≤ S18x512x512.size a := by
  intro a; match a with
  | ⟨0, _⟩ => show j + 1 ≤ 18; omega
  | ⟨1, _⟩ => exact Nat.le_refl 512
  | ⟨2, _⟩ => exact Nat.le_refl 512

/-- What is known of the scratch before point `n`. -/
structure Inv (c : Dev nD) (n : ℕ) (x10 : S18x512x512.Idx → Elt F .f32) (x11 : S512x128.Idx → Elt F .f32) (x12 : S512x1.Idx → Elt F .f32) : Prop where
  strip : ∀ (j : ℕ) (hj : j < 18), j < n → VecWindow.window x10 ![j, 0, 0] S1x512x512.size (inb_at j hj) = Yat m c (j + 18 * min 29 ((n - 1 - j) / 18))
  maxima : 0 < n → n ≤ 540 → x11 = SSat m c (n - 1)
  recip : 18 ≤ n → x12 = FACat m c (18 * min 29 (n / 18 - 1) + 17)

theorem inv_zero (c : Dev nD) (x10 : S18x512x512.Idx → Elt F .f32) (x11 : S512x128.Idx → Elt F .f32) (x12 : S512x1.Idx → Elt F .f32) : Inv m c 0 x10 x11 x12 :=
  ⟨fun j hj h => absurd h (Nat.not_lt_zero j), fun h => absurd h (Nat.lt_irrefl 0), fun h => absurd h (by omega)⟩

/-- In the first column the maxima start afresh. -/
theorem next11_fresh (i : grid0.Coords) (hi : (i 1).val = 0) (x2 : S512x4608.Idx → Elt F .fp8e4m3) (x3 : S512x1.Idx → Elt F .f32) (x4 : S4608x512.Idx → Elt F .fp8e4m3) (x5 : S1x9216.Idx → Elt F .f32)
    (x6 : S4608x512.Idx → Elt F .fp8e4m3) (x7 : S1x9216.Idx → Elt F .f32) (x x' : S512x128.Idx → Elt F .f32) :
    next11 i x2 x3 x4 x5 x6 x7 x = next11 i x2 x3 x4 x5 x6 x7 x' := by
  unfold next11 runMax k0_pay1
  rw [hi]
  rfl

theorem Yat_eq (c : Dev nD) (t : Fin cfg0.N) : blockY (grid0.coords t) (iblk m c 0 t) (iblk m c 1 t) (iblk m c 2 t) (iblk m c 3 t) (iblk m c 4 t) (iblk m c 5 t) = Yat m c t.val := by
  unfold Yat; rw [pt_val]

theorem slice_eq (i : grid0.Coords) (x : S18x512x512.Idx → Elt F .f32) (j : ℕ) (hj : j < 18) (h : (i 1).val = j) :
    slice i x = VecWindow.window x ![j, 0, 0] S1x512x512.size (inb_at j hj) := by
  subst h; rfl

theorem slice_inv {c : Dev nD} {t : Fin cfg0.N} {x10 : S18x512x512.Idx → Elt F .f32} {x11 : S512x128.Idx → Elt F .f32} {x12 : S512x1.Idx → Elt F .f32}
    (h : Inv m c t.val x10 x11 x12) (ht : 18 ≤ t.val) : slice (grid0.coords t) x10 = Yat m c (t.val - 18) := by
  have hN := t_lt t
  have e := (coords_tab t).2
  have hs := h.strip (t.val % 18) (by omega) (by omega)
  rw [show t.val % 18 + 18 * min 29 ((t.val - 1 - t.val % 18) / 18) = t.val - 18 by omega] at hs
  rw [← hs]
  exact slice_eq _ _ _ (by omega) e

theorem recip_inv {c : Dev nD} {n : ℕ} {x10 : S18x512x512.Idx → Elt F .f32} {x11 : S512x128.Idx → Elt F .f32} {x12 : S512x1.Idx → Elt F .f32}
    (h : Inv m c n x10 x11 x12) (ht : 18 ≤ n) (hN : n < 558) : x12 = FACat m c (n / 18 * 18 - 1) := by
  rw [h.recip ht]; congr 1; omega

/-- The maxima after a point that takes its block in. -/
theorem maxima_step {c : Dev nD} {t : Fin cfg0.N} {x10 : S18x512x512.Idx → Elt F .f32} {x11 : S512x128.Idx → Elt F .f32} {x12 : S512x1.Idx → Elt F .f32}
    (h : Inv m c t.val x10 x11 x12) (ht : t.val < 540) : next11 (grid0.coords t) (iblk m c 0 t) (iblk m c 1 t) (iblk m c 2 t) (iblk m c 3 t) (iblk m c 4 t) (iblk m c 5 t) x11 = SSat m c t.val := by
  have e := (coords_tab t).2
  rcases Nat.eq_zero_or_pos t.val with h0 | h0
  · have et : pt 0 = t := by rw [← h0]; exact pt_val t
    rw [h0, show SSat m c 0 = next11 (grid0.coords (pt 0)) (iblk m c 0 (pt 0)) (iblk m c 1 (pt 0)) (iblk m c 2 (pt 0)) (iblk m c 3 (pt 0)) (iblk m c 4 (pt 0)) (iblk m c 5 (pt 0)) (fun _ => Scalar.ofBits .f32 0#32) from rfl, et]
    exact next11_fresh _ (by omega) _ _ _ _ _ _ _ _
  · have hx := h.maxima h0 (by omega)
    obtain ⟨k, hk⟩ : ∃ k, t.val = k + 1 := ⟨t.val - 1, by omega⟩
    have et : pt (k + 1) = t := by rw [← hk]; exact pt_val t
    rw [hk, show SSat m c (k + 1) = next11 (grid0.coords (pt (k + 1))) (iblk m c 0 (pt (k + 1))) (iblk m c 1 (pt (k + 1))) (iblk m c 2 (pt (k + 1))) (iblk m c 3 (pt (k + 1))) (iblk m c 4 (pt (k + 1))) (iblk m c 5 (pt (k + 1))) (SSat m c k) from rfl, et]
    rw [hx, hk]; rfl

/-- One point before the last row's end keeps the invariant. -/
theorem inv_step {c : Dev nD} {t : Fin cfg0.N} {x10 : S18x512x512.Idx → Elt F .f32} {x11 : S512x128.Idx → Elt F .f32} {x12 : S512x1.Idx → Elt F .f32} {x12' : S512x1.Idx → Elt F .f32}
    (h : Inv m c t.val x10 x11 x12) (ht : t.val < 540)
    (h8 : t.val % 18 = 17 → x12' = k0_pay23 (next11 (grid0.coords t) (iblk m c 0 t) (iblk m c 1 t) (iblk m c 2 t) (iblk m c 3 t) (iblk m c 4 t) (iblk m c 5 t) x11))
    (h7 : t.val % 18 ≠ 17 → x12' = x12) :
    Inv m c (t.val + 1) (next10 (grid0.coords t) (iblk m c 0 t) (iblk m c 1 t) (iblk m c 2 t) (iblk m c 3 t) (iblk m c 4 t) (iblk m c 5 t) x10)
      (next11 (grid0.coords t) (iblk m c 0 t) (iblk m c 1 t) (iblk m c 2 t) (iblk m c 3 t) (iblk m c 4 t) (iblk m c 5 t) x11) x12' := by
  have e := (coords_tab t).2
  have hss := maxima_step m h ht
  refine ⟨fun j hj hjn => ?_, fun _ _ => hss, fun h9 => ?_⟩
  · unfold next10
    rw [Yat_eq m c t]
    by_cases hjt : j = t.val % 18
    · have e1 : t.val = j + 18 * min 29 ((t.val + 1 - 1 - j) / 18) := by omega
      rw [← e1]
      have e' : (grid0.coords t 1).val = j := by omega
      rw [e']
      exact VecWindow.window_put_same _ _ _ _ _
    · rw [VecWindow.window_put_of_disjoint _ _ _ _ _ _ _ (0 : Fin 3) (by
        show j + 1 ≤ (grid0.coords t 1).val ∨ (grid0.coords t 1).val + 1 ≤ j
        omega)]
      rw [h.strip j hj (by omega)]
      congr 1; omega
  · by_cases h88 : t.val % 18 = 17
    · rw [h8 h88, hss, show 18 * min 29 ((t.val + 1) / 18 - 1) + 17 = t.val by omega]
      rfl
    · rw [h7 h88, h.recip (by omega)]
      congr 1; omega

/-- A point after the last row changes nothing. -/
theorem inv_end {c : Dev nD} {n : ℕ} {x10 : S18x512x512.Idx → Elt F .f32} {x11 : S512x128.Idx → Elt F .f32} {x12 : S512x1.Idx → Elt F .f32}
    (h : Inv m c n x10 x11 x12) (hn : 540 ≤ n) (hN : n < 558) : Inv m c (n + 1) x10 x11 x12 := by
  refine ⟨fun j hj hjn => ?_, fun _ h' => absurd h' (by omega), fun h9 => ?_⟩
  · rw [h.strip j hj (by omega)]; congr 1; omega
  · rw [h.recip (by omega)]; congr 1; omega

/-- The invariant of the run before point `n`: the scratch as `Inv` says, and the generator register. -/
def Phi (c : Dev nD) (n : ℕ) : sProp 𝕄 :=
  iprop((∃ x10 : S18x512x512.Idx → Elt F .f32, ∃ x11 : S512x128.Idx → Elt F .f32, ∃ x12 : S512x1.Idx → Elt F .f32, ⌜Inv m c n x10 x11 x12⌝
      ∗ owns (c : Thread nD τ) (Memref.whole cc0_scratch0) fullShare x10 ∗ owns (c : Thread nD τ) (Memref.whole cc0_scratch1) fullShare x11
      ∗ owns (c : Thread nD τ) (Memref.whole cc0_scratch2) fullShare x12) ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUTat m c t.val
    | ⟨7, _⟩ => SCat m c (18 * min 29 (t.val / 18) + 17)
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = OUTat m c t.val := by dsimp only [dats]
theorem after0_7 (c : Dev nD) (t : Fin cfg0.N) : (dats m 0 c).after 7 t = SCat m c (18 * min 29 (t.val / 18) + 17) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Past the last row the buffer of the scales holds the last row's. -/
theorem before0_7 (c : Dev nD) (t : Fin cfg0.N) (ht : 540 ≤ t.val) (d) : (dats m 0 c).before 7 t d = SCat m c (18 * min 29 (t.val / 18) + 17) := by
  have hN := t_lt t
  rw [(dats m 0 c).before_out_traj 7 rfl (fun _ _ => rfl) (fun t' h0 hi hf => by
    have hN' := t_lt t'
    rw [fresh7 _ (Nat.le_of_lt t'.isLt)] at hf
    have h1 : ¬ t'.val < 540 := fun h => by rw [decide_eq_true h] at hf; exact Bool.noConfusion hf
    rw [after0_7, after0_7]
    show SCat m c (18 * min 29 (t'.val / 18) + 17) = SCat m c (18 * min 29 ((t'.val - 1) / 18) + 17)
    congr 1; omega) t.val t rfl d, fresh7 _ (Nat.le_of_lt t.isLt), if_neg (by simp; omega), after0_7]
  show SCat m c (18 * min 29 ((t.val - 1) / 18) + 17) = SCat m c (18 * min 29 (t.val / 18) + 17)
  congr 1; omega

/-- What the body is called with at point `t`, the windows one by one, -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns: `O` of the window of the codes, `S` of that of the scales. -/
def bodyPost (c : Dev nD) (t : Fin cfg0.N) (O S : sProp 𝕄) : sProp 𝕄 :=
  iprop(Phi m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ O ∗ S)

/-- The codes of a point after the first row are `OUTat`. -/
theorem out_eq {c : Dev nD} {t : Fin cfg0.N} {x10 : S18x512x512.Idx → Elt F .f32} {x11 : S512x128.Idx → Elt F .f32} {x12 : S512x1.Idx → Elt F .f32}
    (h : Inv m c t.val x10 x11 x12) (ht : 18 ≤ t.val) :
    OUTat m c t.val = k0_pay15 (slice (grid0.coords t) x10) x12 := by
  have hN := t_lt t
  rw [slice_inv m h ht, recip_inv m h ht hN]
  rfl

/-- The scales stored at the last point of a row are `SCat`. -/
theorem scale_eq {c : Dev nD} {t : Fin cfg0.N} {x10 : S18x512x512.Idx → Elt F .f32} {x11 : S512x128.Idx → Elt F .f32} {x12 : S512x1.Idx → Elt F .f32}
    (h : Inv m c t.val x10 x11 x12) (ht : t.val < 540) (h' : t.val % 18 = 17) (x9 : S1x4x128.Idx → Elt F .f32) :
    SCat m c (18 * min 29 (t.val / 18) + 17) = scales x9 (next11 (grid0.coords t) (iblk m c 0 t) (iblk m c 1 t) (iblk m c 2 t) (iblk m c 3 t) (iblk m c 4 t) (iblk m c 5 t) x11) := by
  rw [maxima_step m h ht, show 18 * min 29 (t.val / 18) + 17 = t.val by omega]
  exact scales_indep _ _ _

set_option maxHeartbeats 1000000 in
/-- The body at a point of the first row before its end. -/
theorem sound_first (c : Dev nD) (t : Fin cfg0.N) (h : t.val < 18) (h' : t.val % 18 ≠ 17) :
    bodyPre m c t ⊢ wp frame (wpE (defs₀ (F := F)) Variants.none c none) Set.univ (bodyAt0 t) (fun _ => bodyPost m c t (iprop(∃ d, owns (c : Thread nD τ) (st0_6 t) fullShare ((dats m 0 c).before 6 t d))) (iprop(∃ d, owns (c : Thread nD τ) (st0_7 t) fullShare ((dats m 0 c).before 7 t d)))) := by
  have hN := t_lt t
  have hc := cond_tab t
  unfold bodyPre bodyPost bodyAt0 Phi
  simp only [before0_0, before0_1, before0_2, before0_3, before0_4, before0_5]
  iintro ⟨⟨⟨%x10, %x11, %x12, %hI, H10, H11, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_first c (grid0.coords t) _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) x10 x11 x12
    (hc.1.2 (by omega)) (fun h => absurd (hc.2.1.1 h) (by omega)) (fun h => absurd (hc.2.2.1.1 h) (by omega)) (fun h => absurd (hc.2.2.2.1 h) (by omega)) Set.univ _)
  unfold held
  isplitl [H0 H1 H2 H3 H4 H5 H6 H7 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    iexact H12
  iintro ⟨H0, H1, H2, H3, H4, H5, H6, H7, H10, H11, H12⟩
  isplitl [H10 H11 H12 Hr]
  · isplitl [H10 H11 H12]
    · iexists _; iexists _; iexists _
      isplitr; swap
      · isplitl [H10]; · iexact H10
        isplitl [H11]; · iexact H11
        iexact H12
      ipureintro
      exact inv_step m hI (by omega) (fun h => absurd h (by omega)) (fun _ => rfl)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  iexists d7; iexact H7

set_option maxHeartbeats 1000000 in
/-- The body at the last point of the first row. -/
theorem sound_first_last (c : Dev nD) (t : Fin cfg0.N) (h : t.val < 18) (h' : t.val % 18 = 17) :
    bodyPre m c t ⊢ wp frame (wpE (defs₀ (F := F)) Variants.none c none) Set.univ (bodyAt0 t) (fun _ => bodyPost m c t (iprop(∃ d, owns (c : Thread nD τ) (st0_6 t) fullShare ((dats m 0 c).before 6 t d))) (iprop(owns (c : Thread nD τ) (st0_7 t) fullShare (SCat m c (18 * min 29 (t.val / 18) + 17))))) := by
  have hN := t_lt t
  have hc := cond_tab t
  unfold bodyPre bodyPost bodyAt0 Phi
  simp only [before0_0, before0_1, before0_2, before0_3, before0_4, before0_5]
  iintro ⟨⟨⟨%x10, %x11, %x12, %hI, H10, H11, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_first_last c (grid0.coords t) _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) x10 x11 x12
    (hc.1.2 (by omega)) (fun h => absurd (hc.2.1.1 h) (by omega)) (fun h => absurd (hc.2.2.1.1 h) (by omega)) (hc.2.2.2.2 (by omega)) Set.univ _)
  unfold held
  isplitl [H0 H1 H2 H3 H4 H5 H6 H7 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    iexact H12
  iintro ⟨H0, H1, H2, H3, H4, H5, H6, H7, H10, H11, H12⟩
  isplitl [H10 H11 H12 Hr]
  · isplitl [H10 H11 H12]
    · iexists _; iexists _; iexists _
      isplitr; swap
      · isplitl [H10]; · iexact H10
        isplitl [H11]; · iexact H11
        iexact H12
      ipureintro
      exact inv_step m hI (by omega) (fun _ => rfl) (fun h => absurd h (by omega))
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  rw [scale_eq m hI (by omega) h' ((dats m 0 c).before 7 t d7)]; iexact H7

set_option maxHeartbeats 1000000 in
/-- The body at a point of a middle row before its end. -/
theorem sound_mid (c : Dev nD) (t : Fin cfg0.N) (h : 18 ≤ t.val) (h2 : t.val < 540) (h' : t.val % 18 ≠ 17) :
    bodyPre m c t ⊢ wp frame (wpE (defs₀ (F := F)) Variants.none c none) Set.univ (bodyAt0 t) (fun _ => bodyPost m c t (iprop(owns (c : Thread nD τ) (st0_6 t) fullShare (OUTat m c t.val))) (iprop(∃ d, owns (c : Thread nD τ) (st0_7 t) fullShare ((dats m 0 c).before 7 t d)))) := by
  have hN := t_lt t
  have hc := cond_tab t
  unfold bodyPre bodyPost bodyAt0 Phi
  simp only [before0_0, before0_1, before0_2, before0_3, before0_4, before0_5]
  iintro ⟨⟨⟨%x10, %x11, %x12, %hI, H10, H11, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_mid c (grid0.coords t) _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) x10 x11 x12
    (fun h => absurd (hc.1.1 h) (by omega)) (hc.2.1.2 (by omega)) (fun h => absurd (hc.2.2.1.1 h) (by omega)) (fun h => absurd (hc.2.2.2.1 h) (by omega)) Set.univ _)
  unfold held
  isplitl [H0 H1 H2 H3 H4 H5 H6 H7 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    iexact H12
  iintro ⟨H0, H1, H2, H3, H4, H5, H6, H7, H10, H11, H12⟩
  isplitl [H10 H11 H12 Hr]
  · isplitl [H10 H11 H12]
    · iexists _; iexists _; iexists _
      isplitr; swap
      · isplitl [H10]; · iexact H10
        isplitl [H11]; · iexact H11
        iexact H12
      ipureintro
      exact inv_step m hI (by omega) (fun h => absurd h (by omega)) (fun _ => rfl)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [out_eq m hI (by omega)]; iexact H6
  iexists d7; iexact H7

set_option maxHeartbeats 1000000 in
/-- The body at the last point of a middle row. -/
theorem sound_mid_last (c : Dev nD) (t : Fin cfg0.N) (h : 18 ≤ t.val) (h2 : t.val < 540) (h' : t.val % 18 = 17) :
    bodyPre m c t ⊢ wp frame (wpE (defs₀ (F := F)) Variants.none c none) Set.univ (bodyAt0 t) (fun _ => bodyPost m c t (iprop(owns (c : Thread nD τ) (st0_6 t) fullShare (OUTat m c t.val))) (iprop(owns (c : Thread nD τ) (st0_7 t) fullShare (SCat m c (18 * min 29 (t.val / 18) + 17))))) := by
  have hN := t_lt t
  have hc := cond_tab t
  unfold bodyPre bodyPost bodyAt0 Phi
  simp only [before0_0, before0_1, before0_2, before0_3, before0_4, before0_5]
  iintro ⟨⟨⟨%x10, %x11, %x12, %hI, H10, H11, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_mid_last c (grid0.coords t) _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) x10 x11 x12
    (fun h => absurd (hc.1.1 h) (by omega)) (hc.2.1.2 (by omega)) (fun h => absurd (hc.2.2.1.1 h) (by omega)) (hc.2.2.2.2 (by omega)) Set.univ _)
  unfold held
  isplitl [H0 H1 H2 H3 H4 H5 H6 H7 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    iexact H12
  iintro ⟨H0, H1, H2, H3, H4, H5, H6, H7, H10, H11, H12⟩
  isplitl [H10 H11 H12 Hr]
  · isplitl [H10 H11 H12]
    · iexists _; iexists _; iexists _
      isplitr; swap
      · isplitl [H10]; · iexact H10
        isplitl [H11]; · iexact H11
        iexact H12
      ipureintro
      exact inv_step m hI (by omega) (fun _ => rfl) (fun h => absurd h (by omega))
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [out_eq m hI (by omega)]; iexact H6
  rw [scale_eq m hI (by omega) h' ((dats m 0 c).before 7 t d7)]; iexact H7

set_option maxHeartbeats 1000000 in
/-- The body at a point after the last row, before the end. -/
theorem sound_end (c : Dev nD) (t : Fin cfg0.N) (h : 540 ≤ t.val) :
    bodyPre m c t ⊢ wp frame (wpE (defs₀ (F := F)) Variants.none c none) Set.univ (bodyAt0 t) (fun _ => bodyPost m c t (iprop(owns (c : Thread nD τ) (st0_6 t) fullShare (OUTat m c t.val))) (iprop(∃ d, owns (c : Thread nD τ) (st0_7 t) fullShare ((dats m 0 c).before 7 t d)))) := by
  have hN := t_lt t
  have hc := cond_tab t
  unfold bodyPre bodyPost bodyAt0 Phi
  simp only [before0_0, before0_1, before0_2, before0_3, before0_4, before0_5]
  iintro ⟨⟨⟨%x10, %x11, %x12, %hI, H10, H11, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_end c (grid0.coords t) _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) x10 x11 x12
    (fun h => absurd (hc.1.1 h) (by omega)) (fun h => absurd (hc.2.1.1 h) (by omega)) (hc.2.2.1.2 (by omega)) (fun h => absurd (hc.2.2.2.1 h) (by omega)) Set.univ _)
  unfold held
  isplitl [H0 H1 H2 H3 H4 H5 H6 H7 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    iexact H12
  iintro ⟨H0, H1, H2, H3, H4, H5, H6, H7, H10, H11, H12⟩
  isplitl [H10 H11 H12 Hr]
  · isplitl [H10 H11 H12]
    · iexists _; iexists _; iexists _
      isplitr; swap
      · isplitl [H10]; · iexact H10
        isplitl [H11]; · iexact H11
        iexact H12
      ipureintro
      exact inv_end m hI h hN
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [out_eq m hI (by omega)]; iexact H6
  iexists d7; iexact H7

set_option maxHeartbeats 1000000 in
/-- The body at the last point: the scales of the last row are still in their buffer. -/
theorem sound_end_last (c : Dev nD) (t : Fin cfg0.N) (h : 540 ≤ t.val) :
    bodyPre m c t ⊢ wp frame (wpE (defs₀ (F := F)) Variants.none c none) Set.univ (bodyAt0 t) (fun _ => bodyPost m c t (iprop(owns (c : Thread nD τ) (st0_6 t) fullShare (OUTat m c t.val))) (iprop(owns (c : Thread nD τ) (st0_7 t) fullShare (SCat m c (18 * min 29 (t.val / 18) + 17))))) := by
  have hN := t_lt t
  have hc := cond_tab t
  unfold bodyPre bodyPost bodyAt0 Phi
  simp only [before0_0, before0_1, before0_2, before0_3, before0_4, before0_5]
  iintro ⟨⟨⟨%x10, %x11, %x12, %hI, H10, H11, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_end c (grid0.coords t) _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) x10 x11 x12
    (fun h => absurd (hc.1.1 h) (by omega)) (fun h => absurd (hc.2.1.1 h) (by omega)) (hc.2.2.1.2 (by omega)) (fun h => absurd (hc.2.2.2.1 h) (by omega)) Set.univ _)
  unfold held
  isplitl [H0 H1 H2 H3 H4 H5 H6 H7 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    iexact H12
  iintro ⟨H0, H1, H2, H3, H4, H5, H6, H7, H10, H11, H12⟩
  isplitl [H10 H11 H12 Hr]
  · isplitl [H10 H11 H12]
    · iexists _; iexists _; iexists _
      isplitr; swap
      · isplitl [H10]; · iexact H10
        isplitl [H11]; · iexact H11
        iexact H12
      ipureintro
      exact inv_end m hI h hN
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [out_eq m hI (by omega)]; iexact H6
  rw [before0_7 m c t h d7]; iexact H7

/-- What the obligation asks of window 6's buffer back. -/
def left6 (c : Dev nD) (t : Fin cfg0.N) : sProp 𝕄 :=
  match cfg0.idle 6 (cfg0.grid.coords t) with
  | true => match (cfg0.win 6).flush t with
    | false => iprop(∃ d, owns (c : Thread nD τ) ((cfg0.win 6).stage (cfg0.slots t 6)) fullShare ((dats m 0 c).before 6 t d))
    | true => owns (c : Thread nD τ) ((cfg0.win 6).stage (cfg0.slots t 6)) fullShare ((dats m 0 c).after 6 t)
  | false => owns (c : Thread nD τ) ((cfg0.win 6).stage (cfg0.slots t 6)) fullShare ((dats m 0 c).after 6 t)

/-- What the obligation asks of window 7's buffer back. -/
def left7 (c : Dev nD) (t : Fin cfg0.N) : sProp 𝕄 :=
  match cfg0.idle 7 (cfg0.grid.coords t) with
  | true => match (cfg0.win 7).flush t with
    | false => iprop(∃ d, owns (c : Thread nD τ) ((cfg0.win 7).stage (cfg0.slots t 7)) fullShare ((dats m 0 c).before 7 t d))
    | true => owns (c : Thread nD τ) ((cfg0.win 7).stage (cfg0.slots t 7)) fullShare ((dats m 0 c).after 7 t)
  | false => owns (c : Thread nD τ) ((cfg0.win 7).stage (cfg0.slots t 7)) fullShare ((dats m 0 c).after 7 t)

theorem left6_idle (c : Dev nD) (t : Fin cfg0.N) (h : t.val < 18) : left6 m c t = iprop(∃ d, owns (c : Thread nD τ) (st0_6 t) fullShare ((dats m 0 c).before 6 t d)) := by
  unfold left6; rw [idle_tab t, flush_tab t h, decide_eq_true h]
theorem left6_live (c : Dev nD) (t : Fin cfg0.N) (h : ¬ t.val < 18) : left6 m c t = iprop(owns (c : Thread nD τ) (st0_6 t) fullShare (OUTat m c t.val)) := by
  unfold left6; rw [idle_tab t, decide_eq_false h]; rfl
theorem left7_idle (c : Dev nD) (t : Fin cfg0.N) (h : t.val % 18 ≠ 17) : left7 m c t = iprop(∃ d, owns (c : Thread nD τ) (st0_7 t) fullShare ((dats m 0 c).before 7 t d)) := by
  unfold left7
  rw [idle7_tab t, flush7_tab t, decide_eq_false (fun h' => h h'.1), decide_eq_false (fun h' => h h'.1)]; rfl
theorem left7_live (c : Dev nD) (t : Fin cfg0.N) (h : t.val % 18 = 17 ∧ t.val < 540) : left7 m c t = iprop(owns (c : Thread nD τ) (st0_7 t) fullShare (SCat m c (18 * min 29 (t.val / 18) + 17))) := by
  unfold left7
  rw [idle7_tab t, decide_eq_true h]; rfl
theorem left7_last (c : Dev nD) (t : Fin cfg0.N) (h : t.val % 18 = 17 ∧ 540 ≤ t.val) : left7 m c t = iprop(owns (c : Thread nD τ) (st0_7 t) fullShare (SCat m c (18 * min 29 (t.val / 18) + 17))) := by
  unfold left7
  rw [idle7_tab t, flush7_tab t, decide_eq_false (fun h' => absurd h'.2 (by omega)), decide_eq_true (⟨h.1, by omega⟩ : t.val % 18 = 17 ∧ t.val ≠ 539)]; rfl

/-- The body at every point. -/
theorem sound (c : Dev nD) (t : Fin cfg0.N) :
    bodyPre m c t ⊢ wp frame (wpE (defs₀ (F := F)) Variants.none c none) Set.univ (bodyAt0 t) (fun _ => bodyPost m c t (left6 m c t) (left7 m c t)) := by
  by_cases h9 : t.val < 18
  · rw [left6_idle m c t h9]
    by_cases h' : t.val % 18 = 17
    · rw [left7_live m c t ⟨h', by omega⟩]; exact sound_first_last m c t h9 h'
    · rw [left7_idle m c t h']; exact sound_first m c t h9 h'
  · rw [left6_live m c t h9]
    by_cases h2 : t.val < 540
    · by_cases h' : t.val % 18 = 17
      · rw [left7_live m c t ⟨h', h2⟩]; exact sound_mid_last m c t (by omega) h2 h'
      · rw [left7_idle m c t h']; exact sound_mid m c t (by omega) h2 h'
    · by_cases h' : t.val % 18 = 17
      · rw [left7_last m c t ⟨h', by omega⟩]; exact sound_end_last m c t (by omega)
      · rw [left7_idle m c t h']; exact sound_end m c t (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  have hs := sound m c t
  unfold left6 left7 at hs
  exact triple_restated hs rfl .rfl fun _ => .rfl

/-! ## The run and the frame -/

/-- Before the first point the scratch holds anything, -/
theorem phi_in (c : Dev nD) : Pipeline.ΦA spec0 c ⊢ (dats (F := F) m 0 c).Φ 0 := by
  show Pipeline.ΦA spec0 c ⊢ Phi m c 0
  unfold Pipeline.ΦA Phi
  rw [scopedRest0_eq]
  simp only [owns_whole]
  iintro ⟨⟨⟨%f10, H10⟩, ⟨%f11, H11⟩, ⟨%f12, H12⟩⟩, Hr⟩
  isplitl [H10 H11 H12]
  · iexists f10; iexists f11; iexists f12
    isplitr; swap
    · isplitl [H10]; · iexact H10
      isplitl [H11]; · iexact H11
      iexact H12
    ipureintro
    exact inv_zero m c _ _ _
  iexact Hr

/-- and after the last its contents are forgotten. -/
theorem phi_out (c : Dev nD) : (dats (F := F) m 0 c).Φ (Fin.last cfg0.N) ⊢ Pipeline.ΦA spec0 c := by
  show Phi m c cfg0.N ⊢ Pipeline.ΦA spec0 c
  unfold Pipeline.ΦA Phi
  rw [scopedRest0_eq]
  simp only [owns_whole]
  iintro ⟨⟨%x10, %x11, %x12, %hI, H10, H11, H12⟩, Hr⟩
  isplitl [H10 H11 H12]
  · isplitl [H10]; · iexists x10; iexact H10
    isplitl [H11]; · iexists x11; iexact H11
    iexists x12; iexact H12
  iexact Hr

set_option backward.isDefEq.respectTransparency.types false in
set_option maxHeartbeats 800000 in
/-- The launch: every array of the pipeline ends at what the proof data computes, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.GateUpIdeal.Hand

end
-- ==== Proof.DownSpec.lean ====
/- What the down projection computes, as one formula over extended reals. -/
module

public import Idealize.ShloMosaic.PureOps.Ideal
public import Idealize.ShloMosaic.Lib.Pointwise.Tactic
public import Idealize.ShloMosaic.Lib.Pointwise.Reshape
public import Idealize.ShloMosaic.Lib.Pointwise.Reduce
public import Idealize.ShloMosaic.Lib.MatmulPlain

@[expose] public section

noncomputable section

namespace Cert.DownSpec

open Idealize.ShloMosaic
open scoped BigOperators

/-- A plain product onto a zero accumulator, at a row and a column. -/
theorem mm_apply {M K N : ℕ} {φ₁ φ₂ : FTy} (a : FVec Ideal ⟨2, ![M, K]⟩ φ₁) (b : FVec Ideal ⟨2, ![K, N]⟩ φ₂) (r : Fin M) (n : Fin N) :
    FloatOps.matmul (DotDims.plain M K N) none a b (constant ⟨2, ![M, N]⟩ .f32 0x00000000#32) (ix2 r n) = ∑ k : Fin K, a (ix2 r k) * b (ix2 k n) := by
  refine (Ideal.matmul_plain_apply none a b _ r n).trans ?_
  rw [show constant (F := Ideal) ⟨2, ![M, N]⟩ .f32 0x00000000#32 (ValueIdx.ix2 r n) = (0 : EReal) from Ideal.ofBits_zero_f32, zero_add]
  rfl

/-- The product of row `r` of the codes with column `n` of the weights. -/
def dot (C : Shape.Idx ⟨2, ![15360, 9216]⟩ → EReal) (W : Shape.Idx ⟨2, ![9216, 4608]⟩ → EReal) (r : Fin 15360) (n : Fin 4608) : EReal :=
  ∑ k : Fin 9216, C (ix2 r k) * W (ix2 k n)

/-- The layer's output at row `r`, column `n`: the scaled product, divided by the root of its row's mean square plus epsilon, times one plus
    the gain, added to the residual. -/
def out (C : Shape.Idx ⟨2, ![15360, 9216]⟩ → EReal) (s : Fin 15360 → EReal) (W : Shape.Idx ⟨2, ![9216, 4608]⟩ → EReal)
    (ws g : Fin 4608 → EReal) (h : Shape.Idx ⟨2, ![15360, 4608]⟩ → EReal) (r : Fin 15360) (n : Fin 4608) : EReal :=
  h (ix2 r n) + Ideal.div (dot C W r n * s r * ws n)
    (Ideal.sqrt (Ideal.div (∑ k : Fin 4608, (dot C W r k * s r * ws k) * (dot C W r k * s r * ws k)) (Ideal.ofBits .f32 0x45900000#32)
      + Ideal.ofBits .f32 0x358637BD#32)) * (1 + g n)

theorem out_congr {C C' : Shape.Idx ⟨2, ![15360, 9216]⟩ → EReal} {s s' : Fin 15360 → EReal} {W W' : Shape.Idx ⟨2, ![9216, 4608]⟩ → EReal}
    {ws ws' g g' : Fin 4608 → EReal} {h h' : Shape.Idx ⟨2, ![15360, 4608]⟩ → EReal} {r : Fin 15360} {n : Fin 4608}
    (hC : C = C') (hW : W = W') (hh : h = h') (hs : ∀ r, s r = s' r) (hws : ∀ n, ws n = ws' n) (hg : ∀ n, g n = g' n) : out C s W ws g h r n = out C' s' W' ws' g' h' r n := by
  subst hC hW hh; obtain rfl := funext hs; obtain rfl := funext hws; obtain rfl := funext hg; rfl

end Cert.DownSpec

end
-- ==== Proof.DownAlgebra.lean ====
/- The arithmetic between the down kernel's order of operations and the formula of `DownSpec`, over extended reals. -/
module

public import proofs.«01_k».proof.Proof.DownSpec
public import Mathlib.Data.EReal.Inv

@[expose] public section

noncomputable section

namespace Cert.DownSpec

open Idealize.ShloMosaic
open scoped BigOperators

theorem sq_nonneg (a : EReal) : 0 ≤ a * a := by
  rcases le_total 0 a with h | h
  · exact EReal.mul_nonneg h h
  · exact EReal.mul_nonneg_iff.2 (.inr ⟨h, h⟩)

theorem ac1 (d s w : EReal) : d * s * w * (d * s * w) = d * w * (d * w) * (s * s) := by ac_rfl
theorem ac2 (a b c : EReal) : a * c * b = a * b * c := by ac_rfl
theorem ac3 (d w s D g : EReal) : d * w * (s * D) * g = d * s * w * D * g := by ac_rfl

/-- A factor goes out of a sum of terms that are not negative. -/
theorem sum_mul_of_nonneg {ι : Type} (S : Finset ι) (f : ι → EReal) (c : EReal) (hf : ∀ i, 0 ≤ f i) : ∑ i ∈ S, f i * c = (∑ i ∈ S, f i) * c := by
  classical
  induction S using Finset.induction_on with
  | empty => simp
  | insert a S ha ih =>
    rw [Finset.sum_insert ha, Finset.sum_insert ha, ih, EReal.right_distrib_of_nonneg (hf a) (Finset.sum_nonneg fun i _ => hf i)]

theorem ofBits_4608 : Ideal.ofBits .f32 0x45900000#32 = ((4608 : ℝ) : EReal) := by
  simp [Ideal.ofBits, Ideal.ieee, -EReal.coe_mul]; norm_num

theorem eps_pos : 0 < Ideal.ofBits .f32 0x358637BD#32 := by
  simp [Ideal.ofBits, Ideal.ieee, -EReal.coe_mul]

theorem sqrt_ne_zero {x : EReal} (h : 0 < x) : Ideal.sqrt x ≠ 0 := by
  induction x using EReal.rec with
  | bot => simp at h
  | top => exact EReal.top_ne_zero
  | coe r =>
    have hr : 0 < r := by exact_mod_cast h
    rw [Ideal.sqrt_coe, if_neg (not_lt.2 hr.le)]
    exact_mod_cast (Real.sqrt_pos.2 hr).ne'

theorem div_def {x y : EReal} (h : y ≠ 0) : Ideal.div x y = x * y⁻¹ := if_neg h

/-- A sum over `a * b` consecutive numbers, in `a` runs of `b`. -/
theorem sum_runs (f : ℕ → EReal) (a b : ℕ) : ∑ n ∈ Finset.range (a * b), f n = ∑ i ∈ Finset.range a, ∑ l ∈ Finset.range b, f (b * i + l) := by
  induction a with
  | zero => simp
  | succ a ih => rw [Nat.succ_mul, Finset.sum_range_add, ih, Finset.sum_range_succ, Nat.mul_comm b a]

/-- A row of 4608 numbers summed lane by lane: 128 lanes, nine column blocks, four quarters of a block. -/
theorem sum_lanes (f : ℕ → EReal) : ∑ l ∈ Finset.range 128, ∑ j ∈ Finset.range 9,
      ((f (512 * j + l) + f (512 * j + 128 + l)) + (f (512 * j + 256 + l) + f (512 * j + 384 + l))) = ∑ n ∈ Finset.range 4608, f n := by
  rw [show (4608 : ℕ) = 9 * 512 from rfl, sum_runs, Finset.sum_comm]
  refine Finset.sum_congr rfl fun j _ => ?_
  rw [show (512 : ℕ) = 4 * 128 from rfl, sum_runs]
  simp only [Finset.sum_range_succ (n := 3), Finset.sum_range_succ (n := 2), Finset.sum_range_succ (n := 1), Finset.sum_range_one, Finset.sum_add_distrib,
    Nat.mul_zero, Nat.mul_one, Nat.add_zero, Nat.add_assoc, add_assoc, Nat.reduceMul, Nat.zero_add]

/-- The kernel's order of operations: the row's factor from the unscaled products, one multiplication by it per element. -/
def kout (C : Shape.Idx ⟨2, ![15360, 9216]⟩ → EReal) (s : Fin 15360 → EReal) (W : Shape.Idx ⟨2, ![9216, 4608]⟩ → EReal)
    (ws g : Fin 4608 → EReal) (h : Shape.Idx ⟨2, ![15360, 4608]⟩ → EReal) (r : Fin 15360) (n : Fin 4608) : EReal :=
  h (ix2 r n) + dot C W r n * ws n * Ideal.div (s r)
    (Ideal.sqrt (Ideal.div (∑ k : Fin 4608, (dot C W r k * ws k) * (dot C W r k * ws k)) (Ideal.ofBits .f32 0x45900000#32) * (s r * s r)
      + Ideal.ofBits .f32 0x358637BD#32)) * (1 + g n)

theorem kout_eq (C : Shape.Idx ⟨2, ![15360, 9216]⟩ → EReal) (s : Fin 15360 → EReal) (W : Shape.Idx ⟨2, ![9216, 4608]⟩ → EReal)
    (ws g : Fin 4608 → EReal) (h : Shape.Idx ⟨2, ![15360, 4608]⟩ → EReal) (r : Fin 15360) (n : Fin 4608) :
    kout C s W ws g h r n = out C s W ws g h r n := by
  unfold kout out
  have h0 : ((4608 : ℝ) : EReal) ≠ 0 := EReal.coe_ne_zero.2 (by norm_num)
  have hsum : ∑ k : Fin 4608, (dot C W r k * s r * ws k) * (dot C W r k * s r * ws k)
      = (∑ k : Fin 4608, (dot C W r k * ws k) * (dot C W r k * ws k)) * (s r * s r) := by
    rw [← sum_mul_of_nonneg _ _ _ fun k => sq_nonneg _]
    exact Finset.sum_congr rfl fun k _ => ac1 _ _ _
  have hsq : Ideal.div (∑ k : Fin 4608, (dot C W r k * s r * ws k) * (dot C W r k * s r * ws k)) (Ideal.ofBits .f32 0x45900000#32)
      = Ideal.div (∑ k : Fin 4608, (dot C W r k * ws k) * (dot C W r k * ws k)) (Ideal.ofBits .f32 0x45900000#32) * (s r * s r) := by
    rw [hsum, ofBits_4608, div_def h0, div_def h0, ac2]
  rw [hsq]
  have hpos : 0 < Ideal.div (∑ k : Fin 4608, (dot C W r k * ws k) * (dot C W r k * ws k)) (Ideal.ofBits .f32 0x45900000#32) * (s r * s r)
      + Ideal.ofBits .f32 0x358637BD#32 := by
    rw [add_comm]
    refine EReal.add_pos_of_pos_of_nonneg eps_pos (EReal.mul_nonneg ?_ (sq_nonneg _))
    rw [ofBits_4608, div_def h0]
    exact EReal.mul_nonneg (Finset.sum_nonneg fun k _ => sq_nonneg _) (EReal.inv_nonneg_of_nonneg (EReal.coe_nonneg.2 (by norm_num)))
  rw [div_def (sqrt_ne_zero hpos), div_def (sqrt_ne_zero hpos)]
  rw [ac3]

end Cert.DownSpec

end
-- ==== Proof.GateUpSpec.lean ====
/- What the gate/up call computes, as formulas over extended reals: the two projections, the activation, a row's scale and its codes; and the
   arithmetic between the kernel's order of operations and theirs. -/
module

public import proofs.«01_k».proof.Proof.DownAlgebra
public import Idealize.ShloMosaic.Lib.Pipeline.Value

@[expose] public section

noncomputable section

namespace Cert.GateUpSpec

open Idealize.ShloMosaic
open scoped BigOperators

/-- A projection at row `r`, column `n`: the product of codes, times the row's and the column's scale. -/
def lin (C : Shape.Idx ⟨2, ![15360, 4608]⟩ → EReal) (s : Fin 15360 → EReal) (W : Shape.Idx ⟨2, ![4608, 9216]⟩ → EReal) (ws : Fin 9216 → EReal)
    (r : Fin 15360) (n : Fin 9216) : EReal :=
  (∑ k : Fin 4608, C (ix2 r k) * W (ix2 k n)) * s r * ws n

/-- The activation: gelu of the gate (tanh form, the outer product distributed), times the up projection. -/
def act (g u : EReal) : EReal :=
  (Ideal.ofBits .f32 0x3F000000#32 * g + Ideal.ofBits .f32 0x3F000000#32 * g
    * Ideal.tanh (Ideal.ofBits .f32 0x3F4C422A#32 * (g + Ideal.ofBits .f32 0x3D372713#32 * (g * (g * g))))) * u

/-- The activation depends on the arguments' values alone. -/
theorem act_congr {C C' : Shape.Idx ⟨2, ![15360, 4608]⟩ → EReal} {s s' : Fin 15360 → EReal} {W W' U U' : Shape.Idx ⟨2, ![4608, 9216]⟩ → EReal} {ws ws' us us' : Fin 9216 → EReal}
    (hC : C = C') (hW : W = W') (hU : U = U') (hs : ∀ r, s r = s' r) (hw : ∀ n, ws n = ws' n) (hu : ∀ n, us n = us' n) (r : Fin 15360) (n : Fin 9216) :
    act (lin C s W ws r n) (lin C s U us r n) = act (lin C' s' W' ws' r n) (lin C' s' U' us' r n) := by
  obtain rfl := hC
  obtain rfl := hW
  obtain rfl := hU
  obtain rfl := funext hs
  obtain rfl := funext hw
  obtain rfl := funext hu
  rfl

/-- The same with the two constants of the polynomial multiplied out. -/
def kact (g u : EReal) : EReal :=
  (Ideal.ofBits .f32 0x3F000000#32 * g + Ideal.ofBits .f32 0x3F000000#32 * g
    * Ideal.tanh (g * (Ideal.ofBits .f32 0x3F4C422A#32 + ((80338380498831 / 2251799813685248 : ℝ) : EReal) * (g * g)))) * u

/-- A row's scale, from its largest magnitude. -/
def scale (a : EReal) : EReal := if a = 0 then 1 else Ideal.div a (Ideal.ofBits .f32 0x43E00000#32)

/-- The largest of a row's magnitudes. -/
def amax (f : Fin 9216 → EReal) : EReal := Finset.univ.fold max ⊥ fun n => max (f n) (-f n)

/-- A code: the value over the scale, clipped. -/
def code (x s : EReal) : EReal := min (Ideal.ofBits .f32 0x43E00000#32) (max (Ideal.ofBits .f32 0xC3E00000#32) (Ideal.div x s))

/-- The same, through the scale's reciprocal. -/
def kcode (x y : EReal) : EReal := min (Ideal.ofBits .f32 0x43E00000#32) (max (Ideal.ofBits .f32 0xC3E00000#32) (x * y))

theorem ofBits_c0 : Ideal.ofBits .f32 0x3F4C422A#32 = ((6693141 / 8388608 : ℝ) : EReal) := by
  simp [Ideal.ofBits, Ideal.ieee, -EReal.coe_mul]; norm_num

theorem ofBits_k : Ideal.ofBits .f32 0x3D372713#32 = ((12003091 / 268435456 : ℝ) : EReal) := by
  simp [Ideal.ofBits, Ideal.ieee, -EReal.coe_mul]; norm_num

theorem ofBits_448 : Ideal.ofBits .f32 0x43E00000#32 = ((448 : ℝ) : EReal) := by
  simp [Ideal.ofBits, Ideal.ieee, -EReal.coe_mul]; norm_num

/-- The two forms of the polynomial under the tanh are equal. -/
theorem poly_eq (g : EReal) : g * (Ideal.ofBits .f32 0x3F4C422A#32 + ((80338380498831 / 2251799813685248 : ℝ) : EReal) * (g * g))
    = Ideal.ofBits .f32 0x3F4C422A#32 * (g + Ideal.ofBits .f32 0x3D372713#32 * (g * (g * g))) := by
  rw [ofBits_c0, ofBits_k]
  induction g using EReal.rec with
  | bot =>
    rw [EReal.bot_mul_bot, EReal.coe_mul_top_of_pos (by norm_num), EReal.coe_add_top, EReal.bot_mul_top, EReal.coe_mul_bot_of_pos (by norm_num),
      EReal.bot_add, EReal.coe_mul_bot_of_pos (by norm_num)]
  | top =>
    rw [EReal.top_mul_top, EReal.coe_mul_top_of_pos (by norm_num), EReal.coe_add_top, EReal.top_mul_top, EReal.coe_mul_top_of_pos (by norm_num),
      EReal.top_add_top, EReal.coe_mul_top_of_pos (by norm_num)]
  | coe r =>
    simp only [← EReal.coe_mul, ← EReal.coe_add]
    congr 1
    ring

theorem kact_eq (g u : EReal) : kact g u = act g u := by
  unfold kact act; rw [poly_eq]

theorem scale_ne_zero (a : EReal) : scale a ≠ 0 := by
  unfold scale
  split
  · exact one_ne_zero
  · rename_i h
    have h448 : ((448 : ℝ) : EReal) ≠ 0 := EReal.coe_ne_zero.2 (by norm_num)
    rw [ofBits_448, DownSpec.div_def h448, ← EReal.coe_inv]
    exact mul_ne_zero h (EReal.coe_ne_zero.2 (by norm_num))

theorem kcode_eq (x a : EReal) : kcode x (Ideal.div 1 (scale a)) = code x (scale a) := by
  unfold kcode code
  rw [DownSpec.div_def (scale_ne_zero a), DownSpec.div_def (scale_ne_zero a), one_mul]

/-! ## Three operations read at an index, at any shape -/

theorem clip_apply {s : Shape} {c1 c2 : Ideal .f32} {x : FVec Ideal s .f32} {h} {i : s.Idx} :
    truncf (F := Ideal) .fp8e4m3 (minimumf (broadcast s c1) (maximumf (broadcast s c2) x)) h i = min (α := EReal) c1 (max (α := EReal) c2 (x i)) := rfl

theorem div_apply {s : Shape} {x y : FVec Ideal s .f32} {i : s.Idx} : divf (F := Ideal) x y i = Ideal.div (x i) (y i) := rfl

theorem mul_apply {s : Shape} {x y : FVec Ideal s .f32} {i : s.Idx} : mulf (F := Ideal) x y i = (x i : EReal) * (y i : EReal) := rfl

theorem scale_apply {s : Shape} {z o k : Ideal .f32} {x : FVec Ideal s .f32} {i : s.Idx} :
    select (cmpf (F := Ideal) .oeq x (broadcast s z)) (broadcast s o) (divf x (broadcast s k)) i = if (x i : EReal) = z then o else Ideal.div (x i) k := by
  show (if BitVec.ofBool (decide ((x i : EReal) = z)) = 1#1 then o else Ideal.div (x i) k) = _
  by_cases h : (x i : EReal) = z
  · rw [if_pos h, decide_eq_true h, if_pos (by decide)]
  · rw [if_neg h, decide_eq_false h, if_neg (by decide)]

/-- The lane maximum of a row starts at minus infinity. -/
theorem ofBits_bot : Ideal.ofBits .f32 0xFF800000#32 = ⊥ := by
  simp [Ideal.ofBits, Ideal.ieee]

/-- A row's maximum. -/
theorem rowmax_apply {R C : ℕ} (v : FVec Ideal ⟨2, ![R, C]⟩ .f32) (h : Shape.Reduces ⟨2, ![R, C]⟩ [1] ⟨1, ![R]⟩) (h1 h2) (r : Fin R) :
    multiReduction (F := Ideal) .maximumf [1] ⟨1, ![R]⟩ v 0xFF800000#32 h h1 h2 (ix1 r) = Finset.univ.fold max (⊥ : EReal) fun n : Fin C => v (ix2 r n) := by
  refine (Ideal.multiReduction_maximumf_single _ _ _ _ _ _).trans ?_
  rw [show FloatOps.ofBits (F := Ideal) .f32 0xFF800000#32 = (⊥ : EReal) from ofBits_bot]
  refine congrArg (fun f => Finset.univ.fold max (⊥ : EReal) f) (funext fun n => congrArg v (funext fun a => Fin.ext ?_))
  match a with
  | ⟨0, _⟩ => rfl
  | ⟨1, _⟩ => rfl

/-- The scale of a row, as both programs compute it. -/
theorem rowscale_apply {R C : ℕ} (v : FVec Ideal ⟨2, ![R, C]⟩ .f32) (h : Shape.Reduces ⟨2, ![R, C]⟩ [1] ⟨1, ![R]⟩) (h1 h2)
    (hs : (⟨1, ![R]⟩ : Shape).ShapeCasts ⟨2, ![R, 1]⟩) (r : Fin R) :
    select (cmpf (F := Ideal) .oeq (shapeCast ⟨2, ![R, 1]⟩ (multiReduction (F := Ideal) .maximumf [1] ⟨1, ![R]⟩ v 0xFF800000#32 h h1 h2) hs)
        (broadcast ⟨2, ![R, 1]⟩ (Scalar.ofBits .f32 0x00000000#32))) (broadcast ⟨2, ![R, 1]⟩ (Scalar.ofBits .f32 0x3F800000#32))
        (divf (shapeCast ⟨2, ![R, 1]⟩ (multiReduction (F := Ideal) .maximumf [1] ⟨1, ![R]⟩ v 0xFF800000#32 h h1 h2) hs)
          (broadcast ⟨2, ![R, 1]⟩ (Scalar.ofBits .f32 0x43E00000#32))) (ix2 r 0)
      = scale (Finset.univ.fold max (⊥ : EReal) fun n : Fin C => v (ix2 r n)) := by
  refine scale_apply.trans ?_
  have e : shapeCast ⟨2, ![R, 1]⟩ (multiReduction (F := Ideal) .maximumf [1] ⟨1, ![R]⟩ v 0xFF800000#32 h h1 h2) hs (ix2 r 0)
      = Finset.univ.fold max (⊥ : EReal) fun n : Fin C => v (ix2 r n) := by
    refine (shapeCast_apply _ hs (ix2 r 0) (ix1 r) ?_).trans (rowmax_apply v h h1 h2 r)
    rw [Shape.rowMajor_val_two, Shape.rowMajor_val_one]
    show r.val = r.val * 1 + 0
    omega
  rw [e]
  unfold scale
  rw [show (Scalar.ofBits (F := Ideal) .f32 0x00000000#32 : EReal) = 0 from Ideal.ofBits_zero_f32,
    show (Scalar.ofBits (F := Ideal) .f32 0x3F800000#32 : EReal) = 1 from Ideal.ofBits_one_f32]
  rfl

end Cert.GateUpSpec

end
-- ==== Proof.GateUpPay.lean ====
/- The payloads of the gate/up kernel, read at an index. -/
module

public import proofs.«01_k».proof.Proof.GateUpIdealRun
public import proofs.«01_k».proof.Proof.GateUpSpec
public import Idealize.ShloMosaic.Lib.Pipeline.Value

@[expose] public section

set_option maxRecDepth 16384

noncomputable section

namespace Cert.GateUpIdeal.Hand

open Cert.GateUpIdeal Cert.GateUpIdeal.Gen Idealize.ShloMosaic Idealize.ShloMosaic.TcCoe Idealize.SL.Sem
open scoped BigOperators

/-! ## The payloads at an index -/

/-- The named constant's value. -/
theorem gelu_c1 : Named.named (F := Ideal) Cert.GateUpIdeal.κ "gelu_c1" (φ := .f32) 0x3D122279#32 = ((80338380498831 / 2251799813685248 : ℝ) : EReal) :=
  IdealRules.named_const.ideal_named_scalar _ _ _ _ rfl

theorem cols_apply (i : grid0.Coords) (x : S1x9216.Idx → EReal) (q : Fin 512) (n : Fin 9216) (hn : n.val = 512 * (i 1).val + q.val) :
    cols (F := Ideal) i x (ix2 0 q) = x (ix2 0 n) := by
  unfold cols VecWindow.window
  refine congrArg x (funext fun a => Fin.ext ?_)
  match a with
  | ⟨0, _⟩ => rfl
  | ⟨1, _⟩ => rw [Rect.emb_apply]; show 512 * (i 1).val + 1 * q.val = n.val; omega

theorem pay8_apply (a : Vec Ideal S512x4608 .fp8e4m3) (s : Vec Ideal S512x1 .f32) (b : Vec Ideal S4608x512 .fp8e4m3) (d : Vec Ideal S1x512 .f32)
    (b' : Vec Ideal S4608x512 .fp8e4m3) (d' : Vec Ideal S1x512 .f32) (p q : Fin 512) :
    k0_pay8 (F := Ideal) a s b d b' d' (ix2 p q)
      = GateUpSpec.kact ((∑ k : Fin 4608, a (ix2 p k) * b (ix2 k q)) * s (ix2 p 0) * d (ix2 0 q)) ((∑ k : Fin 4608, a (ix2 p k) * b' (ix2 k q)) * s (ix2 p 0) * d' (ix2 0 q)) := by
  unfold k0_pay8 GateUpSpec.kact
  rw [← gelu_c1]
  rw [← DownSpec.mm_apply (φ₁ := .fp8e4m3) (φ₂ := .fp8e4m3) a b p q, ← DownSpec.mm_apply (φ₁ := .fp8e4m3) (φ₂ := .fp8e4m3) a b' p q]
  generalize hM : matmul (F := Ideal) dot_S512x4608_S4608x512_S512x512_1_0_0_1_n_n none a b (constant S512x512 .f32 0x00000000#32) = M
  generalize hN : matmul (F := Ideal) dot_S512x4608_S4608x512_S512x512_1_0_0_1_n_n none a b' (constant S512x512 .f32 0x00000000#32) = N
  have hM' : FloatOps.matmul (DotDims.plain 512 4608 512) none a b (constant (F := Ideal) ⟨2, ![512, 512]⟩ .f32 0x00000000#32) = M := hM
  have hN' : FloatOps.matmul (DotDims.plain 512 4608 512) none a b' (constant (F := Ideal) ⟨2, ![512, 512]⟩ .f32 0x00000000#32) = N := hN
  rw [hM', hN']
  pointwise

theorem pay9_apply (a : Vec Ideal S512x4608 .fp8e4m3) (s : Vec Ideal S512x1 .f32) (b : Vec Ideal S4608x512 .fp8e4m3) (d : Vec Ideal S1x512 .f32)
    (b' : Vec Ideal S4608x512 .fp8e4m3) (d' : Vec Ideal S1x512 .f32) (p q : Fin 512) :
    k0_pay9 (F := Ideal) a s b d b' d' (ix3 0 p q) = k0_pay8 a s b d b' d' (ix2 p q) := by
  unfold k0_pay9
  generalize k0_pay8 a s b d b' d' = M
  pointwise

/-- A magnitude. -/
def mag (x : EReal) : EReal := max x (-x)

theorem abs_apply {s : Shape} {x : FVec Ideal s .f32} {i : s.Idx} : absf (F := Ideal) x i = mag (x i) := rfl

theorem slice_apply (M : FVec Ideal S512x512 .f32) (o : ℕ) (h : S512x512.Slices ![0, o] S512x128) (p : Fin 512) (l : Fin 128) (q : Fin 512) (hq : q.val = o + l.val) :
    extractStridedSlice S512x128 ![0, o] (absf (F := Ideal) M) h (ix2 p l) = mag (M (ix2 p q)) := by
  refine Eq.trans (congrArg (absf (F := Ideal) M) (funext fun a => Fin.ext ?_)) (abs_apply (i := ix2 p q))
  match a with
  | ⟨0, _⟩ => show 0 + p.val = p.val; omega
  | ⟨1, _⟩ => show o + l.val = q.val; omega

theorem first_col : ∀ k : Fin 18, Scalar.cmpi .eq (BitVec.ofNat 32 k.val) 0#32 = if k.val = 0 then 1#1 else 0#1 := by decide

theorem pay1_apply (i : grid0.Coords) (a b d e x : FVec Ideal S512x128 .f32) (p : Fin 512) (l : Fin 128) :
    k0_pay1 (F := Ideal) i a b d e x (ix2 p l)
      = if (i 1).val = 0 then max (α := EReal) (max (α := EReal) (a (ix2 p l)) (b (ix2 p l))) (max (α := EReal) (d (ix2 p l)) (e (ix2 p l)))
        else max (α := EReal) (x (ix2 p l)) (max (α := EReal) (max (α := EReal) (a (ix2 p l)) (b (ix2 p l))) (max (α := EReal) (d (ix2 p l)) (e (ix2 p l)))) := by
  unfold k0_pay1
  have h := first_col (i 1)
  by_cases h0 : (i 1).val = 0
  · rw [if_pos h0] at h ⊢
    simp only [h]
    pointwise
    exact if_pos rfl
  · rw [if_neg h0] at h ⊢
    simp only [h]
    pointwise
    exact if_neg (by decide)

/-- The four quarters of a block's row of magnitudes, lane by lane. -/
def quarters (M : Fin 512 → Fin 512 → EReal) (p : Fin 512) (l : Fin 128) : EReal :=
  max (max (mag (M p ⟨l.val, by omega⟩)) (mag (M p ⟨128 + l.val, by omega⟩))) (max (mag (M p ⟨256 + l.val, by omega⟩)) (mag (M p ⟨384 + l.val, by omega⟩)))

theorem runMax_apply (i : grid0.Coords) (a : Vec Ideal S512x4608 .fp8e4m3) (s : Vec Ideal S512x1 .f32) (b : Vec Ideal S4608x512 .fp8e4m3) (d : Vec Ideal S1x512 .f32)
    (b' : Vec Ideal S4608x512 .fp8e4m3) (d' : Vec Ideal S1x512 .f32) (x : FVec Ideal S512x128 .f32) (p : Fin 512) (l : Fin 128) :
    runMax (F := Ideal) i a s b d b' d' x (ix2 p l)
      = if (i 1).val = 0 then quarters (fun p q => k0_pay8 (F := Ideal) a s b d b' d' (ix2 p q)) p l
        else max (α := EReal) (x (ix2 p l)) (quarters (fun p q => k0_pay8 (F := Ideal) a s b d b' d' (ix2 p q)) p l) := by
  unfold runMax
  refine (pay1_apply _ _ _ _ _ _ p l).trans ?_
  unfold k0_pay11 k0_pay12 k0_pay13 k0_pay14 k0_pay10 quarters
  generalize k0_pay8 (F := Ideal) a s b d b' d' = M
  rw [slice_apply M 0 _ p l ⟨l.val, by omega⟩ (by show l.val = 0 + l.val; omega), slice_apply M 128 _ p l ⟨128 + l.val, by omega⟩ rfl,
    slice_apply M 256 _ p l ⟨256 + l.val, by omega⟩ rfl, slice_apply M 384 _ p l ⟨384 + l.val, by omega⟩ rfl]

theorem pay22_apply (x : FVec Ideal S512x128 .f32) (p : Fin 512) :
    k0_pay22 (F := Ideal) x (ix2 p 0) = GateUpSpec.scale (Finset.univ.fold max (⊥ : EReal) fun l : Fin 128 => x (ix2 p l)) := by
  unfold k0_pay22
  exact GateUpSpec.rowscale_apply x _ _ _ _ p

theorem pay23_apply (x : FVec Ideal S512x128 .f32) (p : Fin 512) :
    k0_pay23 (F := Ideal) x (ix2 p 0) = Ideal.div 1 (k0_pay22 (F := Ideal) x (ix2 p 0)) := by
  unfold k0_pay23
  generalize k0_pay22 (F := Ideal) x = M
  pointwise

theorem pay15_apply (y : Vec Ideal S1x512x512 .f32) (f : Vec Ideal S512x1 .f32) (p q : Fin 512) :
    k0_pay15 (F := Ideal) y f (ix2 p q) = GateUpSpec.kcode (y (ix3 0 p q)) (f (ix2 p 0)) := by
  unfold k0_pay15
  refine GateUpSpec.clip_apply.trans ?_
  rw [GateUpSpec.mul_apply]
  have h1 : shapeCast S512x512 y shapeCasts_S1x512x512_S512x512 (ix2 p q) = y (ix3 0 p q) := by pointwise
  have h2 : broadcastTo S512x512 f broadcasts_S512x1_S512x512 (ix2 p q) = f (ix2 p 0) := by pointwise
  rw [h1, h2]
  rfl

/-- The mask picks the diagonal. -/
theorem mask_apply (p l : Fin 128) : k0_pay24 (ix2 p l) = if p = l then 1#1 else 0#1 := by
  show BitVec.ofBool (BitVec.ofNat 32 (0 * 128 + p.val) == BitVec.ofNat 32 (0 * 128 + l.val)) = _
  have hp := p.isLt
  have hl := l.isLt
  rw [Nat.zero_mul, Nat.zero_add, Nat.zero_add]
  by_cases h : p = l
  · rw [if_pos h, h, beq_self_eq_true]; rfl
  · have h' : ¬ BitVec.ofNat 32 p.val = BitVec.ofNat 32 l.val := fun e => h (Fin.ext (by
      have := congrArg BitVec.toNat e
      rw [BitVec.toNat_ofNat, BitVec.toNat_ofNat] at this
      omega))
    rw [if_neg h, beq_eq_false_iff_ne.2 h']; rfl

/-- A column of 128 numbers, laid along the lanes: the sum over the rows of its product with the diagonal. -/
theorem pay6_apply (d : FVec Ideal S128x1 .f32) (l : Fin 128) : k0_pay6 (F := Ideal) k0_pay24 d (ix3 0 0 l) = d (ix2 l 0) := by
  unfold k0_pay6
  have hm := mask_apply
  generalize (k0_pay24) = K at hm ⊢
  have h : ∀ p : Fin 128, Scalar.select (K (ix2 p l)) (d (ix2 p 0) : EReal) 0 = if p = l then (d (ix2 p 0) : EReal) else 0 := fun p => by
    rw [hm]
    by_cases e : p = l
    · rw [if_pos e, if_pos e]; exact if_pos rfl
    · rw [if_neg e, if_neg e]; exact if_neg (by decide)
  have hs : (∑ p : Fin 128, Scalar.select (K (ix2 p l)) (d (ix2 p 0) : EReal) 0) = d (ix2 l 0) := by
    rw [Finset.sum_congr rfl fun p _ => h p, Finset.sum_ite_eq' Finset.univ l, if_pos (Finset.mem_univ l)]
  refine Eq.trans ?_ hs
  pointwise

/-- One row of the scale block. -/
theorem put_row (x : S1x4x128.Idx → EReal) (k' : ℕ) (w : S1x1x128.Idx → EReal) (k : Fin 4) (l : Fin 128) :
    VecWindow.put x ![0, k', 0] S1x1x128.size w (ix3 0 k l) = if k.val = k' then w (ix3 0 0 l) else x (ix3 0 k l) := by
  have hl := l.isLt
  unfold VecWindow.put
  by_cases h : k.val = k'
  · have hm : ∀ a : Fin 3, (![0, k', 0] : Fin 3 → ℕ) a ≤ (ix3 (0 : Fin 1) k l a).val ∧ (ix3 (0 : Fin 1) k l a).val < (![0, k', 0] : Fin 3 → ℕ) a + S1x1x128.size a := fun a => match a with
      | ⟨0, _⟩ => ⟨Nat.zero_le _, by show 0 < 0 + 1; omega⟩
      | ⟨1, _⟩ => ⟨by show k' ≤ k.val; omega, by show k.val < k' + 1; omega⟩
      | ⟨2, _⟩ => ⟨Nat.zero_le _, by show l.val < 0 + 128; omega⟩
    refine (dif_pos hm).trans ?_
    rw [if_pos h]
    refine congrArg w (funext fun a => Fin.ext ?_)
    match a with
    | ⟨0, _⟩ => rfl
    | ⟨1, _⟩ => show k.val - k' = 0; omega
    | ⟨2, _⟩ => rfl
  · have hm : ¬ ∀ a : Fin 3, (![0, k', 0] : Fin 3 → ℕ) a ≤ (ix3 (0 : Fin 1) k l a).val ∧ (ix3 (0 : Fin 1) k l a).val < (![0, k', 0] : Fin 3 → ℕ) a + S1x1x128.size a := fun hm => by
      have h1 : k' ≤ k.val := (hm 1).1
      have h2 : k.val < k' + 1 := (hm 1).2
      omega
    exact (dif_neg hm).trans (if_neg h).symm

theorem quarter_apply (M : FVec Ideal S512x1 .f32) (o : ℕ) (h : S512x1.Slices ![o, 0] S128x1) (l : Fin 128) (p : Fin 512) (hp : p.val = o + l.val) :
    extractStridedSlice S128x1 ![o, 0] M h (ix2 l 0) = M (ix2 p 0) := by
  refine congrArg M (funext fun a => Fin.ext ?_)
  match a with
  | ⟨0, _⟩ => show o + l.val = p.val; omega
  | ⟨1, _⟩ => rfl

/-- The scale block at a row and a lane: the scale of the token they number. -/
theorem scales_apply (z : S1x4x128.Idx → EReal) (x : FVec Ideal S512x128 .f32) (k : Fin 4) (l : Fin 128) (p : Fin 512) (hp : p.val = k.val * 128 + l.val) :
    scales (F := Ideal) z x (ix3 0 k l) = k0_pay22 (F := Ideal) x (ix2 p 0) := by
  have e0 : k0_pay25 (F := Ideal) x = k0_pay6 k0_pay24 (extractStridedSlice S128x1 ![0, 0] (k0_pay22 x) slices_S512x1_o0_0_S128x1) := rfl
  have e1 : k0_pay26 (F := Ideal) x = k0_pay6 k0_pay24 (extractStridedSlice S128x1 ![128, 0] (k0_pay22 x) slices_S512x1_o128_0_S128x1) := rfl
  have e2 : k0_pay27 (F := Ideal) x = extractStridedSlice S128x1 ![256, 0] (k0_pay22 x) slices_S512x1_o256_0_S128x1 := rfl
  have e3 : k0_pay7 (F := Ideal) (k0_pay22 x) k0_pay24 = k0_pay6 k0_pay24 (extractStridedSlice S128x1 ![384, 0] (k0_pay22 x) slices_S512x1_o384_0_S128x1) := rfl
  unfold scales
  rw [e0, e1, e2, e3]
  generalize k0_pay22 (F := Ideal) x = M
  refine (put_row _ 3 _ k l).trans ?_
  by_cases h3 : k.val = 3
  · rw [if_pos h3]; exact (pay6_apply _ l).trans (quarter_apply M 384 _ l p (by omega))
  rw [if_neg h3]
  refine (put_row _ 2 _ k l).trans ?_
  by_cases h2 : k.val = 2
  · rw [if_pos h2]; exact (pay6_apply _ l).trans (quarter_apply M 256 _ l p (by omega))
  rw [if_neg h2]
  refine (put_row _ 1 _ k l).trans ?_
  by_cases h1 : k.val = 1
  · rw [if_pos h1]; exact (pay6_apply _ l).trans (quarter_apply M 128 _ l p (by omega))
  rw [if_neg h1]
  refine (put_row _ 0 _ k l).trans ?_
  have hk := k.isLt
  rw [if_pos (by omega : k.val = 0)]
  exact (pay6_apply _ l).trans (quarter_apply M 0 _ l p (by omega))

end Cert.GateUpIdeal.Hand

end
-- ==== Proof.GateUpBlocks.lean ====
/- The gate/up kernel's blocks, read at an index: which element of which array each one is. -/
module

public import proofs.«01_k».proof.Proof.GateUpPay

@[expose] public section

set_option maxRecDepth 16384

noncomputable section

namespace Cert.GateUpIdeal.Hand

open Cert.GateUpIdeal Cert.GateUpIdeal.Gen Idealize.ShloMosaic Idealize.ShloMosaic.TcCoe Idealize.SL.Sem
open scoped BigOperators

variable (m : (ℓ : Loc nD τ sig) → Buf (Elt Ideal) ℓ) (ρ : Dev nD → PrngReg)

theorem V0_apply (c : Dev nD) (n : Fin 9216) : V m c main_v0 (ix2 0 n) = m ((c : Thread nD τ).loc main_arg3) (ix1 n) := by
  have h : V m c main_v0 = shapeCast S1x9216 (m ((c : Thread nD τ).loc main_arg3)) shapeCasts_S9216_S1x9216 := by
    show StableHlo.after hostOps0 _ (Proc.devRef .tc main_v0) = _
    after_results
    rfl
  rw [h]
  refine (shapeCast_addUnit_apply (n := 1) ![9216] _ shapeCasts_S9216_S1x9216 (ix2 0 n)).trans (congrArg _ (funext fun a => ?_))
  match a with
  | ⟨0, _⟩ => rfl

theorem V1_apply (c : Dev nD) (n : Fin 9216) : V m c main_v1 (ix2 0 n) = m ((c : Thread nD τ).loc main_arg5) (ix1 n) := by
  have h : V m c main_v1 = shapeCast S1x9216 (m ((c : Thread nD τ).loc main_arg5)) shapeCasts_S9216_S1x9216 := by
    show StableHlo.after hostOps0 _ (Proc.devRef .tc main_v1) = _
    after_results
    rfl
  rw [h]
  refine (shapeCast_addUnit_apply (n := 1) ![9216] _ shapeCasts_S9216_S1x9216 (ix2 0 n)).trans (congrArg _ (funext fun a => ?_))
  match a with
  | ⟨0, _⟩ => rfl

theorem V2_apply (c : Dev nD) (r : Fin 15360) : V m c main_v2 (ix2 r 0) = m ((c : Thread nD τ).loc main_arg1) (ix1 r) := by
  have h : V m c main_v2 = shapeCast S15360x1 (m ((c : Thread nD τ).loc main_arg1)) shapeCasts_S15360_S15360x1 := by
    show StableHlo.after hostOps0 _ (Proc.devRef .tc main_v2) = _
    after_results
    rfl
  rw [h]
  pointwise

theorem idx_0 : ∀ t : Fin cfg0.N, t.val < 540 → win0_0.index t (0 : Fin 2) = (t.val / 18) ∧ win0_0.index t (1 : Fin 2) = 0 := by decide +kernel

theorem emb_0 (t : Fin cfg0.N) (ht : t.val < 540) (p : Fin 512) (q : Fin 4608) (r : Fin 15360) (n : Fin 4608)
    (hr : r.val = (t.val / 18) * 512 + p.val) (hn : n.val = q.val) : ((cfg0.win 0).blk t).view.emb (ix2 p q) = ix2 r n := by
  obtain ⟨e0, e1⟩ := idx_0 t ht
  funext a; apply Fin.ext
  match a with
  | ⟨0, _⟩ => show win0_0.index t (0 : Fin 2) * 512 + 1 * p.val = r.val; rw [e0]; omega
  | ⟨1, _⟩ => show win0_0.index t (1 : Fin 2) * 4608 + 1 * q.val = n.val; rw [e1]; omega

theorem iblk_0 (c : Dev nD) (t : Fin cfg0.N) (ht : t.val < 540) (p : Fin 512) (q : Fin 4608) (r : Fin 15360) (n : Fin 4608)
    (hr : r.val = (t.val / 18) * 512 + p.val) (hn : n.val = q.val) : iblk m c 0 t (ix2 p q) = V m c main_arg0 (ix2 r n) := by
  show V m c main_arg0 (((cfg0.win 0).blk t).view.emb (ix2 p q)) = V m c main_arg0 (ix2 r n); rw [emb_0 t ht p q r n hr hn]

theorem idx_1 : ∀ t : Fin cfg0.N, t.val < 540 → win0_1.index t (0 : Fin 2) = (t.val / 18) ∧ win0_1.index t (1 : Fin 2) = 0 := by decide +kernel

theorem emb_1 (t : Fin cfg0.N) (ht : t.val < 540) (p : Fin 512) (q : Fin 1) (r : Fin 15360) (n : Fin 1)
    (hr : r.val = (t.val / 18) * 512 + p.val) (hn : n.val = q.val) : ((cfg0.win 1).blk t).view.emb (ix2 p q) = ix2 r n := by
  obtain ⟨e0, e1⟩ := idx_1 t ht
  funext a; apply Fin.ext
  match a with
  | ⟨0, _⟩ => show win0_1.index t (0 : Fin 2) * 512 + 1 * p.val = r.val; rw [e0]; omega
  | ⟨1, _⟩ => show win0_1.index t (1 : Fin 2) * 1 + 1 * q.val = n.val; rw [e1]; omega

theorem iblk_1 (c : Dev nD) (t : Fin cfg0.N) (ht : t.val < 540) (p : Fin 512) (q : Fin 1) (r : Fin 15360) (n : Fin 1)
    (hr : r.val = (t.val / 18) * 512 + p.val) (hn : n.val = q.val) : iblk m c 1 t (ix2 p q) = V m c main_v2 (ix2 r n) := by
  show V m c main_v2 (((cfg0.win 1).blk t).view.emb (ix2 p q)) = V m c main_v2 (ix2 r n); rw [emb_1 t ht p q r n hr hn]

theorem idx_2 : ∀ t : Fin cfg0.N, t.val < 540 → win0_2.index t (0 : Fin 2) = 0 ∧ win0_2.index t (1 : Fin 2) = (t.val % 18) := by decide +kernel

theorem emb_2 (t : Fin cfg0.N) (ht : t.val < 540) (p : Fin 4608) (q : Fin 512) (r : Fin 4608) (n : Fin 9216)
    (hr : r.val = p.val) (hn : n.val = (t.val % 18) * 512 + q.val) : ((cfg0.win 2).blk t).view.emb (ix2 p q) = ix2 r n := by
  obtain ⟨e0, e1⟩ := idx_2 t ht
  funext a; apply Fin.ext
  match a with
  | ⟨0, _⟩ => show win0_2.index t (0 : Fin 2) * 4608 + 1 * p.val = r.val; rw [e0]; omega
  | ⟨1, _⟩ => show win0_2.index t (1 : Fin 2) * 512 + 1 * q.val = n.val; rw [e1]; omega

theorem iblk_2 (c : Dev nD) (t : Fin cfg0.N) (ht : t.val < 540) (p : Fin 4608) (q : Fin 512) (r : Fin 4608) (n : Fin 9216)
    (hr : r.val = p.val) (hn : n.val = (t.val % 18) * 512 + q.val) : iblk m c 2 t (ix2 p q) = V m c main_arg2 (ix2 r n) := by
  show V m c main_arg2 (((cfg0.win 2).blk t).view.emb (ix2 p q)) = V m c main_arg2 (ix2 r n); rw [emb_2 t ht p q r n hr hn]

theorem idx_3 : ∀ t : Fin cfg0.N, t.val < 558 → win0_3.index t (0 : Fin 2) = 0 ∧ win0_3.index t (1 : Fin 2) = 0 := by decide +kernel

theorem emb_3 (t : Fin cfg0.N) (ht : t.val < 558) (p : Fin 1) (q : Fin 9216) (r : Fin 1) (n : Fin 9216)
    (hr : r.val = p.val) (hn : n.val = q.val) : ((cfg0.win 3).blk t).view.emb (ix2 p q) = ix2 r n := by
  obtain ⟨e0, e1⟩ := idx_3 t ht
  funext a; apply Fin.ext
  match a with
  | ⟨0, _⟩ => show win0_3.index t (0 : Fin 2) * 1 + 1 * p.val = r.val; rw [e0]; omega
  | ⟨1, _⟩ => show win0_3.index t (1 : Fin 2) * 9216 + 1 * q.val = n.val; rw [e1]; omega

theorem iblk_3 (c : Dev nD) (t : Fin cfg0.N) (ht : t.val < 558) (p : Fin 1) (q : Fin 9216) (r : Fin 1) (n : Fin 9216)
    (hr : r.val = p.val) (hn : n.val = q.val) : iblk m c 3 t (ix2 p q) = V m c main_v0 (ix2 r n) := by
  show V m c main_v0 (((cfg0.win 3).blk t).view.emb (ix2 p q)) = V m c main_v0 (ix2 r n); rw [emb_3 t ht p q r n hr hn]

theorem idx_4 : ∀ t : Fin cfg0.N, t.val < 540 → win0_4.index t (0 : Fin 2) = 0 ∧ win0_4.index t (1 : Fin 2) = (t.val % 18) := by decide +kernel

theorem emb_4 (t : Fin cfg0.N) (ht : t.val < 540) (p : Fin 4608) (q : Fin 512) (r : Fin 4608) (n : Fin 9216)
    (hr : r.val = p.val) (hn : n.val = (t.val % 18) * 512 + q.val) : ((cfg0.win 4).blk t).view.emb (ix2 p q) = ix2 r n := by
  obtain ⟨e0, e1⟩ := idx_4 t ht
  funext a; apply Fin.ext
  match a with
  | ⟨0, _⟩ => show win0_4.index t (0 : Fin 2) * 4608 + 1 * p.val = r.val; rw [e0]; omega
  | ⟨1, _⟩ => show win0_4.index t (1 : Fin 2) * 512 + 1 * q.val = n.val; rw [e1]; omega

theorem iblk_4 (c : Dev nD) (t : Fin cfg0.N) (ht : t.val < 540) (p : Fin 4608) (q : Fin 512) (r : Fin 4608) (n : Fin 9216)
    (hr : r.val = p.val) (hn : n.val = (t.val % 18) * 512 + q.val) : iblk m c 4 t (ix2 p q) = V m c main_arg4 (ix2 r n) := by
  show V m c main_arg4 (((cfg0.win 4).blk t).view.emb (ix2 p q)) = V m c main_arg4 (ix2 r n); rw [emb_4 t ht p q r n hr hn]

theorem idx_5 : ∀ t : Fin cfg0.N, t.val < 558 → win0_5.index t (0 : Fin 2) = 0 ∧ win0_5.index t (1 : Fin 2) = 0 := by decide +kernel

theorem emb_5 (t : Fin cfg0.N) (ht : t.val < 558) (p : Fin 1) (q : Fin 9216) (r : Fin 1) (n : Fin 9216)
    (hr : r.val = p.val) (hn : n.val = q.val) : ((cfg0.win 5).blk t).view.emb (ix2 p q) = ix2 r n := by
  obtain ⟨e0, e1⟩ := idx_5 t ht
  funext a; apply Fin.ext
  match a with
  | ⟨0, _⟩ => show win0_5.index t (0 : Fin 2) * 1 + 1 * p.val = r.val; rw [e0]; omega
  | ⟨1, _⟩ => show win0_5.index t (1 : Fin 2) * 9216 + 1 * q.val = n.val; rw [e1]; omega

theorem iblk_5 (c : Dev nD) (t : Fin cfg0.N) (ht : t.val < 558) (p : Fin 1) (q : Fin 9216) (r : Fin 1) (n : Fin 9216)
    (hr : r.val = p.val) (hn : n.val = q.val) : iblk m c 5 t (ix2 p q) = V m c main_v1 (ix2 r n) := by
  show V m c main_v1 (((cfg0.win 5).blk t).view.emb (ix2 p q)) = V m c main_v1 (ix2 r n); rw [emb_5 t ht p q r n hr hn]

theorem idx_6 : ∀ t : Fin cfg0.N, 18 ≤ t.val → win0_6.index t (0 : Fin 2) = (t.val / 18 - 1) ∧ win0_6.index t (1 : Fin 2) = (t.val % 18) := by decide +kernel

theorem emb_6 (t : Fin cfg0.N) (ht : 18 ≤ t.val) (p : Fin 512) (q : Fin 512) (r : Fin 15360) (n : Fin 9216)
    (hr : r.val = (t.val / 18 - 1) * 512 + p.val) (hn : n.val = (t.val % 18) * 512 + q.val) : ((cfg0.win 6).blk t).view.emb (ix2 p q) = ix2 r n := by
  obtain ⟨e0, e1⟩ := idx_6 t ht
  funext a; apply Fin.ext
  match a with
  | ⟨0, _⟩ => show win0_6.index t (0 : Fin 2) * 512 + 1 * p.val = r.val; rw [e0]; omega
  | ⟨1, _⟩ => show win0_6.index t (1 : Fin 2) * 512 + 1 * q.val = n.val; rw [e1]; omega

theorem idx_7 : ∀ t : Fin cfg0.N, win0_7.index t (0 : Fin 3) = min 29 (t.val / 18) ∧ win0_7.index t (1 : Fin 3) = 0 ∧ win0_7.index t (2 : Fin 3) = 0 := by decide +kernel

theorem emb_7 (t : Fin cfg0.N) (k : Fin 4) (l : Fin 128) (b : Fin 30) (hb : b.val = min 29 (t.val / 18)) :
    ((cfg0.win 7).blk t).view.emb (ix3 0 k l) = ix3 b k l := by
  obtain ⟨e0, e1, e2⟩ := idx_7 t
  funext a; apply Fin.ext
  match a with
  | ⟨0, _⟩ => show win0_7.index t (0 : Fin 3) * 1 + 1 * 0 = b.val; rw [e0]; omega
  | ⟨1, _⟩ => show win0_7.index t (1 : Fin 3) * 4 + 1 * k.val = k.val; rw [e1]; omega
  | ⟨2, _⟩ => show win0_7.index t (2 : Fin 3) * 128 + 1 * l.val = l.val; rw [e2]; omega

/-! ## The activations -/

/-- The activation at a row and a column, of the arguments. -/
def A (c : Dev nD) (r : Fin 15360) (n : Fin 9216) : EReal :=
  GateUpSpec.act
    (GateUpSpec.lin (m ((c : Thread nD τ).loc main_arg0)) (fun r => m ((c : Thread nD τ).loc main_arg1) (ix1 r)) (m ((c : Thread nD τ).loc main_arg2))
      (fun n => m ((c : Thread nD τ).loc main_arg3) (ix1 n)) r n)
    (GateUpSpec.lin (m ((c : Thread nD τ).loc main_arg0)) (fun r => m ((c : Thread nD τ).loc main_arg1) (ix1 r)) (m ((c : Thread nD τ).loc main_arg4))
      (fun n => m ((c : Thread nD τ).loc main_arg5) (ix1 n)) r n)

theorem block_apply (c : Dev nD) (t : Fin cfg0.N) (ht : t.val < 540) (p q : Fin 512) (r : Fin 15360) (n : Fin 9216)
    (hr : r.val = t.val / 18 * 512 + p.val) (hn : n.val = t.val % 18 * 512 + q.val) :
    k0_pay8 (F := Ideal) (iblk m c 0 t) (iblk m c 1 t) (iblk m c 2 t) (cols (grid0.coords t) (iblk m c 3 t)) (iblk m c 4 t) (cols (grid0.coords t) (iblk m c 5 t)) (ix2 p q)
      = A m c r n := by
  have hc := (coords_tab t).2
  refine (pay8_apply _ _ _ _ _ _ p q).trans ?_
  refine (GateUpSpec.kact_eq _ _).trans ?_
  rw [cols_apply (grid0.coords t) _ q n (by rw [hc]; omega), cols_apply (grid0.coords t) _ q n (by rw [hc]; omega),
    iblk_3 m c t (t_lt t) 0 n 0 n rfl rfl, iblk_5 m c t (t_lt t) 0 n 0 n rfl rfl, iblk_1 m c t ht p 0 r 0 hr rfl, V0_apply, V1_apply, V2_apply]
  unfold A GateUpSpec.lin
  refine congr (congrArg GateUpSpec.act ?_) ?_
  · congr 2
    refine Finset.sum_congr rfl fun k _ => ?_
    rw [iblk_0 m c t ht p k r k hr rfl, iblk_2 m c t ht k q k n rfl hn, V_main_arg0, V_main_arg2]
  · congr 2
    refine Finset.sum_congr rfl fun k _ => ?_
    rw [iblk_0 m c t ht p k r k hr rfl, iblk_4 m c t ht k q k n rfl hn, V_main_arg0, V_main_arg4]

theorem Yat_apply (c : Dev nD) (n : ℕ) (hn : n < 540) (p q : Fin 512) (r : Fin 15360) (k : Fin 9216)
    (hr : r.val = n / 18 * 512 + p.val) (hk : k.val = n % 18 * 512 + q.val) : Yat m c n (ix3 0 p q) = A m c r k := by
  have hv : (pt n).val = n := by show min n 557 = n; omega
  unfold Yat blockY
  refine (pay9_apply _ _ _ _ _ _ p q).trans ?_
  exact block_apply m c (pt n) (by omega) p q r k (by rw [hv]; exact hr) (by rw [hv]; exact hk)

end Cert.GateUpIdeal.Hand

end
-- ==== Proof.GateUpRefValue.lean ====
/- The reference of the gate/up call computes the formulas of `GateUpSpec`. -/
module

public import proofs.«01_k».proof.Proof.Gen.GateUpRefIdeal.Value
public import proofs.«01_k».proof.Proof.GateUpSpec
public import Idealize.ShloMosaic.Lib.MatmulPlain
public import Idealize.ShloMosaic.Lib.Pointwise.Reshape
public import Idealize.ShloMosaic.Lib.Pointwise.Reduce

@[expose] public section

set_option maxRecDepth 16384

noncomputable section

namespace Cert.GateUpRefIdeal.Hand

open Cert.GateUpRefIdeal Cert.GateUpRefIdeal.Gen Idealize.ShloMosaic Idealize.ShloMosaic.TcCoe
open scoped BigOperators

/-- The activation payload at a row and a column. -/
theorem pay4_apply (v0 : Vec Ideal S15360x4608 .fp8e4m3) (v1 : Vec Ideal S15360x1 .f32) (v3 : Vec Ideal S4608x9216 .fp8e4m3) (v4 : Vec Ideal S1x9216 .f32)
    (v14 : Vec Ideal S4608x9216 .fp8e4m3) (v15 : Vec Ideal S1x9216 .f32) (r : Fin 15360) (n : Fin 9216) :
    k0_pay4 (F := Ideal) v0 v1 v3 v4 v0 v1 v14 v15 (ix2 r n)
      = GateUpSpec.act (GateUpSpec.lin v0 (fun r => v1 (ix2 r 0)) v3 (fun n => v4 (ix2 0 n)) r n)
          (GateUpSpec.lin v0 (fun r => v1 (ix2 r 0)) v14 (fun n => v15 (ix2 0 n)) r n) := by
  unfold k0_pay4 GateUpSpec.act GateUpSpec.lin
  rw [← DownSpec.mm_apply (φ₁ := .fp8e4m3) (φ₂ := .fp8e4m3) v0 v3 r n, ← DownSpec.mm_apply (φ₁ := .fp8e4m3) (φ₂ := .fp8e4m3) v0 v14 r n]
  generalize hM : matmul (F := Ideal) dot_S15360x4608_S4608x9216_S15360x9216_1_0_0_1_n_n none v0 v3 (constant S15360x9216 .f32 0x00000000#32) = M
  generalize hN : matmul (F := Ideal) dot_S15360x4608_S4608x9216_S15360x9216_1_0_0_1_n_n none v0 v14 (constant S15360x9216 .f32 0x00000000#32) = N
  have hM' : FloatOps.matmul (DotDims.plain 15360 4608 9216) none v0 v3 (constant (F := Ideal) ⟨2, ![15360, 9216]⟩ .f32 0x00000000#32) = M := hM
  have hN' : FloatOps.matmul (DotDims.plain 15360 4608 9216) none v0 v14 (constant (F := Ideal) ⟨2, ![15360, 9216]⟩ .f32 0x00000000#32) = N := hN
  rw [hM', hN']
  pointwise

theorem pay5_apply (v0 : Vec Ideal S15360x4608 .fp8e4m3) (v1 : Vec Ideal S15360x1 .f32) (v3 : Vec Ideal S4608x9216 .fp8e4m3) (v4 : Vec Ideal S1x9216 .f32)
    (v14 : Vec Ideal S4608x9216 .fp8e4m3) (v15 : Vec Ideal S1x9216 .f32) (r : Fin 15360) (n : Fin 9216) :
    k0_pay5 (F := Ideal) v0 v1 v3 v4 v0 v1 v14 v15 (ix2 r n)
      = max (α := EReal) (k0_pay4 (F := Ideal) v0 v1 v3 v4 v0 v1 v14 v15 (ix2 r n)) (-(k0_pay4 (F := Ideal) v0 v1 v3 v4 v0 v1 v14 v15 (ix2 r n) : EReal)) := by
  unfold k0_pay5
  generalize k0_pay4 (F := Ideal) v0 v1 v3 v4 v0 v1 v14 v15 = M
  rfl

theorem pay1_apply (v : Vec Ideal S15360x9216 .f32) (r : Fin 15360) :
    k0_pay1 (F := Ideal) v (ix2 r 0) = GateUpSpec.scale (Finset.univ.fold max (⊥ : EReal) fun n : Fin 9216 => v (ix2 r n)) := by
  unfold k0_pay1
  exact GateUpSpec.rowscale_apply v _ _ _ _ r

theorem pay2_apply (x v : Vec Ideal S15360x9216 .f32) (r : Fin 15360) (n : Fin 9216) :
    k0_pay2 (F := Ideal) x v (ix2 r n) = GateUpSpec.code (x (ix2 r n)) (k0_pay1 (F := Ideal) v (ix2 r 0)) := by
  unfold k0_pay2
  refine GateUpSpec.clip_apply.trans ?_
  rw [GateUpSpec.div_apply]
  have h : broadcastTo S15360x9216 (k0_pay1 (F := Ideal) v) broadcasts_S15360x1_S15360x9216 (ix2 r n) = k0_pay1 (F := Ideal) v (ix2 r 0) := by
    generalize k0_pay1 (F := Ideal) v = M
    pointwise
  rw [h]
  rfl

/-- The scales' payload, lane-dense: scale `k * 128 + l` of block `b`. -/
theorem pay3_apply (v : Vec Ideal S15360x9216 .f32) (b : Fin 30) (k : Fin 4) (l : Fin 128) (r : Fin 15360) (hr : r.val = b.val * 512 + k.val * 128 + l.val) :
    k0_pay3 (F := Ideal) v (ix3 b k l) = k0_pay1 (F := Ideal) v (ix2 r 0) := by
  unfold k0_pay3
  generalize k0_pay1 (F := Ideal) v = M
  refine shapeCast_apply M _ (ix3 b k l) (ix2 r 0) ?_
  rw [Shape.rowMajor_val_two, Shape.rowMajor_val_three]
  show r.val * 1 + 0 = (b.val * 4 + k.val) * 128 + l.val
  omega

variable (m : (ℓ : Loc nD τ sig) → Buf (Elt Ideal) ℓ) (ρ : Dev nD → PrngReg)

/-- The one grid point. -/
abbrev t0 : Fin cfg0.N := ⟨0, by decide⟩

theorem V0_apply (c : Dev nD) (r : Fin 15360) : V m c main_v0 (ix2 r 0) = m ((c : Thread nD τ).loc main_arg1) (ix1 r) := by
  have h : V m c main_v0 = broadcastInDim S15360x1 ![0] bcast_S15360_S15360x1_0 (m ((c : Thread nD τ).loc main_arg1)) := by
    show StableHlo.after hostOps0 _ (Proc.devRef .tc main_v0) = _
    after_results
  rw [h]
  pointwise

theorem V1_apply (c : Dev nD) (n : Fin 9216) : V m c main_v1 (ix2 0 n) = m ((c : Thread nD τ).loc main_arg3) (ix1 n) := by
  have h : V m c main_v1 = broadcastInDim S1x9216 ![1] bcast_S9216_S1x9216_1 (m ((c : Thread nD τ).loc main_arg3)) := by
    show StableHlo.after hostOps0 _ (Proc.devRef .tc main_v1) = _
    after_results
  rw [h]
  pointwise

theorem V2_apply (c : Dev nD) (n : Fin 9216) : V m c main_v2 (ix2 0 n) = m ((c : Thread nD τ).loc main_arg5) (ix1 n) := by
  have h : V m c main_v2 = broadcastInDim S1x9216 ![1] bcast_S9216_S1x9216_1 (m ((c : Thread nD τ).loc main_arg5)) := by
    show StableHlo.after hostOps0 _ (Proc.devRef .tc main_v2) = _
    after_results
  rw [h]
  pointwise

theorem idx_0 : ∀ t : Fin cfg0.N, win0_0.index t (0 : Fin 2) = 0 ∧ win0_0.index t (1 : Fin 2) = 0 := by decide +kernel

theorem emb_0 (t : Fin cfg0.N) (j : S15360x4608.Idx) : ((cfg0.win 0).blk t).view.emb j = j := by
  obtain ⟨e0, e1⟩ := idx_0 t
  funext a; apply Fin.ext
  match a with
  | ⟨0, _⟩ => show win0_0.index t (0 : Fin 2) * 15360 + 1 * (j 0).val = (j 0).val; omega
  | ⟨1, _⟩ => show win0_0.index t (1 : Fin 2) * 4608 + 1 * (j 1).val = (j 1).val; omega

theorem iblk_0 (c : Dev nD) (t : Fin cfg0.N) : iblk m c 0 t = V m c main_arg0 := by
  funext j; show V m c main_arg0 (((cfg0.win 0).blk t).view.emb j) = V m c main_arg0 j; rw [emb_0]

theorem idx_1 : ∀ t : Fin cfg0.N, win0_1.index t (0 : Fin 2) = 0 ∧ win0_1.index t (1 : Fin 2) = 0 := by decide +kernel

theorem emb_1 (t : Fin cfg0.N) (j : S15360x1.Idx) : ((cfg0.win 1).blk t).view.emb j = j := by
  obtain ⟨e0, e1⟩ := idx_1 t
  funext a; apply Fin.ext
  match a with
  | ⟨0, _⟩ => show win0_1.index t (0 : Fin 2) * 15360 + 1 * (j 0).val = (j 0).val; omega
  | ⟨1, _⟩ => show win0_1.index t (1 : Fin 2) * 1 + 1 * (j 1).val = (j 1).val; omega

theorem iblk_1 (c : Dev nD) (t : Fin cfg0.N) : iblk m c 1 t = V m c main_v0 := by
  funext j; show V m c main_v0 (((cfg0.win 1).blk t).view.emb j) = V m c main_v0 j; rw [emb_1]

theorem idx_2 : ∀ t : Fin cfg0.N, win0_2.index t (0 : Fin 2) = 0 ∧ win0_2.index t (1 : Fin 2) = 0 := by decide +kernel

theorem emb_2 (t : Fin cfg0.N) (j : S4608x9216.Idx) : ((cfg0.win 2).blk t).view.emb j = j := by
  obtain ⟨e0, e1⟩ := idx_2 t
  funext a; apply Fin.ext
  match a with
  | ⟨0, _⟩ => show win0_2.index t (0 : Fin 2) * 4608 + 1 * (j 0).val = (j 0).val; omega
  | ⟨1, _⟩ => show win0_2.index t (1 : Fin 2) * 9216 + 1 * (j 1).val = (j 1).val; omega

theorem iblk_2 (c : Dev nD) (t : Fin cfg0.N) : iblk m c 2 t = V m c main_arg2 := by
  funext j; show V m c main_arg2 (((cfg0.win 2).blk t).view.emb j) = V m c main_arg2 j; rw [emb_2]

theorem idx_3 : ∀ t : Fin cfg0.N, win0_3.index t (0 : Fin 2) = 0 ∧ win0_3.index t (1 : Fin 2) = 0 := by decide +kernel

theorem emb_3 (t : Fin cfg0.N) (j : S1x9216.Idx) : ((cfg0.win 3).blk t).view.emb j = j := by
  obtain ⟨e0, e1⟩ := idx_3 t
  funext a; apply Fin.ext
  match a with
  | ⟨0, _⟩ => show win0_3.index t (0 : Fin 2) * 1 + 1 * (j 0).val = (j 0).val; omega
  | ⟨1, _⟩ => show win0_3.index t (1 : Fin 2) * 9216 + 1 * (j 1).val = (j 1).val; omega

theorem iblk_3 (c : Dev nD) (t : Fin cfg0.N) : iblk m c 3 t = V m c main_v1 := by
  funext j; show V m c main_v1 (((cfg0.win 3).blk t).view.emb j) = V m c main_v1 j; rw [emb_3]

theorem idx_4 : ∀ t : Fin cfg0.N, win0_4.index t (0 : Fin 2) = 0 ∧ win0_4.index t (1 : Fin 2) = 0 := by decide +kernel

theorem emb_4 (t : Fin cfg0.N) (j : S4608x9216.Idx) : ((cfg0.win 4).blk t).view.emb j = j := by
  obtain ⟨e0, e1⟩ := idx_4 t
  funext a; apply Fin.ext
  match a with
  | ⟨0, _⟩ => show win0_4.index t (0 : Fin 2) * 4608 + 1 * (j 0).val = (j 0).val; omega
  | ⟨1, _⟩ => show win0_4.index t (1 : Fin 2) * 9216 + 1 * (j 1).val = (j 1).val; omega

theorem iblk_4 (c : Dev nD) (t : Fin cfg0.N) : iblk m c 4 t = V m c main_arg4 := by
  funext j; show V m c main_arg4 (((cfg0.win 4).blk t).view.emb j) = V m c main_arg4 j; rw [emb_4]

theorem idx_5 : ∀ t : Fin cfg0.N, win0_5.index t (0 : Fin 2) = 0 ∧ win0_5.index t (1 : Fin 2) = 0 := by decide +kernel

theorem emb_5 (t : Fin cfg0.N) (j : S1x9216.Idx) : ((cfg0.win 5).blk t).view.emb j = j := by
  obtain ⟨e0, e1⟩ := idx_5 t
  funext a; apply Fin.ext
  match a with
  | ⟨0, _⟩ => show win0_5.index t (0 : Fin 2) * 1 + 1 * (j 0).val = (j 0).val; omega
  | ⟨1, _⟩ => show win0_5.index t (1 : Fin 2) * 9216 + 1 * (j 1).val = (j 1).val; omega

theorem iblk_5 (c : Dev nD) (t : Fin cfg0.N) : iblk m c 5 t = V m c main_v2 := by
  funext j; show V m c main_v2 (((cfg0.win 5).blk t).view.emb j) = V m c main_v2 j; rw [emb_5]

theorem idx_6 : ∀ t : Fin cfg0.N, win0_6.index t (0 : Fin 2) = 0 ∧ win0_6.index t (1 : Fin 2) = 0 := by decide +kernel

theorem emb_6 (t : Fin cfg0.N) (j : S15360x9216.Idx) : ((cfg0.win 6).blk t).view.emb j = j := by
  obtain ⟨e0, e1⟩ := idx_6 t
  funext a; apply Fin.ext
  match a with
  | ⟨0, _⟩ => show win0_6.index t (0 : Fin 2) * 15360 + 1 * (j 0).val = (j 0).val; omega
  | ⟨1, _⟩ => show win0_6.index t (1 : Fin 2) * 9216 + 1 * (j 1).val = (j 1).val; omega

theorem idx_7 : ∀ t : Fin cfg0.N, win0_7.index t (0 : Fin 3) = 0 ∧ win0_7.index t (1 : Fin 3) = 0 ∧ win0_7.index t (2 : Fin 3) = 0 := by decide +kernel

theorem emb_7 (t : Fin cfg0.N) (j : S30x4x128.Idx) : ((cfg0.win 7).blk t).view.emb j = j := by
  obtain ⟨e0, e1, e2⟩ := idx_7 t
  funext a; apply Fin.ext
  match a with
  | ⟨0, _⟩ => show win0_7.index t (0 : Fin 3) * 30 + 1 * (j 0).val = (j 0).val; omega
  | ⟨1, _⟩ => show win0_7.index t (1 : Fin 3) * 4 + 1 * (j 1).val = (j 1).val; omega
  | ⟨2, _⟩ => show win0_7.index t (2 : Fin 3) * 128 + 1 * (j 2).val = (j 2).val; omega

/-- The codes as one payload of whole arrays, -/
theorem out6_eq (x0 : Vec Ideal S15360x4608 .fp8e4m3) (x1 : Vec Ideal S15360x1 .f32) (x2 : Vec Ideal S4608x9216 .fp8e4m3) (x3 : Vec Ideal S1x9216 .f32)
    (x4 : Vec Ideal S4608x9216 .fp8e4m3) (x5 : Vec Ideal S1x9216 .f32) :
    out0_6 x0 x1 x2 x3 x4 x5 = k0_pay2 (k0_pay4 x0 x1 x2 x3 x0 x1 x4 x5) (k0_pay5 x0 x1 x2 x3 x0 x1 x4 x5) := by
  have hz : (![0, 0] : Fin 2 → Nat) = fun _ => 0 := funext fun a => by fin_cases a <;> rfl
  have hz3 : (![0, 0, 0] : Fin 3 → Nat) = fun _ => 0 := funext fun a => by fin_cases a <;> rfl
  unfold out0_6 k0_pay6
  rw [View.canon_unit_zero hz]
  repeat rw [View.ld_unit_zero hz]

/-- and the scales. -/
theorem out7_eq (x0 : Vec Ideal S15360x4608 .fp8e4m3) (x1 : Vec Ideal S15360x1 .f32) (x2 : Vec Ideal S4608x9216 .fp8e4m3) (x3 : Vec Ideal S1x9216 .f32)
    (x4 : Vec Ideal S4608x9216 .fp8e4m3) (x5 : Vec Ideal S1x9216 .f32) :
    out0_7 x0 x1 x2 x3 x4 x5 = k0_pay3 (k0_pay5 x0 x1 x2 x3 x0 x1 x4 x5) := by
  have hz : (![0, 0] : Fin 2 → Nat) = fun _ => 0 := funext fun a => by fin_cases a <;> rfl
  have hz3 : (![0, 0, 0] : Fin 3 → Nat) = fun _ => 0 := funext fun a => by fin_cases a <;> rfl
  unfold out0_7 k0_pay6
  rw [View.canon_unit_zero hz3]
  repeat rw [View.ld_unit_zero hz]

/-- The activation at a row and a column, of the arguments. -/
def A (c : Dev nD) (r : Fin 15360) (n : Fin 9216) : EReal :=
  GateUpSpec.act
    (GateUpSpec.lin (m ((c : Thread nD τ).loc main_arg0)) (fun r => m ((c : Thread nD τ).loc main_arg1) (ix1 r)) (m ((c : Thread nD τ).loc main_arg2))
      (fun n => m ((c : Thread nD τ).loc main_arg3) (ix1 n)) r n)
    (GateUpSpec.lin (m ((c : Thread nD τ).loc main_arg0)) (fun r => m ((c : Thread nD τ).loc main_arg1) (ix1 r)) (m ((c : Thread nD τ).loc main_arg4))
      (fun n => m ((c : Thread nD τ).loc main_arg5) (ix1 n)) r n)

theorem pay4_args (c : Dev nD) (r : Fin 15360) (n : Fin 9216) :
    k0_pay4 (F := Ideal) (V m c main_arg0) (V m c main_v0) (V m c main_arg2) (V m c main_v1) (V m c main_arg0) (V m c main_v0) (V m c main_arg4) (V m c main_v2) (ix2 r n)
      = A m c r n := by
  refine (pay4_apply _ _ _ _ _ _ r n).trans ?_
  unfold A GateUpSpec.lin
  dsimp only
  rw [V0_apply m c r, V1_apply m c n, V2_apply m c n, V_main_arg0, V_main_arg2, V_main_arg4]

theorem pay1_args (c : Dev nD) (r : Fin 15360) :
    k0_pay1 (F := Ideal) (k0_pay5 (F := Ideal) (V m c main_arg0) (V m c main_v0) (V m c main_arg2) (V m c main_v1) (V m c main_arg0) (V m c main_v0) (V m c main_arg4) (V m c main_v2)) (ix2 r 0)
      = GateUpSpec.scale (GateUpSpec.amax (A m c r)) := by
  refine (pay1_apply _ r).trans ?_
  unfold GateUpSpec.amax
  refine congrArg (fun f => GateUpSpec.scale (Finset.univ.fold max (⊥ : EReal) f)) (funext fun n => ?_)
  refine (pay5_apply _ _ _ _ _ _ r n).trans ?_
  rw [pay4_args]

/-- The codes of the reference. -/
def G6 (c : Dev nD) : S15360x9216.Idx → EReal := fun i => GateUpSpec.code (A m c (i 0) (i 1)) (GateUpSpec.scale (GateUpSpec.amax (A m c (i 0))))

/-- The row a lane-dense scale belongs to. -/
def row (b : Fin 30) (k : Fin 4) (l : Fin 128) : Fin 15360 := ⟨b.val * 512 + k.val * 128 + l.val, by omega⟩

/-- The scales of the reference. -/
def G7 (c : Dev nD) : S30x4x128.Idx → EReal := fun i => GateUpSpec.scale (GateUpSpec.amax (A m c (row (i 0) (i 1) (i 2))))

theorem final6 (c : Dev nD) : (dats m 0 c).arrAt 6 cfg0.N = G6 m c := by
  refine (dats m 0 c).arrAt_eq_of_cover 6 (G6 m c) (fun t _ => ?_) (fun i => ?_)
  · rw [Value.flushed6, out6_eq, iblk_0, iblk_1, iblk_2, iblk_3, iblk_4, iblk_5]
    funext j
    show k0_pay2 (F := Ideal) _ _ j = G6 m c (((cfg0.win 6).blk t).view.emb j)
    rw [emb_6]
    obtain ⟨r, n, rfl⟩ : ∃ r n, j = ix2 r n := ⟨j 0, j 1, (ix2_eta (n0 := 15360) (n1 := 9216) j).symm⟩
    refine (pay2_apply _ _ r n).trans ?_
    rw [pay4_args, pay1_args]
    rfl
  · have h := ((cfg0.win 6).blk t0).view.emb_mem_set i
    rw [emb_6] at h
    exact ⟨t0, by decide +kernel, h⟩

theorem final7 (c : Dev nD) : (dats m 0 c).arrAt 7 cfg0.N = G7 m c := by
  refine (dats m 0 c).arrAt_eq_of_cover 7 (G7 m c) (fun t _ => ?_) (fun i => ?_)
  · rw [Value.flushed7, out7_eq, iblk_0, iblk_1, iblk_2, iblk_3, iblk_4, iblk_5]
    funext j
    show k0_pay3 (F := Ideal) _ j = G7 m c (((cfg0.win 7).blk t).view.emb j)
    rw [emb_7]
    obtain ⟨b, k, l, rfl⟩ : ∃ b k l, j = ix3 b k l := ⟨j 0, j 1, j 2, (ix3_eta (n0 := 30) (n1 := 4) (n2 := 128) j).symm⟩
    refine (pay3_apply _ b k l (row b k l) rfl).trans ?_
    rw [pay1_args]
    rfl
  · have h := ((cfg0.win 7).blk t0).view.emb_mem_set i
    rw [emb_7] at h
    exact ⟨t0, by decide +kernel, h⟩

end Cert.GateUpRefIdeal.Hand

end
-- ==== Proof.GateUpValue.lean ====
/- The arrays the gate/up kernel leaves are the formulas of `GateUpSpec`: the running maxima taken together, the codes and the scales at an
   index; and the two programs set side by side. -/
module

public import proofs.«01_k».proof.Proof.GateUpBlocks
public import proofs.«01_k».proof.Proof.GateUpRefValue
public import proofs.«01_k».proof.Defs
public import Idealize.ShloMosaic.Lib.Pipeline.Value

@[expose] public section

set_option maxRecDepth 16384

noncomputable section

namespace Cert.GateUpIdeal.Hand

open Cert.GateUpIdeal Cert.GateUpIdeal.Gen Idealize.ShloMosaic Idealize.ShloMosaic.TcCoe Idealize.SL.Sem
open scoped BigOperators

variable (m : (ℓ : Loc nD τ sig) → Buf (Elt Ideal) ℓ) (ρ : Dev nD → PrngReg)

/-! ## The running maxima -/

/-- The magnitude of an activation, at a column number. -/
def mg (c : Dev nD) (r : Fin 15360) (k : ℕ) : EReal := if h : k < 9216 then mag (A m c r ⟨k, h⟩) else ⊥

/-- The four magnitudes of one lane and one block of columns. -/
def four (c : Dev nD) (r : Fin 15360) (j l : ℕ) : EReal :=
  max (max (mg m c r (512 * j + l)) (mg m c r (512 * j + 128 + l))) (max (mg m c r (512 * j + 256 + l)) (mg m c r (512 * j + 384 + l)))

/-- A point's four quarters are the magnitudes of its columns. -/
theorem quarters_apply (c : Dev nD) (t : Fin cfg0.N) (ht : t.val < 540) (p : Fin 512) (l : Fin 128) (r : Fin 15360) (hr : r.val = t.val / 18 * 512 + p.val) :
    quarters (fun p q => k0_pay8 (F := Ideal) (iblk m c 0 t) (iblk m c 1 t) (iblk m c 2 t) (cols (grid0.coords t) (iblk m c 3 t)) (iblk m c 4 t) (cols (grid0.coords t) (iblk m c 5 t)) (ix2 p q)) p l
      = four m c r (t.val % 18) l.val := by
  have hl := l.isLt
  have e : ∀ (o : ℕ) (k : ℕ) (q : Fin 512), q.val = o + l.val → k = 512 * (t.val % 18) + o + l.val →
      mag (k0_pay8 (F := Ideal) (iblk m c 0 t) (iblk m c 1 t) (iblk m c 2 t) (cols (grid0.coords t) (iblk m c 3 t)) (iblk m c 4 t) (cols (grid0.coords t) (iblk m c 5 t)) (ix2 p q)) = mg m c r k := by
    intro o k q hq hk
    have hq' := q.isLt
    have hk' : k < 9216 := by omega
    unfold mg
    rw [dif_pos hk', block_apply m c t ht p q r ⟨k, hk'⟩ hr (by show k = _; omega)]
  unfold quarters four
  dsimp only
  rw [e 0 _ ⟨l.val, by omega⟩ (by show l.val = _; omega) (by rw [Nat.add_zero]), e 128 _ ⟨128 + l.val, by omega⟩ rfl rfl, e 256 _ ⟨256 + l.val, by omega⟩ rfl rfl,
    e 384 _ ⟨384 + l.val, by omega⟩ rfl rfl]

/-- The running maxima after point `n`: of the columns seen so far in this row of blocks. -/
theorem SSat_apply (c : Dev nD) (p : Fin 512) (l : Fin 128) : ∀ (n : ℕ) (hn : n < 540) (r : Fin 15360) (hr : r.val = n / 18 * 512 + p.val),
    SSat m c n (ix2 p l) = (Finset.range (n % 18 + 1)).sup fun j => four m c r j l.val
  | 0, hn, r, hr => by
    have hv : (pt 0).val = 0 := rfl
    rw [show SSat m c 0 = next11 (grid0.coords (pt 0)) (iblk m c 0 (pt 0)) (iblk m c 1 (pt 0)) (iblk m c 2 (pt 0)) (iblk m c 3 (pt 0)) (iblk m c 4 (pt 0)) (iblk m c 5 (pt 0)) (fun _ => Scalar.ofBits (F := Ideal) .f32 0#32) from rfl]
    unfold next11
    rw [runMax_apply, if_pos (by rw [(coords_tab (pt 0)).2]; rfl), quarters_apply m c (pt 0) (by omega) p l r (by rw [hv]; exact hr), hv]
    show _ = (Finset.range 1).sup _
    rw [Finset.range_one, Finset.sup_singleton]
  | n + 1, hn, r, hr => by
    have hv : (pt (n + 1)).val = n + 1 := by show min (n + 1) 557 = n + 1; omega
    rw [show SSat m c (n + 1) = next11 (grid0.coords (pt (n + 1))) (iblk m c 0 (pt (n + 1))) (iblk m c 1 (pt (n + 1))) (iblk m c 2 (pt (n + 1))) (iblk m c 3 (pt (n + 1))) (iblk m c 4 (pt (n + 1))) (iblk m c 5 (pt (n + 1))) (SSat m c n) from rfl]
    unfold next11
    rw [runMax_apply, quarters_apply m c (pt (n + 1)) (by omega) p l r (by rw [hv]; exact hr), (coords_tab (pt (n + 1))).2, hv]
    split
    · rename_i h
      rw [h]
      show _ = (Finset.range 1).sup _
      rw [Finset.range_one, Finset.sup_singleton]
    · rename_i h
      rw [SSat_apply c p l n (by omega) r (by omega), Finset.range_add_one (n := (n + 1) % 18), Finset.sup_insert, show n % 18 + 1 = (n + 1) % 18 by omega]
      exact max_comm _ _

theorem fold_max_sup {ι : Type} (s : Finset ι) (f : ι → EReal) : s.fold max ⊥ f = s.sup f := rfl

theorem le_lanes {N : ℕ} (f : ℕ → EReal) (l : Fin N) : f l.val ≤ Finset.univ.sup fun l : Fin N => f l.val :=
  Finset.le_sup (f := fun l : Fin N => f l.val) (Finset.mem_univ l)

theorem mg_le (c : Dev nD) (r : Fin 15360) (k : ℕ) : mg m c r k ≤ Finset.univ.sup fun n => mag (A m c r n) := by
  unfold mg
  split
  · rename_i h
    exact Finset.le_sup (f := fun n => mag (A m c r n)) (Finset.mem_univ (⟨k, h⟩ : Fin 9216))
  · exact bot_le

theorem le_four (c : Dev nD) (r : Fin 15360) (j l k : ℕ)
    (h : k = 512 * j + l ∨ k = 512 * j + 128 + l ∨ k = 512 * j + 256 + l ∨ k = 512 * j + 384 + l) : mg m c r k ≤ four m c r j l := by
  unfold four
  rcases h with rfl | rfl | rfl | rfl
  · exact le_trans (le_max_left _ _) (le_max_left _ _)
  · exact le_trans (le_max_right _ _) (le_max_left _ _)
  · exact le_trans (le_max_left _ _) (le_max_right _ _)
  · exact le_trans (le_max_right _ _) (le_max_right _ _)

/-- After a row of blocks the lanes' maxima together are the row's. -/
theorem SSat_max (c : Dev nD) (p : Fin 512) (n : ℕ) (hn : n < 540) (h17 : n % 18 = 17) (r : Fin 15360) (hr : r.val = n / 18 * 512 + p.val) :
    (Finset.univ.fold max (⊥ : EReal) fun l : Fin 128 => SSat m c n (ix2 p l)) = GateUpSpec.amax (A m c r) := by
  have h1 : (fun l : Fin 128 => (SSat m c n (ix2 p l) : EReal)) = fun l : Fin 128 => (Finset.range 18).sup fun j => four m c r j l.val := funext fun l => by
    rw [SSat_apply m c p l n hn r hr, h17]
  rw [h1]
  unfold GateUpSpec.amax
  rw [fold_max_sup, fold_max_sup]
  apply le_antisymm
  · refine Finset.sup_le fun l _ => Finset.sup_le fun j _ => ?_
    unfold four
    exact max_le (max_le (mg_le m c r _) (mg_le m c r _)) (max_le (mg_le m c r _) (mg_le m c r _))
  · refine Finset.sup_le fun k _ => ?_
    have hk := k.isLt
    have hm : mg m c r k.val = max (A m c r k) (-(A m c r k)) := by unfold mg; rw [dif_pos hk]; rfl
    rw [← hm]
    have hl : k.val % 128 < 128 := Nat.mod_lt _ (by omega)
    refine le_trans (le_four m c r (k.val / 512) (k.val % 128) k.val (by omega)) ?_
    refine le_trans (Finset.le_sup (f := fun j => four m c r j (k.val % 128)) (Finset.mem_range.2 (by omega : k.val / 512 < 18))) ?_
    exact le_lanes (fun l : ℕ => (Finset.range 18).sup fun j => four m c r j l) ⟨k.val % 128, hl⟩

theorem rowscale (c : Dev nD) (p : Fin 512) (n : ℕ) (hn : n < 540) (h17 : n % 18 = 17) (r : Fin 15360) (hr : r.val = n / 18 * 512 + p.val) :
    k0_pay22 (F := Ideal) (SSat m c n) (ix2 p 0) = GateUpSpec.scale (GateUpSpec.amax (A m c r)) :=
  (pay22_apply _ p).trans (congrArg GateUpSpec.scale (SSat_max m c p n hn h17 r hr))

/-! ## The result arrays -/

/-- The codes. -/
def G6 (c : Dev nD) : S15360x9216.Idx → EReal := fun i => GateUpSpec.code (A m c (i 0) (i 1)) (GateUpSpec.scale (GateUpSpec.amax (A m c (i 0))))

/-- The row a lane-dense scale belongs to. -/
def row (b : Fin 30) (k : Fin 4) (l : Fin 128) : Fin 15360 := ⟨b.val * 512 + k.val * 128 + l.val, by omega⟩

/-- The scales. -/
def G7 (c : Dev nD) : S30x4x128.Idx → EReal := fun i => GateUpSpec.scale (GateUpSpec.amax (A m c (row (i 0) (i 1) (i 2))))

theorem OUTat_apply (c : Dev nD) (t : Fin cfg0.N) (ht : 18 ≤ t.val) (p q : Fin 512) (r : Fin 15360) (n : Fin 9216)
    (hr : r.val = (t.val / 18 - 1) * 512 + p.val) (hn : n.val = t.val % 18 * 512 + q.val) : OUTat m c t.val (ix2 p q) = G6 m c (ix2 r n) := by
  have hN := t_lt t
  unfold OUTat FACat
  refine (pay15_apply _ _ p q).trans ?_
  rw [Yat_apply m c (t.val - 18) (by omega) p q r n (by omega) (by omega), pay23_apply,
    rowscale m c p (t.val / 18 * 18 - 1) (by omega) (by omega) r (by omega)]
  exact GateUpSpec.kcode_eq _ _

theorem SCat_apply (c : Dev nD) (b : Fin 30) (k : Fin 4) (l : Fin 128) : SCat m c (18 * b.val + 17) (ix3 0 k l) = G7 m c (ix3 b k l) := by
  have hb := b.isLt
  have hk := k.isLt
  have hl := l.isLt
  unfold SCat
  refine (scales_apply _ _ k l ⟨k.val * 128 + l.val, by omega⟩ rfl).trans ?_
  exact rowscale m c ⟨k.val * 128 + l.val, by omega⟩ (18 * b.val + 17) (by omega) (by omega) (row b k l) (by show b.val * 512 + k.val * 128 + l.val = (18 * b.val + 17) / 18 * 512 + (k.val * 128 + l.val); omega)

theorem flush_late : ∀ t : Fin cfg0.N, 18 ≤ t.val → (cfg0.win 6).flush t = true := by
  intro t; rw [Pipeline.Window.flush_eq_flushF]; revert t; decide +kernel

theorem final6 (c : Dev nD) : (dats m 0 c).arrAt 6 cfg0.N = G6 m c := by
  refine (dats m 0 c).arrAt_eq_of_cover 6 (G6 m c) (fun t hf => ?_) (fun i => ?_)
  · have h9 : 18 ≤ t.val := by
      by_contra h
      rw [flush_tab t (by omega)] at hf
      exact absurd hf (by decide)
    have hN := t_lt t
    show (cfg0.win 6).cut (grid0.coords t) ((dats m 0 c).after 6 t) = _
    rw [after0_6]
    funext j
    obtain ⟨p, q, rfl⟩ : ∃ p q, j = ix2 p q := ⟨j 0, j 1, (ix2_eta (n0 := 512) (n1 := 512) j).symm⟩
    have hp := p.isLt
    have hq := q.isLt
    have hr : (t.val / 18 - 1) * 512 + p.val < 15360 := by omega
    have hn : t.val % 18 * 512 + q.val < 9216 := by omega
    show OUTat m c t.val (ix2 p q) = G6 m c (((cfg0.win 6).blk t).view.emb (ix2 p q))
    rw [emb_6 t h9 p q ⟨_, hr⟩ ⟨_, hn⟩ rfl rfl]
    exact OUTat_apply m c t h9 p q ⟨_, hr⟩ ⟨_, hn⟩ rfl rfl
  · obtain ⟨r, n, rfl⟩ : ∃ r n, i = ix2 r n := ⟨i 0, i 1, (ix2_eta (n0 := 15360) (n1 := 9216) i).symm⟩
    have hr := r.isLt
    have hn := n.isLt
    have hN : (r.val / 512 + 1) * 18 + n.val / 512 < cfg0.N := Nat.lt_of_lt_of_eq (by omega) N_0.symm
    refine ⟨⟨_, hN⟩, flush_late _ (by show 18 ≤ (r.val / 512 + 1) * 18 + n.val / 512; omega), ?_⟩
    have h := ((cfg0.win 6).blk ⟨_, hN⟩).view.emb_mem_set (ix2 (⟨r.val % 512, by omega⟩ : Fin 512) (⟨n.val % 512, by omega⟩ : Fin 512))
    rw [emb_6 ⟨_, hN⟩ (by show 18 ≤ (r.val / 512 + 1) * 18 + n.val / 512; omega) _ _ r n
      (by show r.val = ((((r.val / 512 + 1) * 18 + n.val / 512) / 18 - 1)) * 512 + r.val % 512; omega)
      (by show n.val = ((r.val / 512 + 1) * 18 + n.val / 512) % 18 * 512 + n.val % 512; omega)] at h
    exact h

/-- The point at which a scale block is written back. -/
def last (b : Fin 30) : ℕ := if b.val = 29 then 557 else 18 * b.val + 17

theorem final7 (c : Dev nD) : (dats m 0 c).arrAt 7 cfg0.N = G7 m c := by
  refine (dats m 0 c).arrAt_eq_of_cover 7 (G7 m c) (fun t _ => ?_) (fun i => ?_)
  · have hb : min 29 (t.val / 18) < 30 := by omega
    show (cfg0.win 7).cut (grid0.coords t) ((dats m 0 c).after 7 t) = _
    rw [after0_7]
    funext j
    obtain ⟨z, k, l, rfl⟩ : ∃ z k l, j = ix3 z k l := ⟨j 0, j 1, j 2, (ix3_eta (n0 := 1) (n1 := 4) (n2 := 128) j).symm⟩
    obtain rfl : z = 0 := Subsingleton.elim _ _
    show SCat m c (18 * min 29 (t.val / 18) + 17) (ix3 0 k l) = G7 m c (((cfg0.win 7).blk t).view.emb (ix3 0 k l))
    rw [emb_7 t k l ⟨_, hb⟩ rfl]
    exact SCat_apply m c ⟨_, hb⟩ k l
  · obtain ⟨b, k, l, rfl⟩ : ∃ b k l, i = ix3 b k l := ⟨i 0, i 1, i 2, (ix3_eta (n0 := 30) (n1 := 4) (n2 := 128) i).symm⟩
    have hb := b.isLt
    have hl : last b < 558 ∧ last b % 18 = 17 ∧ last b ≠ 539 ∧ b.val = min 29 (last b / 18) := by
      unfold last
      split
      · rename_i h; rw [h]; decide
      · omega
    have hN : last b < cfg0.N := Nat.lt_of_lt_of_eq hl.1 N_0.symm
    refine ⟨⟨_, hN⟩, ?_, ?_⟩
    · rw [flush7_tab]
      exact decide_eq_true ⟨hl.2.1, hl.2.2.1⟩
    · have h := ((cfg0.win 7).blk ⟨_, hN⟩).view.emb_mem_set (ix3 0 k l)
      rw [emb_7 ⟨_, hN⟩ k l b hl.2.2.2] at h
      exact h

/-- The kernel's run: its two result arrays, and the arguments unchanged. -/
theorem run_value : θ_run defs (onTc (τ := τ) (main (F := Ideal))) ⟨m, fun _ => 0, ρ⟩ (fun r => ∀ c : Dev nD,
      r.2.mem ((c.tc : Thread nD τ).loc main_v3_0) = G6 m c
      ∧ r.2.mem ((c.tc : Thread nD τ).loc main_v3_1) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.2 c).1 6).trans (final6 m c), ((h.2 c).1 7).trans (final7 m c), h.1.1 c⟩) (θ_run_and (frame m ρ) (run_main m ρ))

end Cert.GateUpIdeal.Hand

namespace Cert.GateUpAlgebraic

open Idealize.ShloMosaic Idealize.ShloMosaic.TcCoe Idealize.SL.Sem

/-- From memories that agree on the arguments, the kernel and the reference end with the same codes and the same scales. -/
theorem algebraic : Cert.algebraic_GateUpIdeal_GateUpRefIdeal := by
  intro m ρ m' ρ' _ hagree
  refine ⟨_, _, Cert.GateUpIdeal.Hand.run_value m ρ, ?_⟩
  have hA : ∀ c, Cert.GateUpRefIdeal.Hand.A m' c = Cert.GateUpIdeal.Hand.A m c := fun c => by
    obtain ⟨h0, h1, h2, h3, h4, h5⟩ := hagree c
    funext r n
    exact GateUpSpec.act_congr h0 h2 h4 (fun r => congrFun h1 (ix1 r)) (fun n => congrFun h3 (ix1 n)) (fun n => congrFun h5 (ix1 n)) r n
  refine (θ_run Cert.GateUpRefIdeal.defs _ _).mono (fun _ h c => ⟨(h c).1.trans ?_, (h c).2.1.trans ?_, (h c).2.2⟩) (Cert.GateUpRefIdeal.Value.run_blocks (F := Ideal) m' ρ')
  · rw [Cert.GateUpRefIdeal.Hand.final6 m' c]
    unfold Cert.GateUpRefIdeal.Hand.G6
    rw [hA c]
    rfl
  · rw [Cert.GateUpRefIdeal.Hand.final7 m' c]
    unfold Cert.GateUpRefIdeal.Hand.G7
    rw [hA c]
    rfl

end Cert.GateUpAlgebraic

end
-- ==== Proof.DownBody.lean ====
/- The body of the down kernel at each kind of grid point. -/
module

public import proofs.«01_k».proof.Proof.Gen.Down.Skeleton
public import proofs.«01_k».proof.Proof.Gen.Down.Frame
public import Idealize.ShloMosaic.Lib.VecWindow

@[expose] public section

set_option maxRecDepth 16384

noncomputable section

namespace Cert.Down.Hand

open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the last branch: the row's last block of columns, not after the last row. -/
abbrev k0_cond4 (i : grid0.Coords) : BitVec 1 :=
  Scalar.cmpi .ne (Scalar.extui (Scalar.andi (Scalar.cmpi .eq (BitVec.ofNat 32 (i 1).val) 8#32) (Scalar.cmpi .slt (BitVec.ofNat 32 (i 0).val) 30#32)) : BitVec 32) 0#32

/-! ## What one point does to the values held -/

theorem inb_cols (i : grid0.Coords) : ∀ a, (![0, 512 * (i 1).val] : Fin 2 → ℕ) a + S1x512.size a ≤ S1x4608.size a := by
  have h : (i 1).val < 9 := (i 1).isLt
  intro a; match a with
  | ⟨0, _⟩ => exact Nat.le_refl 1
  | ⟨1, _⟩ => show 512 * (i 1).val + 512 ≤ 4608; omega

theorem inb_slice (i : grid0.Coords) : ∀ a, (![(i 1).val, 0, 0] : Fin 3 → ℕ) a + S1x512x512.size a ≤ S9x512x512.size a := by
  have h : (i 1).val < 9 := (i 1).isLt
  intro a; match a with
  | ⟨0, _⟩ => show (i 1).val + 1 ≤ 9; omega
  | ⟨1, _⟩ => exact Nat.le_refl 512
  | ⟨2, _⟩ => exact Nat.le_refl 512

/-- The point's 512 columns of a row vector. -/
def cols (i : grid0.Coords) (x : S1x4608.Idx → Elt F .f32) : Vec F S1x512 .f32 :=
  VecWindow.window x ![0, 512 * (i 1).val] S1x512.size (inb_cols i)

/-- The point's slice of the strip. -/
def slice (i : grid0.Coords) (x : S9x512x512.Idx → Elt F .f32) : Vec F S1x512x512 .f32 :=
  VecWindow.window x ![(i 1).val, 0, 0] S1x512x512.size (inb_slice i)

/-- The product block of the point, as the strip keeps it. -/
def blockY (i : grid0.Coords) (x2 : S512x9216.Idx → Elt F .fp8e4m3) (x4 : S9216x512.Idx → Elt F .fp8e4m3) (x5 : S1x4608.Idx → Elt F .f32) : Vec F S1x512x512 .f32 :=
  k0_pay2 x2 x4 (cols i x5)

/-- The strip after a point that stores its product block. -/
def next9 (i : grid0.Coords) (x2 : S512x9216.Idx → Elt F .fp8e4m3) (x4 : S9216x512.Idx → Elt F .fp8e4m3) (x5 : S1x4608.Idx → Elt F .f32)
    (x9 : S9x512x512.Idx → Elt F .f32) : S9x512x512.Idx → Elt F .f32 :=
  VecWindow.put x9 ![(i 1).val, 0, 0] S1x512x512.size (blockY i x2 x4 x5)

/-- The running sums of squares after a point that adds its product block. -/
def next10 (i : grid0.Coords) (x2 : S512x9216.Idx → Elt F .fp8e4m3) (x4 : S9216x512.Idx → Elt F .fp8e4m3) (x5 : S1x4608.Idx → Elt F .f32)
    (x10 : S512x128.Idx → Elt F .f32) : S512x128.Idx → Elt F .f32 :=
  k0_pay3 i x2 x4 (cols i x5) x10

/-- The output block of a point: the strip's slice times the row factor and the gain, added to the residual. -/
def outBlock (i : grid0.Coords) (x7 : S512x512.Idx → Elt F .f32) (y : Vec F S1x512x512 .f32) (x11 : S512x1.Idx → Elt F .f32)
    (x6 : S1x4608.Idx → Elt F .f32) : S512x512.Idx → Elt F .bf16 :=
  k0_pay5 x7 y x11 (cols i x6)

theorem k0_pay4_eq (i : grid0.Coords) (a : Vec F S512x9216 .fp8e4m3) (b : Vec F S9216x512 .fp8e4m3) (d : Vec F S1x512 .f32) (e : Vec F S512x128 .f32) :
    k0_pay4 (k0_pay10 a b d) (Scalar.cmpi .eq (BitVec.ofNat 32 (i 1).val) 0#32) e = k0_pay3 i a b d e := rfl

variable (c : Dev nD) (i : grid0.Coords)
    (arg2 : Memref sig .tc .vmem S512x9216 .fp8e4m3) (harg2 : arg2.IsWhole)
    (arg3 : Memref sig .tc .vmem S512x1 .f32) (harg3 : arg3.IsWhole)
    (arg4 : Memref sig .tc .vmem S9216x512 .fp8e4m3) (harg4 : arg4.IsWhole)
    (arg5 : Memref sig .tc .vmem S1x4608 .f32) (harg5 : arg5.IsWhole)
    (arg6 : Memref sig .tc .vmem S1x4608 .f32) (harg6 : arg6.IsWhole)
    (arg7 : Memref sig .tc .vmem S512x512 .f32) (harg7 : arg7.IsWhole)
    (arg8 : Memref sig .tc .vmem S512x512 .bf16) (harg8 : arg8.IsWhole)
    (arg9 : Memref sig .tc .vmem S9x512x512 .f32) (harg9 : arg9.IsWhole)
    (arg10 : Memref sig .tc .vmem S512x128 .f32) (harg10 : arg10.IsWhole)
    (arg11 : Memref sig .tc .vmem S512x1 .f32) (harg11 : arg11.IsWhole)
    (x2 : S512x9216.Idx → Elt F .fp8e4m3)
    (x3 : S512x1.Idx → Elt F .f32)
    (x4 : S9216x512.Idx → Elt F .fp8e4m3)
    (x5 : S1x4608.Idx → Elt F .f32)
    (x6 : S1x4608.Idx → Elt F .f32)
    (x7 : S512x512.Idx → Elt F .f32)
    (x8 : S512x512.Idx → Elt F .bf16)
    (x9 : S9x512x512.Idx → Elt F .f32)
    (x10 : S512x128.Idx → Elt F .f32)
    (x11 : S512x1.Idx → Elt F .f32)

/-- The ten buffers of the body, each held whole at the values named. -/
def held : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11)

set_option maxHeartbeats 1000000 in
/-- A point of the first row before its last block: the product block and its sums are stored. -/
theorem body_first (hc1 : k0_cond1 i = 1#1) (hc2 : ¬ k0_cond2 i = 1#1) (hc3 : ¬ k0_cond3 i = 1#1) (hc4 : ¬ k0_cond4 i = 1#1) (E : Set ℕ) (K : PUnit → sProp 𝕄) :
    iprop(held c arg2 arg3 arg4 arg5 arg6 arg7 arg8 arg9 arg10 arg11 x2 x3 x4 x5 x6 x7 x8 x9 x10 x11 ∗ (held c arg2 arg3 arg4 arg5 arg6 arg7 arg8 arg9 arg10 arg11 x2 x3 x4 x5 x6 x7 x8 (next9 i x2 x4 x5 x9) (next10 i x2 x4 x5 x10) x11 -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11) K := by
  simp only [cc0_down_eq_skeleton]
  unfold cc0_down_skel
  simp only [k0_part1_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact harg8.read_unread x8
  isplitl [H9]
  · iexists _; isplitr; swap; iexact H9; ipureintro
    refine (View.read_writes_cons_put arg9.view _ _ _ _ (k0_off2_eq i)).trans ?_
    rw [View.writes_nil, harg9.read_unread]
    exact congrArg (VecWindow.put x9 _ _) (congr (congr (congrArg k0_pay2 ((View.readAt_full arg2.view _ _).trans (harg2.read_unread x2))) ((View.readAt_full arg4.view _ _).trans (harg4.read_unread x4))) ((View.readAt_unit arg5.view _ _ (k0_off1_eq i) (inb_cols i)).trans (congrArg (cols i) (harg5.read_unread x5))))
  isplitl [H10]
  · iexists _; isplitr; swap; iexact H10; ipureintro
    exact ((View.read_writes_full arg10.view _ _ _ _).trans ((congr (congr (congr (congrArg (k0_pay3 i) ((View.readAt_full arg2.view _ _).trans (harg2.read_unread x2))) ((View.readAt_full arg4.view _ _).trans (harg4.read_unread x4))) ((View.readAt_unit arg5.view _ _ (k0_off1_eq i) (inb_cols i)).trans (congrArg (cols i) (harg5.read_unread x5)))) ((View.readAt_full arg10.view _ _).trans (harg10.read_unread x10)))))
  iexists _; isplitr; swap; iexact H11; ipureintro
  exact harg11.read_unread x11

set_option maxHeartbeats 1000000 in
/-- The last point of the first row: the row factor is stored too. -/
theorem body_first_last (hc1 : k0_cond1 i = 1#1) (hc2 : ¬ k0_cond2 i = 1#1) (hc3 : ¬ k0_cond3 i = 1#1) (hc4 : k0_cond4 i = 1#1) (E : Set ℕ) (K : PUnit → sProp 𝕄) :
    iprop(held c arg2 arg3 arg4 arg5 arg6 arg7 arg8 arg9 arg10 arg11 x2 x3 x4 x5 x6 x7 x8 x9 x10 x11 ∗ (held c arg2 arg3 arg4 arg5 arg6 arg7 arg8 arg9 arg10 arg11 x2 x3 x4 x5 x6 x7 x8 (next9 i x2 x4 x5 x9) (next10 i x2 x4 x5 x10) (k0_pay6 x3 (next10 i x2 x4 x5 x10)) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11) K := by
  simp only [cc0_down_eq_skeleton]
  unfold cc0_down_skel
  simp only [k0_part1_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact harg8.read_unread x8
  isplitl [H9]
  · iexists _; isplitr; swap; iexact H9; ipureintro
    refine (View.read_writes_cons_put arg9.view _ _ _ _ (k0_off2_eq i)).trans ?_
    rw [View.writes_nil, harg9.read_unread]
    exact congrArg (VecWindow.put x9 _ _) (congr (congr (congrArg k0_pay2 ((View.readAt_full arg2.view _ _).trans (harg2.read_unread x2))) ((View.readAt_full arg4.view _ _).trans (harg4.read_unread x4))) ((View.readAt_unit arg5.view _ _ (k0_off1_eq i) (inb_cols i)).trans (congrArg (cols i) (harg5.read_unread x5))))
  isplitl [H10]
  · iexists _; isplitr; swap; iexact H10; ipureintro
    exact ((View.read_writes_full arg10.view _ _ _ _).trans ((congr (congr (congr (congrArg (k0_pay3 i) ((View.readAt_full arg2.view _ _).trans (harg2.read_unread x2))) ((View.readAt_full arg4.view _ _).trans (harg4.read_unread x4))) ((View.readAt_unit arg5.view _ _ (k0_off1_eq i) (inb_cols i)).trans (congrArg (cols i) (harg5.read_unread x5)))) ((View.readAt_full arg10.view _ _).trans (harg10.read_unread x10)))))
  iexists _; isplitr; swap; iexact H11; ipureintro
  refine (View.read_writes_full arg11.view _ _ _ _).trans (congr (congrArg k0_pay6 ((View.readAt_full arg3.view _ _).trans (harg3.read_unread x3))) ((View.readAt_full arg10.view _ _).trans ?_))
  exact ((View.read_writes_full arg10.view _ _ _ _).trans ((congr (congr (congr (congrArg (k0_pay3 i) ((View.readAt_full arg2.view _ _).trans (harg2.read_unread x2))) ((View.readAt_full arg4.view _ _).trans (harg4.read_unread x4))) ((View.readAt_unit arg5.view _ _ (k0_off1_eq i) (inb_cols i)).trans (congrArg (cols i) (harg5.read_unread x5)))) ((View.readAt_full arg10.view _ _).trans (harg10.read_unread x10)))))

set_option maxHeartbeats 1000000 in
/-- A point of a middle row before its last block: the previous row's output block is stored, then this row's product block and sums. -/
theorem body_mid (hc1 : ¬ k0_cond1 i = 1#1) (hc2 : k0_cond2 i = 1#1) (hc3 : ¬ k0_cond3 i = 1#1) (hc4 : ¬ k0_cond4 i = 1#1) (E : Set ℕ) (K : PUnit → sProp 𝕄) :
    iprop(held c arg2 arg3 arg4 arg5 arg6 arg7 arg8 arg9 arg10 arg11 x2 x3 x4 x5 x6 x7 x8 x9 x10 x11 ∗ (held c arg2 arg3 arg4 arg5 arg6 arg7 arg8 arg9 arg10 arg11 x2 x3 x4 x5 x6 x7 (outBlock i x7 (slice i x9) x11 x6) (next9 i x2 x4 x5 x9) (next10 i x2 x4 x5 x10) x11 -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11) K := by
  simp only [cc0_down_eq_skeleton]
  unfold cc0_down_skel
  simp only [k0_part1_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact (View.read_writes_full arg8.view _ _ _ _).trans (congr (congr (congr (congrArg k0_pay5 ((View.readAt_full arg7.view _ _).trans (harg7.read_unread x7))) ((View.readAt_unit arg9.view _ _ (k0_off3_eq i) (inb_slice i)).trans (congrArg (slice i) (harg9.read_unread x9)))) ((View.readAt_full arg11.view _ _).trans (harg11.read_unread x11))) ((View.readAt_unit arg6.view _ _ (k0_off4_eq i) (inb_cols i)).trans (congrArg (cols i) (harg6.read_unread x6))))
  isplitl [H9]
  · iexists _; isplitr; swap; iexact H9; ipureintro
    refine (View.read_writes_cons_put arg9.view _ _ _ _ (k0_off3_eq i)).trans ?_
    rw [View.writes_nil, harg9.read_unread]
    exact congrArg (VecWindow.put x9 _ _) (congr (congr (congrArg k0_pay2 ((View.readAt_full arg2.view _ _).trans (harg2.read_unread x2))) ((View.readAt_full arg4.view _ _).trans (harg4.read_unread x4))) ((View.readAt_unit arg5.view _ _ (k0_off4_eq i) (inb_cols i)).trans (congrArg (cols i) (harg5.read_unread x5))))
  isplitl [H10]
  · iexists _; isplitr; swap; iexact H10; ipureintro
    exact ((View.read_writes_full arg10.view _ _ _ _).trans ((k0_pay4_eq i _ _ _ _).trans (congr (congr (congr (congrArg (k0_pay3 i) ((View.readAt_full arg2.view _ _).trans (harg2.read_unread x2))) ((View.readAt_full arg4.view _ _).trans (harg4.read_unread x4))) ((View.readAt_unit arg5.view _ _ (k0_off4_eq i) (inb_cols i)).trans (congrArg (cols i) (harg5.read_unread x5)))) ((View.readAt_full arg10.view _ _).trans (harg10.read_unread x10)))))
  iexists _; isplitr; swap; iexact H11; ipureintro
  exact harg11.read_unread x11

set_option maxHeartbeats 1000000 in
/-- The last point of a middle row. -/
theorem body_mid_last (hc1 : ¬ k0_cond1 i = 1#1) (hc2 : k0_cond2 i = 1#1) (hc3 : ¬ k0_cond3 i = 1#1) (hc4 : k0_cond4 i = 1#1) (E : Set ℕ) (K : PUnit → sProp 𝕄) :
    iprop(held c arg2 arg3 arg4 arg5 arg6 arg7 arg8 arg9 arg10 arg11 x2 x3 x4 x5 x6 x7 x8 x9 x10 x11 ∗ (held c arg2 arg3 arg4 arg5 arg6 arg7 arg8 arg9 arg10 arg11 x2 x3 x4 x5 x6 x7 (outBlock i x7 (slice i x9) x11 x6) (next9 i x2 x4 x5 x9) (next10 i x2 x4 x5 x10) (k0_pay6 x3 (next10 i x2 x4 x5 x10)) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11) K := by
  simp only [cc0_down_eq_skeleton]
  unfold cc0_down_skel
  simp only [k0_part1_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact (View.read_writes_full arg8.view _ _ _ _).trans (congr (congr (congr (congrArg k0_pay5 ((View.readAt_full arg7.view _ _).trans (harg7.read_unread x7))) ((View.readAt_unit arg9.view _ _ (k0_off3_eq i) (inb_slice i)).trans (congrArg (slice i) (harg9.read_unread x9)))) ((View.readAt_full arg11.view _ _).trans (harg11.read_unread x11))) ((View.readAt_unit arg6.view _ _ (k0_off4_eq i) (inb_cols i)).trans (congrArg (cols i) (harg6.read_unread x6))))
  isplitl [H9]
  · iexists _; isplitr; swap; iexact H9; ipureintro
    refine (View.read_writes_cons_put arg9.view _ _ _ _ (k0_off3_eq i)).trans ?_
    rw [View.writes_nil, harg9.read_unread]
    exact congrArg (VecWindow.put x9 _ _) (congr (congr (congrArg k0_pay2 ((View.readAt_full arg2.view _ _).trans (harg2.read_unread x2))) ((View.readAt_full arg4.view _ _).trans (harg4.read_unread x4))) ((View.readAt_unit arg5.view _ _ (k0_off4_eq i) (inb_cols i)).trans (congrArg (cols i) (harg5.read_unread x5))))
  isplitl [H10]
  · iexists _; isplitr; swap; iexact H10; ipureintro
    exact ((View.read_writes_full arg10.view _ _ _ _).trans ((k0_pay4_eq i _ _ _ _).trans (congr (congr (congr (congrArg (k0_pay3 i) ((View.readAt_full arg2.view _ _).trans (harg2.read_unread x2))) ((View.readAt_full arg4.view _ _).trans (harg4.read_unread x4))) ((View.readAt_unit arg5.view _ _ (k0_off4_eq i) (inb_cols i)).trans (congrArg (cols i) (harg5.read_unread x5)))) ((View.readAt_full arg10.view _ _).trans (harg10.read_unread x10)))))
  iexists _; isplitr; swap; iexact H11; ipureintro
  refine (View.read_writes_full arg11.view _ _ _ _).trans (congr (congrArg k0_pay6 ((View.readAt_full arg3.view _ _).trans (harg3.read_unread x3))) ((View.readAt_full arg10.view _ _).trans ?_))
  exact ((View.read_writes_full arg10.view _ _ _ _).trans ((k0_pay4_eq i _ _ _ _).trans (congr (congr (congr (congrArg (k0_pay3 i) ((View.readAt_full arg2.view _ _).trans (harg2.read_unread x2))) ((View.readAt_full arg4.view _ _).trans (harg4.read_unread x4))) ((View.readAt_unit arg5.view _ _ (k0_off4_eq i) (inb_cols i)).trans (congrArg (cols i) (harg5.read_unread x5)))) ((View.readAt_full arg10.view _ _).trans (harg10.read_unread x10)))))

set_option maxHeartbeats 1000000 in
/-- A point after the last row: only the last row's output block is stored. -/
theorem body_end (hc1 : ¬ k0_cond1 i = 1#1) (hc2 : ¬ k0_cond2 i = 1#1) (hc3 : k0_cond3 i = 1#1) (hc4 : ¬ k0_cond4 i = 1#1) (E : Set ℕ) (K : PUnit → sProp 𝕄) :
    iprop(held c arg2 arg3 arg4 arg5 arg6 arg7 arg8 arg9 arg10 arg11 x2 x3 x4 x5 x6 x7 x8 x9 x10 x11 ∗ (held c arg2 arg3 arg4 arg5 arg6 arg7 arg8 arg9 arg10 arg11 x2 x3 x4 x5 x6 x7 (outBlock i x7 (slice i x9) x11 x6) x9 x10 x11 -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11) K := by
  simp only [cc0_down_eq_skeleton]
  unfold cc0_down_skel
  simp only [k0_part1_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact (View.read_writes_full arg8.view _ _ _ _).trans (congr (congr (congr (congrArg k0_pay5 ((View.readAt_full arg7.view _ _).trans (harg7.read_unread x7))) ((View.readAt_unit arg9.view _ _ (k0_off5_eq i) (inb_slice i)).trans (congrArg (slice i) (harg9.read_unread x9)))) ((View.readAt_full arg11.view _ _).trans (harg11.read_unread x11))) ((View.readAt_unit arg6.view _ _ (k0_off6_eq i) (inb_cols i)).trans (congrArg (cols i) (harg6.read_unread x6))))
  isplitl [H9]
  · iexists _; isplitr; swap; iexact H9; ipureintro
    exact harg9.read_unread x9
  isplitl [H10]
  · iexists _; isplitr; swap; iexact H10; ipureintro
    exact harg10.read_unread x10
  iexists _; isplitr; swap; iexact H11; ipureintro
  exact harg11.read_unread x11

end Cert.Down.Hand

end
-- ==== Proof.DownRun.lean ====
/- The run of the down kernel: what its scratch holds before every grid point, the body's obligation at every point, and the launch. -/
module

public import proofs.«01_k».proof.Proof.DownBody
public import Idealize.ShloMosaic.Lib.Claim

@[expose] public section

set_option maxRecDepth 16384

noncomputable section

namespace Cert.Down.Hand

open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- Point `t` is row block `t / 9`, column block `t % 9`. -/
theorem coords_tab : ∀ t : Fin cfg0.N, (grid0.coords t 0).val = t.val / 9 ∧ (grid0.coords t 1).val = t.val % 9 := by decide +kernel

/-- The four conditions of the body, by the point's number. -/
theorem cond_tab : ∀ t : Fin cfg0.N, (k0_cond1 (grid0.coords t) = 1#1 ↔ t.val < 9) ∧ (k0_cond2 (grid0.coords t) = 1#1 ↔ 9 ≤ t.val ∧ t.val < 270)
    ∧ (k0_cond3 (grid0.coords t) = 1#1 ↔ 270 ≤ t.val) ∧ (k0_cond4 (grid0.coords t) = 1#1 ↔ t.val % 9 = 8 ∧ t.val < 270) := by decide +kernel

/-- The output window is idle exactly in the first row, -/
theorem idle_tab : ∀ t : Fin cfg0.N, cfg0.idle 6 (cfg0.grid.coords t) = decide (t.val < 9) := by decide +kernel

/-- and is not written back there. -/
theorem flush_tab : ∀ t : Fin cfg0.N, t.val < 9 → (cfg0.win 6).flush t = false := by decide +kernel

theorem t_lt (t : Fin cfg0.N) : t.val < 279 := Nat.lt_of_lt_of_eq t.isLt N_0

/-- The point numbered `n` (the last one past the end). -/
def pt (n : ℕ) : Fin cfg0.N := ⟨min n 278, Nat.lt_of_lt_of_eq (by omega : min n 278 < 279) N_0.symm⟩

theorem pt_val (t : Fin cfg0.N) : pt t.val = t :=
  Fin.ext (by have h := t_lt t; show min t.val 278 = t.val; omega)

/-! ## What the scratch holds -/

/-- The product block of point `n`. -/
def Yat (c : Dev nD) (n : ℕ) : Vec F S1x512x512 .f32 := blockY (grid0.coords (pt n)) (iblk m c 0 (pt n)) (iblk m c 2 (pt n)) (iblk m c 3 (pt n))

/-- The running sums of squares after point `n`, of its row block. -/
def SSat (c : Dev nD) : ℕ → (S512x128.Idx → Elt F .f32)
  | 0 => next10 (grid0.coords (pt 0)) (iblk m c 0 (pt 0)) (iblk m c 2 (pt 0)) (iblk m c 3 (pt 0)) (fun _ => Scalar.ofBits .f32 0#32)
  | n + 1 => next10 (grid0.coords (pt (n + 1))) (iblk m c 0 (pt (n + 1))) (iblk m c 2 (pt (n + 1))) (iblk m c 3 (pt (n + 1))) (SSat c n)

/-- The row factors computed at point `n`, the last of its row block. -/
def FACat (c : Dev nD) (n : ℕ) : S512x1.Idx → Elt F .f32 := k0_pay6 (iblk m c 1 (pt n)) (SSat m c n)

/-- The output block stored at point `n`, of the row block before it. -/
def OUTat (c : Dev nD) (n : ℕ) : S512x512.Idx → Elt F .bf16 :=
  outBlock (grid0.coords (pt n)) (iblk m c 5 (pt n)) (Yat m c (n - 9)) (FACat m c (n / 9 * 9 - 1)) (iblk m c 4 (pt n))

theorem inb_at (j : ℕ) (hj : j < 9) : ∀ a, (![j, 0, 0] : Fin 3 → ℕ) a + S1x512x512.size a ≤ S9x512x512.size a := by
  intro a; match a with
  | ⟨0, _⟩ => show j + 1 ≤ 9; omega
  | ⟨1, _⟩ => exact Nat.le_refl 512
  | ⟨2, _⟩ => exact Nat.le_refl 512

/-- What is known of the scratch before point `n`. -/
structure Inv (c : Dev nD) (n : ℕ) (x9 : S9x512x512.Idx → Elt F .f32) (x10 : S512x128.Idx → Elt F .f32) (x11 : S512x1.Idx → Elt F .f32) : Prop where
  strip : ∀ (j : ℕ) (hj : j < 9), j < n → VecWindow.window x9 ![j, 0, 0] S1x512x512.size (inb_at j hj) = Yat m c (j + 9 * min 29 ((n - 1 - j) / 9))
  sums : 0 < n → n ≤ 270 → x10 = SSat m c (n - 1)
  factor : 9 ≤ n → x11 = FACat m c (9 * min 29 (n / 9 - 1) + 8)

theorem inv_zero (c : Dev nD) (x9 : S9x512x512.Idx → Elt F .f32) (x10 : S512x128.Idx → Elt F .f32) (x11 : S512x1.Idx → Elt F .f32) : Inv m c 0 x9 x10 x11 :=
  ⟨fun j hj h => absurd h (Nat.not_lt_zero j), fun h => absurd h (Nat.lt_irrefl 0), fun h => absurd h (by omega)⟩

/-- In the first column the sums start afresh. -/
theorem next10_fresh (i : grid0.Coords) (hi : (i 1).val = 0) (x2 : S512x9216.Idx → Elt F .fp8e4m3) (x4 : S9216x512.Idx → Elt F .fp8e4m3) (x5 : S1x4608.Idx → Elt F .f32)
    (x10 x10' : S512x128.Idx → Elt F .f32) : next10 i x2 x4 x5 x10 = next10 i x2 x4 x5 x10' := by
  unfold next10 k0_pay3
  rw [hi]
  rfl

theorem Yat_eq (c : Dev nD) (t : Fin cfg0.N) : blockY (grid0.coords t) (iblk m c 0 t) (iblk m c 2 t) (iblk m c 3 t) = Yat m c t.val := by
  unfold Yat; rw [pt_val]

theorem slice_eq (i : grid0.Coords) (x : S9x512x512.Idx → Elt F .f32) (j : ℕ) (hj : j < 9) (h : (i 1).val = j) :
    slice i x = VecWindow.window x ![j, 0, 0] S1x512x512.size (inb_at j hj) := by
  subst h; rfl

theorem slice_inv {c : Dev nD} {t : Fin cfg0.N} {x9 : S9x512x512.Idx → Elt F .f32} {x10 : S512x128.Idx → Elt F .f32} {x11 : S512x1.Idx → Elt F .f32}
    (h : Inv m c t.val x9 x10 x11) (ht : 9 ≤ t.val) : slice (grid0.coords t) x9 = Yat m c (t.val - 9) := by
  have hN := t_lt t
  have e := (coords_tab t).2
  have hs := h.strip (t.val % 9) (by omega) (by omega)
  rw [show t.val % 9 + 9 * min 29 ((t.val - 1 - t.val % 9) / 9) = t.val - 9 by omega] at hs
  rw [← hs]
  exact slice_eq _ _ _ (by omega) e

theorem factor_inv {c : Dev nD} {n : ℕ} {x9 : S9x512x512.Idx → Elt F .f32} {x10 : S512x128.Idx → Elt F .f32} {x11 : S512x1.Idx → Elt F .f32}
    (h : Inv m c n x9 x10 x11) (ht : 9 ≤ n) (hN : n < 279) : x11 = FACat m c (n / 9 * 9 - 1) := by
  rw [h.factor ht]; congr 1; omega

/-- One point before the last row's end keeps the invariant. -/
theorem inv_step {c : Dev nD} {t : Fin cfg0.N} {x9 : S9x512x512.Idx → Elt F .f32} {x10 : S512x128.Idx → Elt F .f32} {x11 x11' : S512x1.Idx → Elt F .f32}
    (h : Inv m c t.val x9 x10 x11) (ht : t.val < 270)
    (h8 : t.val % 9 = 8 → x11' = k0_pay6 (iblk m c 1 t) (next10 (grid0.coords t) (iblk m c 0 t) (iblk m c 2 t) (iblk m c 3 t) x10))
    (h7 : t.val % 9 ≠ 8 → x11' = x11) :
    Inv m c (t.val + 1) (next9 (grid0.coords t) (iblk m c 0 t) (iblk m c 2 t) (iblk m c 3 t) x9)
      (next10 (grid0.coords t) (iblk m c 0 t) (iblk m c 2 t) (iblk m c 3 t) x10) x11' := by
  have e := (coords_tab t).2
  have hss : next10 (grid0.coords t) (iblk m c 0 t) (iblk m c 2 t) (iblk m c 3 t) x10 = SSat m c t.val := by
    rcases Nat.eq_zero_or_pos t.val with h0 | h0
    · have et : pt 0 = t := by rw [← h0]; exact pt_val t
      rw [h0, show SSat m c 0 = next10 (grid0.coords (pt 0)) (iblk m c 0 (pt 0)) (iblk m c 2 (pt 0)) (iblk m c 3 (pt 0)) (fun _ => Scalar.ofBits .f32 0#32) from rfl, et]
      exact next10_fresh _ (by omega) _ _ _ _ _
    · have hx := h.sums h0 (by omega)
      obtain ⟨k, hk⟩ : ∃ k, t.val = k + 1 := ⟨t.val - 1, by omega⟩
      have et : pt (k + 1) = t := by rw [← hk]; exact pt_val t
      rw [hk, show SSat m c (k + 1) = next10 (grid0.coords (pt (k + 1))) (iblk m c 0 (pt (k + 1))) (iblk m c 2 (pt (k + 1))) (iblk m c 3 (pt (k + 1))) (SSat m c k) from rfl, et]
      rw [hx, hk]; rfl
  refine ⟨fun j hj hjn => ?_, fun _ _ => hss, fun h9 => ?_⟩
  · unfold next9
    rw [Yat_eq m c t]
    by_cases hjt : j = t.val % 9
    · have e1 : t.val = j + 9 * min 29 ((t.val + 1 - 1 - j) / 9) := by omega
      rw [← e1]
      have e' : (grid0.coords t 1).val = j := by omega
      rw [e']
      exact VecWindow.window_put_same _ _ _ _ _
    · rw [VecWindow.window_put_of_disjoint _ _ _ _ _ _ _ (0 : Fin 3) (by
        show j + 1 ≤ (grid0.coords t 1).val ∨ (grid0.coords t 1).val + 1 ≤ j
        omega)]
      rw [h.strip j hj (by omega)]
      congr 1; omega
  · by_cases h88 : t.val % 9 = 8
    · rw [h8 h88, hss, show 9 * min 29 ((t.val + 1) / 9 - 1) + 8 = t.val by omega]
      unfold FACat; rw [pt_val]
    · rw [h7 h88, h.factor (by omega)]
      congr 1; omega

/-- A point after the last row changes nothing. -/
theorem inv_end {c : Dev nD} {n : ℕ} {x9 : S9x512x512.Idx → Elt F .f32} {x10 : S512x128.Idx → Elt F .f32} {x11 : S512x1.Idx → Elt F .f32}
    (h : Inv m c n x9 x10 x11) (hn : 270 ≤ n) (hN : n < 279) : Inv m c (n + 1) x9 x10 x11 := by
  refine ⟨fun j hj hjn => ?_, fun _ h' => absurd h' (by omega), fun h9 => ?_⟩
  · rw [h.strip j hj (by omega)]; congr 1; omega
  · rw [h.factor (by omega)]; congr 1; omega

/-- The invariant of the run before point `n`: the scratch as `Inv` says, and the generator register. -/
def Phi (c : Dev nD) (n : ℕ) : sProp 𝕄 :=
  iprop((∃ x9 : S9x512x512.Idx → Elt F .f32, ∃ x10 : S512x128.Idx → Elt F .f32, ∃ x11 : S512x1.Idx → Elt F .f32, ⌜Inv m c n x9 x10 x11⌝
      ∗ owns (c : Thread nD τ) (Memref.whole cc0_scratch0) fullShare x9 ∗ owns (c : Thread nD τ) (Memref.whole cc0_scratch1) fullShare x10
      ∗ owns (c : Thread nD τ) (Memref.whole cc0_scratch2) fullShare x11) ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUTat m c t.val
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = OUTat m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, the windows one by one, -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: `O` of the output window. -/
def bodyPost (c : Dev nD) (t : Fin cfg0.N) (O : sProp 𝕄) : sProp 𝕄 :=
  iprop(Phi m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ O)

/-- The output block of a point after the first row is `OUTat`. -/
theorem out_eq {c : Dev nD} {t : Fin cfg0.N} {x9 : S9x512x512.Idx → Elt F .f32} {x10 : S512x128.Idx → Elt F .f32} {x11 : S512x1.Idx → Elt F .f32}
    (h : Inv m c t.val x9 x10 x11) (ht : 9 ≤ t.val) :
    OUTat m c t.val = outBlock (grid0.coords t) (iblk m c 5 t) (slice (grid0.coords t) x9) x11 (iblk m c 4 t) := by
  have hN := t_lt t
  rw [slice_inv m h ht, factor_inv m h ht hN]
  unfold OUTat; rw [pt_val]

set_option maxHeartbeats 1000000 in
/-- The body at a point of the first row before its end. -/
theorem sound_first (c : Dev nD) (t : Fin cfg0.N) (h : t.val < 9) (h' : t.val % 9 ≠ 8) :
    bodyPre m c t ⊢ wp frame (wpE (defs₀ (F := F)) Variants.none c none) Set.univ (bodyAt0 t) (fun _ => bodyPost m c t (iprop(∃ d, owns (c : Thread nD τ) (st0_6 t) fullShare ((dats m 0 c).before 6 t d)))) := by
  have hN := t_lt t
  have hc := cond_tab t
  unfold bodyPre bodyPost bodyAt0 Phi
  simp only [before0_0, before0_1, before0_2, before0_3, before0_4, before0_5]
  iintro ⟨⟨⟨%x9, %x10, %x11, %hI, H9, H10, H11⟩, Hr⟩, Ho, ⟨%d0, H0⟩, ⟨%d1, H1⟩, ⟨%d2, H2⟩, ⟨%d3, H3⟩, ⟨%d4, H4⟩, ⟨%d5, H5⟩, ⟨%d6, H6⟩⟩
  iapply (body_first c (grid0.coords t) _ _ _ _ _ _ _ _ _ _ _ _ _ _ _ _ _ _ _ _ (iblk m c 0 t) (iblk m c 1 t) (iblk m c 2 t) (iblk m c 3 t) (iblk m c 4 t) (iblk m c 5 t) ((dats m 0 c).before 6 t d6) x9 x10 x11
    (hc.1.2 (by omega)) (fun h => absurd (hc.2.1.1 h) (by omega)) (fun h => absurd (hc.2.2.1.1 h) (by omega)) (fun h => absurd (hc.2.2.2.1 h) (by omega)) Set.univ _)
  unfold held
  isplitl [H0 H1 H2 H3 H4 H5 H6 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    iexact H11
  iintro ⟨H0, H1, H2, H3, H4, H5, H6, H9, H10, H11⟩
  isplitl [H9 H10 H11 Hr]
  · isplitl [H9 H10 H11]
    · iexists _; iexists _; iexists _
      isplitr; swap
      · isplitl [H9]; · iexact H9
        isplitl [H10]; · iexact H10
        iexact H11
      ipureintro
      exact inv_step m hI (by omega) (fun h => absurd h (by omega)) (fun _ => rfl)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 1000000 in
/-- The body at the last point of the first row. -/
theorem sound_first_last (c : Dev nD) (t : Fin cfg0.N) (h : t.val < 9) (h' : t.val % 9 = 8) :
    bodyPre m c t ⊢ wp frame (wpE (defs₀ (F := F)) Variants.none c none) Set.univ (bodyAt0 t) (fun _ => bodyPost m c t (iprop(∃ d, owns (c : Thread nD τ) (st0_6 t) fullShare ((dats m 0 c).before 6 t d)))) := by
  have hN := t_lt t
  have hc := cond_tab t
  unfold bodyPre bodyPost bodyAt0 Phi
  simp only [before0_0, before0_1, before0_2, before0_3, before0_4, before0_5]
  iintro ⟨⟨⟨%x9, %x10, %x11, %hI, H9, H10, H11⟩, Hr⟩, Ho, ⟨%d0, H0⟩, ⟨%d1, H1⟩, ⟨%d2, H2⟩, ⟨%d3, H3⟩, ⟨%d4, H4⟩, ⟨%d5, H5⟩, ⟨%d6, H6⟩⟩
  iapply (body_first_last c (grid0.coords t) _ _ _ _ _ _ _ _ _ _ _ _ _ _ _ _ _ _ _ _ (iblk m c 0 t) (iblk m c 1 t) (iblk m c 2 t) (iblk m c 3 t) (iblk m c 4 t) (iblk m c 5 t) ((dats m 0 c).before 6 t d6) x9 x10 x11
    (hc.1.2 (by omega)) (fun h => absurd (hc.2.1.1 h) (by omega)) (fun h => absurd (hc.2.2.1.1 h) (by omega)) (hc.2.2.2.2 (by omega)) Set.univ _)
  unfold held
  isplitl [H0 H1 H2 H3 H4 H5 H6 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    iexact H11
  iintro ⟨H0, H1, H2, H3, H4, H5, H6, H9, H10, H11⟩
  isplitl [H9 H10 H11 Hr]
  · isplitl [H9 H10 H11]
    · iexists _; iexists _; iexists _
      isplitr; swap
      · isplitl [H9]; · iexact H9
        isplitl [H10]; · iexact H10
        iexact H11
      ipureintro
      exact inv_step m hI (by omega) (fun _ => rfl) (fun h => absurd h (by omega))
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 1000000 in
/-- The body at a point of a middle row before its end. -/
theorem sound_mid (c : Dev nD) (t : Fin cfg0.N) (h : 9 ≤ t.val) (h2 : t.val < 270) (h' : t.val % 9 ≠ 8) :
    bodyPre m c t ⊢ wp frame (wpE (defs₀ (F := F)) Variants.none c none) Set.univ (bodyAt0 t) (fun _ => bodyPost m c t (iprop(owns (c : Thread nD τ) (st0_6 t) fullShare (OUTat m c t.val)))) := by
  have hN := t_lt t
  have hc := cond_tab t
  unfold bodyPre bodyPost bodyAt0 Phi
  simp only [before0_0, before0_1, before0_2, before0_3, before0_4, before0_5]
  iintro ⟨⟨⟨%x9, %x10, %x11, %hI, H9, H10, H11⟩, Hr⟩, Ho, ⟨%d0, H0⟩, ⟨%d1, H1⟩, ⟨%d2, H2⟩, ⟨%d3, H3⟩, ⟨%d4, H4⟩, ⟨%d5, H5⟩, ⟨%d6, H6⟩⟩
  iapply (body_mid c (grid0.coords t) _ _ _ _ _ _ _ _ _ _ _ _ _ _ _ _ _ _ _ _ (iblk m c 0 t) (iblk m c 1 t) (iblk m c 2 t) (iblk m c 3 t) (iblk m c 4 t) (iblk m c 5 t) ((dats m 0 c).before 6 t d6) x9 x10 x11
    (fun h => absurd (hc.1.1 h) (by omega)) (hc.2.1.2 (by omega)) (fun h => absurd (hc.2.2.1.1 h) (by omega)) (fun h => absurd (hc.2.2.2.1 h) (by omega)) Set.univ _)
  unfold held
  isplitl [H0 H1 H2 H3 H4 H5 H6 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    iexact H11
  iintro ⟨H0, H1, H2, H3, H4, H5, H6, H9, H10, H11⟩
  isplitl [H9 H10 H11 Hr]
  · isplitl [H9 H10 H11]
    · iexists _; iexists _; iexists _
      isplitr; swap
      · isplitl [H9]; · iexact H9
        isplitl [H10]; · iexact H10
        iexact H11
      ipureintro
      exact inv_step m hI (by omega) (fun h => absurd h (by omega)) (fun _ => rfl)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [out_eq m hI (by omega)]; iexact H6

set_option maxHeartbeats 1000000 in
/-- The body at the last point of a middle row. -/
theorem sound_mid_last (c : Dev nD) (t : Fin cfg0.N) (h : 9 ≤ t.val) (h2 : t.val < 270) (h' : t.val % 9 = 8) :
    bodyPre m c t ⊢ wp frame (wpE (defs₀ (F := F)) Variants.none c none) Set.univ (bodyAt0 t) (fun _ => bodyPost m c t (iprop(owns (c : Thread nD τ) (st0_6 t) fullShare (OUTat m c t.val)))) := by
  have hN := t_lt t
  have hc := cond_tab t
  unfold bodyPre bodyPost bodyAt0 Phi
  simp only [before0_0, before0_1, before0_2, before0_3, before0_4, before0_5]
  iintro ⟨⟨⟨%x9, %x10, %x11, %hI, H9, H10, H11⟩, Hr⟩, Ho, ⟨%d0, H0⟩, ⟨%d1, H1⟩, ⟨%d2, H2⟩, ⟨%d3, H3⟩, ⟨%d4, H4⟩, ⟨%d5, H5⟩, ⟨%d6, H6⟩⟩
  iapply (body_mid_last c (grid0.coords t) _ _ _ _ _ _ _ _ _ _ _ _ _ _ _ _ _ _ _ _ (iblk m c 0 t) (iblk m c 1 t) (iblk m c 2 t) (iblk m c 3 t) (iblk m c 4 t) (iblk m c 5 t) ((dats m 0 c).before 6 t d6) x9 x10 x11
    (fun h => absurd (hc.1.1 h) (by omega)) (hc.2.1.2 (by omega)) (fun h => absurd (hc.2.2.1.1 h) (by omega)) (hc.2.2.2.2 (by omega)) Set.univ _)
  unfold held
  isplitl [H0 H1 H2 H3 H4 H5 H6 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    iexact H11
  iintro ⟨H0, H1, H2, H3, H4, H5, H6, H9, H10, H11⟩
  isplitl [H9 H10 H11 Hr]
  · isplitl [H9 H10 H11]
    · iexists _; iexists _; iexists _
      isplitr; swap
      · isplitl [H9]; · iexact H9
        isplitl [H10]; · iexact H10
        iexact H11
      ipureintro
      exact inv_step m hI (by omega) (fun _ => rfl) (fun h => absurd h (by omega))
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [out_eq m hI (by omega)]; iexact H6

set_option maxHeartbeats 1000000 in
/-- The body at a point after the last row. -/
theorem sound_end (c : Dev nD) (t : Fin cfg0.N) (h : 270 ≤ t.val) :
    bodyPre m c t ⊢ wp frame (wpE (defs₀ (F := F)) Variants.none c none) Set.univ (bodyAt0 t) (fun _ => bodyPost m c t (iprop(owns (c : Thread nD τ) (st0_6 t) fullShare (OUTat m c t.val)))) := by
  have hN := t_lt t
  have hc := cond_tab t
  unfold bodyPre bodyPost bodyAt0 Phi
  simp only [before0_0, before0_1, before0_2, before0_3, before0_4, before0_5]
  iintro ⟨⟨⟨%x9, %x10, %x11, %hI, H9, H10, H11⟩, Hr⟩, Ho, ⟨%d0, H0⟩, ⟨%d1, H1⟩, ⟨%d2, H2⟩, ⟨%d3, H3⟩, ⟨%d4, H4⟩, ⟨%d5, H5⟩, ⟨%d6, H6⟩⟩
  iapply (body_end c (grid0.coords t) _ _ _ _ _ _ _ _ _ _ _ _ _ _ _ _ _ _ _ _ (iblk m c 0 t) (iblk m c 1 t) (iblk m c 2 t) (iblk m c 3 t) (iblk m c 4 t) (iblk m c 5 t) ((dats m 0 c).before 6 t d6) x9 x10 x11
    (fun h => absurd (hc.1.1 h) (by omega)) (fun h => absurd (hc.2.1.1 h) (by omega)) (hc.2.2.1.2 (by omega)) (fun h => absurd (hc.2.2.2.1 h) (by omega)) Set.univ _)
  unfold held
  isplitl [H0 H1 H2 H3 H4 H5 H6 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    iexact H11
  iintro ⟨H0, H1, H2, H3, H4, H5, H6, H9, H10, H11⟩
  isplitl [H9 H10 H11 Hr]
  · isplitl [H9 H10 H11]
    · iexists _; iexists _; iexists _
      isplitr; swap
      · isplitl [H9]; · iexact H9
        isplitl [H10]; · iexact H10
        iexact H11
      ipureintro
      exact inv_end m hI h hN
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [out_eq m hI (by omega)]; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  by_cases h9 : t.val < 9
  · have hO : (match cfg0.idle 6 (cfg0.grid.coords t) with
        | true => match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t) : sProp 𝕄)
        = iprop(∃ d, owns (c : Thread nD τ) (st0_6 t) fullShare ((dats m 0 c).before 6 t d)) := by
      rw [idle_tab t, flush_tab t h9, decide_eq_true h9]
    have hs := if h' : t.val % 9 = 8 then sound_first_last m c t h9 h' else sound_first m c t h9 h'
    rw [← hO] at hs
    exact triple_restated hs rfl .rfl fun _ => .rfl
  · have hO : (match cfg0.idle 6 (cfg0.grid.coords t) with
        | true => match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t) : sProp 𝕄)
        = iprop(owns (c : Thread nD τ) (st0_6 t) fullShare (OUTat m c t.val)) := by
      rw [idle_tab t, decide_eq_false h9]; rfl
    have hs := if h2 : t.val < 270 then (if h' : t.val % 9 = 8 then sound_mid_last m c t (by omega) h2 h' else sound_mid m c t (by omega) h2 h') else sound_end m c t (by omega)
    rw [← hO] at hs
    exact triple_restated hs rfl .rfl fun _ => .rfl

/-! ## The run and the frame -/

/-- Before the first point the scratch holds anything, -/
theorem phi_in (c : Dev nD) : Pipeline.ΦA spec0 c ⊢ (dats (F := F) m 0 c).Φ 0 := by
  show Pipeline.ΦA spec0 c ⊢ Phi m c 0
  unfold Pipeline.ΦA Phi
  rw [scopedRest0_eq]
  simp only [owns_whole]
  iintro ⟨⟨⟨%f9, H9⟩, ⟨%f10, H10⟩, ⟨%f11, H11⟩⟩, Hr⟩
  isplitl [H9 H10 H11]
  · iexists f9; iexists f10; iexists f11
    isplitr; swap
    · isplitl [H9]; · iexact H9
      isplitl [H10]; · iexact H10
      iexact H11
    ipureintro
    exact inv_zero m c _ _ _
  iexact Hr

/-- and after the last its contents are forgotten. -/
theorem phi_out (c : Dev nD) : (dats (F := F) m 0 c).Φ (Fin.last cfg0.N) ⊢ Pipeline.ΦA spec0 c := by
  show Phi m c cfg0.N ⊢ Pipeline.ΦA spec0 c
  unfold Pipeline.ΦA Phi
  rw [scopedRest0_eq]
  simp only [owns_whole]
  iintro ⟨⟨%x9, %x10, %x11, %hI, H9, H10, H11⟩, Hr⟩
  isplitl [H9 H10 H11]
  · isplitl [H9]; · iexists x9; iexact H9
    isplitl [H10]; · iexists x10; iexact H10
    iexists x11; iexact H11
  iexact Hr

set_option backward.isDefEq.respectTransparency.types false in
set_option maxHeartbeats 800000 in
/-- The launch: every array of the pipeline ends at what the proof data computes, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Down.Hand

end
-- ==== Proof.DownIdealBody.lean ====
/- The body of the down kernel at each kind of grid point. -/
module

public import proofs.«01_k».proof.Proof.Gen.DownIdeal.Skeleton
public import proofs.«01_k».proof.Proof.Gen.DownIdeal.Frame
public import Idealize.ShloMosaic.Lib.VecWindow

@[expose] public section

set_option maxRecDepth 16384

noncomputable section

namespace Cert.DownIdeal.Hand

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the last branch: the row's last block of columns, not after the last row. -/
abbrev k0_cond4 (i : grid0.Coords) : BitVec 1 :=
  Scalar.cmpi .ne (Scalar.extui (Scalar.andi (Scalar.cmpi .eq (BitVec.ofNat 32 (i 1).val) 8#32) (Scalar.cmpi .slt (BitVec.ofNat 32 (i 0).val) 30#32)) : BitVec 32) 0#32

/-! ## What one point does to the values held -/

theorem inb_cols (i : grid0.Coords) : ∀ a, (![0, 512 * (i 1).val] : Fin 2 → ℕ) a + S1x512.size a ≤ S1x4608.size a := by
  have h : (i 1).val < 9 := (i 1).isLt
  intro a; match a with
  | ⟨0, _⟩ => exact Nat.le_refl 1
  | ⟨1, _⟩ => show 512 * (i 1).val + 512 ≤ 4608; omega

theorem inb_slice (i : grid0.Coords) : ∀ a, (![(i 1).val, 0, 0] : Fin 3 → ℕ) a + S1x512x512.size a ≤ S9x512x512.size a := by
  have h : (i 1).val < 9 := (i 1).isLt
  intro a; match a with
  | ⟨0, _⟩ => show (i 1).val + 1 ≤ 9; omega
  | ⟨1, _⟩ => exact Nat.le_refl 512
  | ⟨2, _⟩ => exact Nat.le_refl 512

/-- The point's 512 columns of a row vector. -/
def cols (i : grid0.Coords) (x : S1x4608.Idx → Elt F .f32) : Vec F S1x512 .f32 :=
  VecWindow.window x ![0, 512 * (i 1).val] S1x512.size (inb_cols i)

/-- The point's slice of the strip. -/
def slice (i : grid0.Coords) (x : S9x512x512.Idx → Elt F .f32) : Vec F S1x512x512 .f32 :=
  VecWindow.window x ![(i 1).val, 0, 0] S1x512x512.size (inb_slice i)

/-- The product block of the point, as the strip keeps it. -/
def blockY (i : grid0.Coords) (x2 : S512x9216.Idx → Elt F .fp8e4m3) (x4 : S9216x512.Idx → Elt F .fp8e4m3) (x5 : S1x4608.Idx → Elt F .f32) : Vec F S1x512x512 .f32 :=
  k0_pay2 x2 x4 (cols i x5)

/-- The strip after a point that stores its product block. -/
def next9 (i : grid0.Coords) (x2 : S512x9216.Idx → Elt F .fp8e4m3) (x4 : S9216x512.Idx → Elt F .fp8e4m3) (x5 : S1x4608.Idx → Elt F .f32)
    (x9 : S9x512x512.Idx → Elt F .f32) : S9x512x512.Idx → Elt F .f32 :=
  VecWindow.put x9 ![(i 1).val, 0, 0] S1x512x512.size (blockY i x2 x4 x5)

/-- The running sums of squares after a point that adds its product block. -/
def next10 (i : grid0.Coords) (x2 : S512x9216.Idx → Elt F .fp8e4m3) (x4 : S9216x512.Idx → Elt F .fp8e4m3) (x5 : S1x4608.Idx → Elt F .f32)
    (x10 : S512x128.Idx → Elt F .f32) : S512x128.Idx → Elt F .f32 :=
  k0_pay3 i x2 x4 (cols i x5) x10

/-- The output block of a point: the strip's slice times the row factor and the gain, added to the residual. -/
def outBlock (i : grid0.Coords) (x7 : S512x512.Idx → Elt F .f32) (y : Vec F S1x512x512 .f32) (x11 : S512x1.Idx → Elt F .f32)
    (x6 : S1x4608.Idx → Elt F .f32) : S512x512.Idx → Elt F .bf16 :=
  k0_pay5 x7 y x11 (cols i x6)

theorem k0_pay4_eq (i : grid0.Coords) (a : Vec F S512x9216 .fp8e4m3) (b : Vec F S9216x512 .fp8e4m3) (d : Vec F S1x512 .f32) (e : Vec F S512x128 .f32) :
    k0_pay4 (k0_pay10 a b d) (Scalar.cmpi .eq (BitVec.ofNat 32 (i 1).val) 0#32) e = k0_pay3 i a b d e := rfl

variable (c : Dev nD) (i : grid0.Coords)
    (arg2 : Memref sig .tc .vmem S512x9216 .fp8e4m3) (harg2 : arg2.IsWhole)
    (arg3 : Memref sig .tc .vmem S512x1 .f32) (harg3 : arg3.IsWhole)
    (arg4 : Memref sig .tc .vmem S9216x512 .fp8e4m3) (harg4 : arg4.IsWhole)
    (arg5 : Memref sig .tc .vmem S1x4608 .f32) (harg5 : arg5.IsWhole)
    (arg6 : Memref sig .tc .vmem S1x4608 .f32) (harg6 : arg6.IsWhole)
    (arg7 : Memref sig .tc .vmem S512x512 .f32) (harg7 : arg7.IsWhole)
    (arg8 : Memref sig .tc .vmem S512x512 .bf16) (harg8 : arg8.IsWhole)
    (arg9 : Memref sig .tc .vmem S9x512x512 .f32) (harg9 : arg9.IsWhole)
    (arg10 : Memref sig .tc .vmem S512x128 .f32) (harg10 : arg10.IsWhole)
    (arg11 : Memref sig .tc .vmem S512x1 .f32) (harg11 : arg11.IsWhole)
    (x2 : S512x9216.Idx → Elt F .fp8e4m3)
    (x3 : S512x1.Idx → Elt F .f32)
    (x4 : S9216x512.Idx → Elt F .fp8e4m3)
    (x5 : S1x4608.Idx → Elt F .f32)
    (x6 : S1x4608.Idx → Elt F .f32)
    (x7 : S512x512.Idx → Elt F .f32)
    (x8 : S512x512.Idx → Elt F .bf16)
    (x9 : S9x512x512.Idx → Elt F .f32)
    (x10 : S512x128.Idx → Elt F .f32)
    (x11 : S512x1.Idx → Elt F .f32)

/-- The ten buffers of the body, each held whole at the values named. -/
def held : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11)

set_option maxHeartbeats 1000000 in
/-- A point of the first row before its last block: the product block and its sums are stored. -/
theorem body_first (hc1 : k0_cond1 i = 1#1) (hc2 : ¬ k0_cond2 i = 1#1) (hc3 : ¬ k0_cond3 i = 1#1) (hc4 : ¬ k0_cond4 i = 1#1) (E : Set ℕ) (K : PUnit → sProp 𝕄) :
    iprop(held c arg2 arg3 arg4 arg5 arg6 arg7 arg8 arg9 arg10 arg11 x2 x3 x4 x5 x6 x7 x8 x9 x10 x11 ∗ (held c arg2 arg3 arg4 arg5 arg6 arg7 arg8 arg9 arg10 arg11 x2 x3 x4 x5 x6 x7 x8 (next9 i x2 x4 x5 x9) (next10 i x2 x4 x5 x10) x11 -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11) K := by
  simp only [cc0_down_eq_skeleton]
  unfold cc0_down_skel
  simp only [k0_part1_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact harg8.read_unread x8
  isplitl [H9]
  · iexists _; isplitr; swap; iexact H9; ipureintro
    refine (View.read_writes_cons_put arg9.view _ _ _ _ (k0_off2_eq i)).trans ?_
    rw [View.writes_nil, harg9.read_unread]
    exact congrArg (VecWindow.put x9 _ _) (congr (congr (congrArg k0_pay2 ((View.readAt_full arg2.view _ _).trans (harg2.read_unread x2))) ((View.readAt_full arg4.view _ _).trans (harg4.read_unread x4))) ((View.readAt_unit arg5.view _ _ (k0_off1_eq i) (inb_cols i)).trans (congrArg (cols i) (harg5.read_unread x5))))
  isplitl [H10]
  · iexists _; isplitr; swap; iexact H10; ipureintro
    exact ((View.read_writes_full arg10.view _ _ _ _).trans ((congr (congr (congr (congrArg (k0_pay3 i) ((View.readAt_full arg2.view _ _).trans (harg2.read_unread x2))) ((View.readAt_full arg4.view _ _).trans (harg4.read_unread x4))) ((View.readAt_unit arg5.view _ _ (k0_off1_eq i) (inb_cols i)).trans (congrArg (cols i) (harg5.read_unread x5)))) ((View.readAt_full arg10.view _ _).trans (harg10.read_unread x10)))))
  iexists _; isplitr; swap; iexact H11; ipureintro
  exact harg11.read_unread x11

set_option maxHeartbeats 1000000 in
/-- The last point of the first row: the row factor is stored too. -/
theorem body_first_last (hc1 : k0_cond1 i = 1#1) (hc2 : ¬ k0_cond2 i = 1#1) (hc3 : ¬ k0_cond3 i = 1#1) (hc4 : k0_cond4 i = 1#1) (E : Set ℕ) (K : PUnit → sProp 𝕄) :
    iprop(held c arg2 arg3 arg4 arg5 arg6 arg7 arg8 arg9 arg10 arg11 x2 x3 x4 x5 x6 x7 x8 x9 x10 x11 ∗ (held c arg2 arg3 arg4 arg5 arg6 arg7 arg8 arg9 arg10 arg11 x2 x3 x4 x5 x6 x7 x8 (next9 i x2 x4 x5 x9) (next10 i x2 x4 x5 x10) (k0_pay6 x3 (next10 i x2 x4 x5 x10)) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11) K := by
  simp only [cc0_down_eq_skeleton]
  unfold cc0_down_skel
  simp only [k0_part1_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact harg8.read_unread x8
  isplitl [H9]
  · iexists _; isplitr; swap; iexact H9; ipureintro
    refine (View.read_writes_cons_put arg9.view _ _ _ _ (k0_off2_eq i)).trans ?_
    rw [View.writes_nil, harg9.read_unread]
    exact congrArg (VecWindow.put x9 _ _) (congr (congr (congrArg k0_pay2 ((View.readAt_full arg2.view _ _).trans (harg2.read_unread x2))) ((View.readAt_full arg4.view _ _).trans (harg4.read_unread x4))) ((View.readAt_unit arg5.view _ _ (k0_off1_eq i) (inb_cols i)).trans (congrArg (cols i) (harg5.read_unread x5))))
  isplitl [H10]
  · iexists _; isplitr; swap; iexact H10; ipureintro
    exact ((View.read_writes_full arg10.view _ _ _ _).trans ((congr (congr (congr (congrArg (k0_pay3 i) ((View.readAt_full arg2.view _ _).trans (harg2.read_unread x2))) ((View.readAt_full arg4.view _ _).trans (harg4.read_unread x4))) ((View.readAt_unit arg5.view _ _ (k0_off1_eq i) (inb_cols i)).trans (congrArg (cols i) (harg5.read_unread x5)))) ((View.readAt_full arg10.view _ _).trans (harg10.read_unread x10)))))
  iexists _; isplitr; swap; iexact H11; ipureintro
  refine (View.read_writes_full arg11.view _ _ _ _).trans (congr (congrArg k0_pay6 ((View.readAt_full arg3.view _ _).trans (harg3.read_unread x3))) ((View.readAt_full arg10.view _ _).trans ?_))
  exact ((View.read_writes_full arg10.view _ _ _ _).trans ((congr (congr (congr (congrArg (k0_pay3 i) ((View.readAt_full arg2.view _ _).trans (harg2.read_unread x2))) ((View.readAt_full arg4.view _ _).trans (harg4.read_unread x4))) ((View.readAt_unit arg5.view _ _ (k0_off1_eq i) (inb_cols i)).trans (congrArg (cols i) (harg5.read_unread x5)))) ((View.readAt_full arg10.view _ _).trans (harg10.read_unread x10)))))

set_option maxHeartbeats 1000000 in
/-- A point of a middle row before its last block: the previous row's output block is stored, then this row's product block and sums. -/
theorem body_mid (hc1 : ¬ k0_cond1 i = 1#1) (hc2 : k0_cond2 i = 1#1) (hc3 : ¬ k0_cond3 i = 1#1) (hc4 : ¬ k0_cond4 i = 1#1) (E : Set ℕ) (K : PUnit → sProp 𝕄) :
    iprop(held c arg2 arg3 arg4 arg5 arg6 arg7 arg8 arg9 arg10 arg11 x2 x3 x4 x5 x6 x7 x8 x9 x10 x11 ∗ (held c arg2 arg3 arg4 arg5 arg6 arg7 arg8 arg9 arg10 arg11 x2 x3 x4 x5 x6 x7 (outBlock i x7 (slice i x9) x11 x6) (next9 i x2 x4 x5 x9) (next10 i x2 x4 x5 x10) x11 -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11) K := by
  simp only [cc0_down_eq_skeleton]
  unfold cc0_down_skel
  simp only [k0_part1_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact (View.read_writes_full arg8.view _ _ _ _).trans (congr (congr (congr (congrArg k0_pay5 ((View.readAt_full arg7.view _ _).trans (harg7.read_unread x7))) ((View.readAt_unit arg9.view _ _ (k0_off3_eq i) (inb_slice i)).trans (congrArg (slice i) (harg9.read_unread x9)))) ((View.readAt_full arg11.view _ _).trans (harg11.read_unread x11))) ((View.readAt_unit arg6.view _ _ (k0_off4_eq i) (inb_cols i)).trans (congrArg (cols i) (harg6.read_unread x6))))
  isplitl [H9]
  · iexists _; isplitr; swap; iexact H9; ipureintro
    refine (View.read_writes_cons_put arg9.view _ _ _ _ (k0_off3_eq i)).trans ?_
    rw [View.writes_nil, harg9.read_unread]
    exact congrArg (VecWindow.put x9 _ _) (congr (congr (congrArg k0_pay2 ((View.readAt_full arg2.view _ _).trans (harg2.read_unread x2))) ((View.readAt_full arg4.view _ _).trans (harg4.read_unread x4))) ((View.readAt_unit arg5.view _ _ (k0_off4_eq i) (inb_cols i)).trans (congrArg (cols i) (harg5.read_unread x5))))
  isplitl [H10]
  · iexists _; isplitr; swap; iexact H10; ipureintro
    exact ((View.read_writes_full arg10.view _ _ _ _).trans ((k0_pay4_eq i _ _ _ _).trans (congr (congr (congr (congrArg (k0_pay3 i) ((View.readAt_full arg2.view _ _).trans (harg2.read_unread x2))) ((View.readAt_full arg4.view _ _).trans (harg4.read_unread x4))) ((View.readAt_unit arg5.view _ _ (k0_off4_eq i) (inb_cols i)).trans (congrArg (cols i) (harg5.read_unread x5)))) ((View.readAt_full arg10.view _ _).trans (harg10.read_unread x10)))))
  iexists _; isplitr; swap; iexact H11; ipureintro
  exact harg11.read_unread x11

set_option maxHeartbeats 1000000 in
/-- The last point of a middle row. -/
theorem body_mid_last (hc1 : ¬ k0_cond1 i = 1#1) (hc2 : k0_cond2 i = 1#1) (hc3 : ¬ k0_cond3 i = 1#1) (hc4 : k0_cond4 i = 1#1) (E : Set ℕ) (K : PUnit → sProp 𝕄) :
    iprop(held c arg2 arg3 arg4 arg5 arg6 arg7 arg8 arg9 arg10 arg11 x2 x3 x4 x5 x6 x7 x8 x9 x10 x11 ∗ (held c arg2 arg3 arg4 arg5 arg6 arg7 arg8 arg9 arg10 arg11 x2 x3 x4 x5 x6 x7 (outBlock i x7 (slice i x9) x11 x6) (next9 i x2 x4 x5 x9) (next10 i x2 x4 x5 x10) (k0_pay6 x3 (next10 i x2 x4 x5 x10)) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11) K := by
  simp only [cc0_down_eq_skeleton]
  unfold cc0_down_skel
  simp only [k0_part1_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact (View.read_writes_full arg8.view _ _ _ _).trans (congr (congr (congr (congrArg k0_pay5 ((View.readAt_full arg7.view _ _).trans (harg7.read_unread x7))) ((View.readAt_unit arg9.view _ _ (k0_off3_eq i) (inb_slice i)).trans (congrArg (slice i) (harg9.read_unread x9)))) ((View.readAt_full arg11.view _ _).trans (harg11.read_unread x11))) ((View.readAt_unit arg6.view _ _ (k0_off4_eq i) (inb_cols i)).trans (congrArg (cols i) (harg6.read_unread x6))))
  isplitl [H9]
  · iexists _; isplitr; swap; iexact H9; ipureintro
    refine (View.read_writes_cons_put arg9.view _ _ _ _ (k0_off3_eq i)).trans ?_
    rw [View.writes_nil, harg9.read_unread]
    exact congrArg (VecWindow.put x9 _ _) (congr (congr (congrArg k0_pay2 ((View.readAt_full arg2.view _ _).trans (harg2.read_unread x2))) ((View.readAt_full arg4.view _ _).trans (harg4.read_unread x4))) ((View.readAt_unit arg5.view _ _ (k0_off4_eq i) (inb_cols i)).trans (congrArg (cols i) (harg5.read_unread x5))))
  isplitl [H10]
  · iexists _; isplitr; swap; iexact H10; ipureintro
    exact ((View.read_writes_full arg10.view _ _ _ _).trans ((k0_pay4_eq i _ _ _ _).trans (congr (congr (congr (congrArg (k0_pay3 i) ((View.readAt_full arg2.view _ _).trans (harg2.read_unread x2))) ((View.readAt_full arg4.view _ _).trans (harg4.read_unread x4))) ((View.readAt_unit arg5.view _ _ (k0_off4_eq i) (inb_cols i)).trans (congrArg (cols i) (harg5.read_unread x5)))) ((View.readAt_full arg10.view _ _).trans (harg10.read_unread x10)))))
  iexists _; isplitr; swap; iexact H11; ipureintro
  refine (View.read_writes_full arg11.view _ _ _ _).trans (congr (congrArg k0_pay6 ((View.readAt_full arg3.view _ _).trans (harg3.read_unread x3))) ((View.readAt_full arg10.view _ _).trans ?_))
  exact ((View.read_writes_full arg10.view _ _ _ _).trans ((k0_pay4_eq i _ _ _ _).trans (congr (congr (congr (congrArg (k0_pay3 i) ((View.readAt_full arg2.view _ _).trans (harg2.read_unread x2))) ((View.readAt_full arg4.view _ _).trans (harg4.read_unread x4))) ((View.readAt_unit arg5.view _ _ (k0_off4_eq i) (inb_cols i)).trans (congrArg (cols i) (harg5.read_unread x5)))) ((View.readAt_full arg10.view _ _).trans (harg10.read_unread x10)))))

set_option maxHeartbeats 1000000 in
/-- A point after the last row: only the last row's output block is stored. -/
theorem body_end (hc1 : ¬ k0_cond1 i = 1#1) (hc2 : ¬ k0_cond2 i = 1#1) (hc3 : k0_cond3 i = 1#1) (hc4 : ¬ k0_cond4 i = 1#1) (E : Set ℕ) (K : PUnit → sProp 𝕄) :
    iprop(held c arg2 arg3 arg4 arg5 arg6 arg7 arg8 arg9 arg10 arg11 x2 x3 x4 x5 x6 x7 x8 x9 x10 x11 ∗ (held c arg2 arg3 arg4 arg5 arg6 arg7 arg8 arg9 arg10 arg11 x2 x3 x4 x5 x6 x7 (outBlock i x7 (slice i x9) x11 x6) x9 x10 x11 -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11) K := by
  simp only [cc0_down_eq_skeleton]
  unfold cc0_down_skel
  simp only [k0_part1_eq_skeleton]
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2 | sl_exact hc3 | sl_exact hc4)
  sl_step
  iapply Hk
  isplitl [H2]
  · iexists _; isplitr; swap; iexact H2; ipureintro
    exact harg2.read_unread x2
  isplitl [H3]
  · iexists _; isplitr; swap; iexact H3; ipureintro
    exact harg3.read_unread x3
  isplitl [H4]
  · iexists _; isplitr; swap; iexact H4; ipureintro
    exact harg4.read_unread x4
  isplitl [H5]
  · iexists _; isplitr; swap; iexact H5; ipureintro
    exact harg5.read_unread x5
  isplitl [H6]
  · iexists _; isplitr; swap; iexact H6; ipureintro
    exact harg6.read_unread x6
  isplitl [H7]
  · iexists _; isplitr; swap; iexact H7; ipureintro
    exact harg7.read_unread x7
  isplitl [H8]
  · iexists _; isplitr; swap; iexact H8; ipureintro
    exact (View.read_writes_full arg8.view _ _ _ _).trans (congr (congr (congr (congrArg k0_pay5 ((View.readAt_full arg7.view _ _).trans (harg7.read_unread x7))) ((View.readAt_unit arg9.view _ _ (k0_off5_eq i) (inb_slice i)).trans (congrArg (slice i) (harg9.read_unread x9)))) ((View.readAt_full arg11.view _ _).trans (harg11.read_unread x11))) ((View.readAt_unit arg6.view _ _ (k0_off6_eq i) (inb_cols i)).trans (congrArg (cols i) (harg6.read_unread x6))))
  isplitl [H9]
  · iexists _; isplitr; swap; iexact H9; ipureintro
    exact harg9.read_unread x9
  isplitl [H10]
  · iexists _; isplitr; swap; iexact H10; ipureintro
    exact harg10.read_unread x10
  iexists _; isplitr; swap; iexact H11; ipureintro
  exact harg11.read_unread x11

end Cert.DownIdeal.Hand

end
-- ==== Proof.DownIdealRun.lean ====
/- The run of the down kernel: what its scratch holds before every grid point, the body's obligation at every point, and the launch. -/
module

public import proofs.«01_k».proof.Proof.DownIdealBody
public import Idealize.ShloMosaic.Lib.Claim

@[expose] public section

set_option maxRecDepth 16384

noncomputable section

namespace Cert.DownIdeal.Hand

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- Point `t` is row block `t / 9`, column block `t % 9`. -/
theorem coords_tab : ∀ t : Fin cfg0.N, (grid0.coords t 0).val = t.val / 9 ∧ (grid0.coords t 1).val = t.val % 9 := by decide +kernel

/-- The four conditions of the body, by the point's number. -/
theorem cond_tab : ∀ t : Fin cfg0.N, (k0_cond1 (grid0.coords t) = 1#1 ↔ t.val < 9) ∧ (k0_cond2 (grid0.coords t) = 1#1 ↔ 9 ≤ t.val ∧ t.val < 270)
    ∧ (k0_cond3 (grid0.coords t) = 1#1 ↔ 270 ≤ t.val) ∧ (k0_cond4 (grid0.coords t) = 1#1 ↔ t.val % 9 = 8 ∧ t.val < 270) := by decide +kernel

/-- The output window is idle exactly in the first row, -/
theorem idle_tab : ∀ t : Fin cfg0.N, cfg0.idle 6 (cfg0.grid.coords t) = decide (t.val < 9) := by decide +kernel

/-- and is not written back there. -/
theorem flush_tab : ∀ t : Fin cfg0.N, t.val < 9 → (cfg0.win 6).flush t = false := by decide +kernel

theorem t_lt (t : Fin cfg0.N) : t.val < 279 := Nat.lt_of_lt_of_eq t.isLt N_0

/-- The point numbered `n` (the last one past the end). -/
def pt (n : ℕ) : Fin cfg0.N := ⟨min n 278, Nat.lt_of_lt_of_eq (by omega : min n 278 < 279) N_0.symm⟩

theorem pt_val (t : Fin cfg0.N) : pt t.val = t :=
  Fin.ext (by have h := t_lt t; show min t.val 278 = t.val; omega)

/-! ## What the scratch holds -/

/-- The product block of point `n`. -/
def Yat (c : Dev nD) (n : ℕ) : Vec F S1x512x512 .f32 := blockY (grid0.coords (pt n)) (iblk m c 0 (pt n)) (iblk m c 2 (pt n)) (iblk m c 3 (pt n))

/-- The running sums of squares after point `n`, of its row block. -/
def SSat (c : Dev nD) : ℕ → (S512x128.Idx → Elt F .f32)
  | 0 => next10 (grid0.coords (pt 0)) (iblk m c 0 (pt 0)) (iblk m c 2 (pt 0)) (iblk m c 3 (pt 0)) (fun _ => Scalar.ofBits .f32 0#32)
  | n + 1 => next10 (grid0.coords (pt (n + 1))) (iblk m c 0 (pt (n + 1))) (iblk m c 2 (pt (n + 1))) (iblk m c 3 (pt (n + 1))) (SSat c n)

/-- The row factors computed at point `n`, the last of its row block. -/
def FACat (c : Dev nD) (n : ℕ) : S512x1.Idx → Elt F .f32 := k0_pay6 (iblk m c 1 (pt n)) (SSat m c n)

/-- The output block stored at point `n`, of the row block before it. -/
def OUTat (c : Dev nD) (n : ℕ) : S512x512.Idx → Elt F .bf16 :=
  outBlock (grid0.coords (pt n)) (iblk m c 5 (pt n)) (Yat m c (n - 9)) (FACat m c (n / 9 * 9 - 1)) (iblk m c 4 (pt n))

theorem inb_at (j : ℕ) (hj : j < 9) : ∀ a, (![j, 0, 0] : Fin 3 → ℕ) a + S1x512x512.size a ≤ S9x512x512.size a := by
  intro a; match a with
  | ⟨0, _⟩ => show j + 1 ≤ 9; omega
  | ⟨1, _⟩ => exact Nat.le_refl 512
  | ⟨2, _⟩ => exact Nat.le_refl 512

/-- What is known of the scratch before point `n`. -/
structure Inv (c : Dev nD) (n : ℕ) (x9 : S9x512x512.Idx → Elt F .f32) (x10 : S512x128.Idx → Elt F .f32) (x11 : S512x1.Idx → Elt F .f32) : Prop where
  strip : ∀ (j : ℕ) (hj : j < 9), j < n → VecWindow.window x9 ![j, 0, 0] S1x512x512.size (inb_at j hj) = Yat m c (j + 9 * min 29 ((n - 1 - j) / 9))
  sums : 0 < n → n ≤ 270 → x10 = SSat m c (n - 1)
  factor : 9 ≤ n → x11 = FACat m c (9 * min 29 (n / 9 - 1) + 8)

theorem inv_zero (c : Dev nD) (x9 : S9x512x512.Idx → Elt F .f32) (x10 : S512x128.Idx → Elt F .f32) (x11 : S512x1.Idx → Elt F .f32) : Inv m c 0 x9 x10 x11 :=
  ⟨fun j hj h => absurd h (Nat.not_lt_zero j), fun h => absurd h (Nat.lt_irrefl 0), fun h => absurd h (by omega)⟩

/-- In the first column the sums start afresh. -/
theorem next10_fresh (i : grid0.Coords) (hi : (i 1).val = 0) (x2 : S512x9216.Idx → Elt F .fp8e4m3) (x4 : S9216x512.Idx → Elt F .fp8e4m3) (x5 : S1x4608.Idx → Elt F .f32)
    (x10 x10' : S512x128.Idx → Elt F .f32) : next10 i x2 x4 x5 x10 = next10 i x2 x4 x5 x10' := by
  unfold next10 k0_pay3
  rw [hi]
  rfl

theorem Yat_eq (c : Dev nD) (t : Fin cfg0.N) : blockY (grid0.coords t) (iblk m c 0 t) (iblk m c 2 t) (iblk m c 3 t) = Yat m c t.val := by
  unfold Yat; rw [pt_val]

theorem slice_eq (i : grid0.Coords) (x : S9x512x512.Idx → Elt F .f32) (j : ℕ) (hj : j < 9) (h : (i 1).val = j) :
    slice i x = VecWindow.window x ![j, 0, 0] S1x512x512.size (inb_at j hj) := by
  subst h; rfl

theorem slice_inv {c : Dev nD} {t : Fin cfg0.N} {x9 : S9x512x512.Idx → Elt F .f32} {x10 : S512x128.Idx → Elt F .f32} {x11 : S512x1.Idx → Elt F .f32}
    (h : Inv m c t.val x9 x10 x11) (ht : 9 ≤ t.val) : slice (grid0.coords t) x9 = Yat m c (t.val - 9) := by
  have hN := t_lt t
  have e := (coords_tab t).2
  have hs := h.strip (t.val % 9) (by omega) (by omega)
  rw [show t.val % 9 + 9 * min 29 ((t.val - 1 - t.val % 9) / 9) = t.val - 9 by omega] at hs
  rw [← hs]
  exact slice_eq _ _ _ (by omega) e

theorem factor_inv {c : Dev nD} {n : ℕ} {x9 : S9x512x512.Idx → Elt F .f32} {x10 : S512x128.Idx → Elt F .f32} {x11 : S512x1.Idx → Elt F .f32}
    (h : Inv m c n x9 x10 x11) (ht : 9 ≤ n) (hN : n < 279) : x11 = FACat m c (n / 9 * 9 - 1) := by
  rw [h.factor ht]; congr 1; omega

/-- One point before the last row's end keeps the invariant. -/
theorem inv_step {c : Dev nD} {t : Fin cfg0.N} {x9 : S9x512x512.Idx → Elt F .f32} {x10 : S512x128.Idx → Elt F .f32} {x11 x11' : S512x1.Idx → Elt F .f32}
    (h : Inv m c t.val x9 x10 x11) (ht : t.val < 270)
    (h8 : t.val % 9 = 8 → x11' = k0_pay6 (iblk m c 1 t) (next10 (grid0.coords t) (iblk m c 0 t) (iblk m c 2 t) (iblk m c 3 t) x10))
    (h7 : t.val % 9 ≠ 8 → x11' = x11) :
    Inv m c (t.val + 1) (next9 (grid0.coords t) (iblk m c 0 t) (iblk m c 2 t) (iblk m c 3 t) x9)
      (next10 (grid0.coords t) (iblk m c 0 t) (iblk m c 2 t) (iblk m c 3 t) x10) x11' := by
  have e := (coords_tab t).2
  have hss : next10 (grid0.coords t) (iblk m c 0 t) (iblk m c 2 t) (iblk m c 3 t) x10 = SSat m c t.val := by
    rcases Nat.eq_zero_or_pos t.val with h0 | h0
    · have et : pt 0 = t := by rw [← h0]; exact pt_val t
      rw [h0, show SSat m c 0 = next10 (grid0.coords (pt 0)) (iblk m c 0 (pt 0)) (iblk m c 2 (pt 0)) (iblk m c 3 (pt 0)) (fun _ => Scalar.ofBits .f32 0#32) from rfl, et]
      exact next10_fresh _ (by omega) _ _ _ _ _
    · have hx := h.sums h0 (by omega)
      obtain ⟨k, hk⟩ : ∃ k, t.val = k + 1 := ⟨t.val - 1, by omega⟩
      have et : pt (k + 1) = t := by rw [← hk]; exact pt_val t
      rw [hk, show SSat m c (k + 1) = next10 (grid0.coords (pt (k + 1))) (iblk m c 0 (pt (k + 1))) (iblk m c 2 (pt (k + 1))) (iblk m c 3 (pt (k + 1))) (SSat m c k) from rfl, et]
      rw [hx, hk]; rfl
  refine ⟨fun j hj hjn => ?_, fun _ _ => hss, fun h9 => ?_⟩
  · unfold next9
    rw [Yat_eq m c t]
    by_cases hjt : j = t.val % 9
    · have e1 : t.val = j + 9 * min 29 ((t.val + 1 - 1 - j) / 9) := by omega
      rw [← e1]
      have e' : (grid0.coords t 1).val = j := by omega
      rw [e']
      exact VecWindow.window_put_same _ _ _ _ _
    · rw [VecWindow.window_put_of_disjoint _ _ _ _ _ _ _ (0 : Fin 3) (by
        show j + 1 ≤ (grid0.coords t 1).val ∨ (grid0.coords t 1).val + 1 ≤ j
        omega)]
      rw [h.strip j hj (by omega)]
      congr 1; omega
  · by_cases h88 : t.val % 9 = 8
    · rw [h8 h88, hss, show 9 * min 29 ((t.val + 1) / 9 - 1) + 8 = t.val by omega]
      unfold FACat; rw [pt_val]
    · rw [h7 h88, h.factor (by omega)]
      congr 1; omega

/-- A point after the last row changes nothing. -/
theorem inv_end {c : Dev nD} {n : ℕ} {x9 : S9x512x512.Idx → Elt F .f32} {x10 : S512x128.Idx → Elt F .f32} {x11 : S512x1.Idx → Elt F .f32}
    (h : Inv m c n x9 x10 x11) (hn : 270 ≤ n) (hN : n < 279) : Inv m c (n + 1) x9 x10 x11 := by
  refine ⟨fun j hj hjn => ?_, fun _ h' => absurd h' (by omega), fun h9 => ?_⟩
  · rw [h.strip j hj (by omega)]; congr 1; omega
  · rw [h.factor (by omega)]; congr 1; omega

/-- The invariant of the run before point `n`: the scratch as `Inv` says, and the generator register. -/
def Phi (c : Dev nD) (n : ℕ) : sProp 𝕄 :=
  iprop((∃ x9 : S9x512x512.Idx → Elt F .f32, ∃ x10 : S512x128.Idx → Elt F .f32, ∃ x11 : S512x1.Idx → Elt F .f32, ⌜Inv m c n x9 x10 x11⌝
      ∗ owns (c : Thread nD τ) (Memref.whole cc0_scratch0) fullShare x9 ∗ owns (c : Thread nD τ) (Memref.whole cc0_scratch1) fullShare x10
      ∗ owns (c : Thread nD τ) (Memref.whole cc0_scratch2) fullShare x11) ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUTat m c t.val
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = OUTat m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, the windows one by one, -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: `O` of the output window. -/
def bodyPost (c : Dev nD) (t : Fin cfg0.N) (O : sProp 𝕄) : sProp 𝕄 :=
  iprop(Phi m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ O)

/-- The output block of a point after the first row is `OUTat`. -/
theorem out_eq {c : Dev nD} {t : Fin cfg0.N} {x9 : S9x512x512.Idx → Elt F .f32} {x10 : S512x128.Idx → Elt F .f32} {x11 : S512x1.Idx → Elt F .f32}
    (h : Inv m c t.val x9 x10 x11) (ht : 9 ≤ t.val) :
    OUTat m c t.val = outBlock (grid0.coords t) (iblk m c 5 t) (slice (grid0.coords t) x9) x11 (iblk m c 4 t) := by
  have hN := t_lt t
  rw [slice_inv m h ht, factor_inv m h ht hN]
  unfold OUTat; rw [pt_val]

set_option maxHeartbeats 1000000 in
/-- The body at a point of the first row before its end. -/
theorem sound_first (c : Dev nD) (t : Fin cfg0.N) (h : t.val < 9) (h' : t.val % 9 ≠ 8) :
    bodyPre m c t ⊢ wp frame (wpE (defs₀ (F := F)) Variants.none c none) Set.univ (bodyAt0 t) (fun _ => bodyPost m c t (iprop(∃ d, owns (c : Thread nD τ) (st0_6 t) fullShare ((dats m 0 c).before 6 t d)))) := by
  have hN := t_lt t
  have hc := cond_tab t
  unfold bodyPre bodyPost bodyAt0 Phi
  simp only [before0_0, before0_1, before0_2, before0_3, before0_4, before0_5]
  iintro ⟨⟨⟨%x9, %x10, %x11, %hI, H9, H10, H11⟩, Hr⟩, Ho, ⟨%d0, H0⟩, ⟨%d1, H1⟩, ⟨%d2, H2⟩, ⟨%d3, H3⟩, ⟨%d4, H4⟩, ⟨%d5, H5⟩, ⟨%d6, H6⟩⟩
  iapply (body_first c (grid0.coords t) _ _ _ _ _ _ _ _ _ _ _ _ _ _ _ _ _ _ _ _ (iblk m c 0 t) (iblk m c 1 t) (iblk m c 2 t) (iblk m c 3 t) (iblk m c 4 t) (iblk m c 5 t) ((dats m 0 c).before 6 t d6) x9 x10 x11
    (hc.1.2 (by omega)) (fun h => absurd (hc.2.1.1 h) (by omega)) (fun h => absurd (hc.2.2.1.1 h) (by omega)) (fun h => absurd (hc.2.2.2.1 h) (by omega)) Set.univ _)
  unfold held
  isplitl [H0 H1 H2 H3 H4 H5 H6 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    iexact H11
  iintro ⟨H0, H1, H2, H3, H4, H5, H6, H9, H10, H11⟩
  isplitl [H9 H10 H11 Hr]
  · isplitl [H9 H10 H11]
    · iexists _; iexists _; iexists _
      isplitr; swap
      · isplitl [H9]; · iexact H9
        isplitl [H10]; · iexact H10
        iexact H11
      ipureintro
      exact inv_step m hI (by omega) (fun h => absurd h (by omega)) (fun _ => rfl)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 1000000 in
/-- The body at the last point of the first row. -/
theorem sound_first_last (c : Dev nD) (t : Fin cfg0.N) (h : t.val < 9) (h' : t.val % 9 = 8) :
    bodyPre m c t ⊢ wp frame (wpE (defs₀ (F := F)) Variants.none c none) Set.univ (bodyAt0 t) (fun _ => bodyPost m c t (iprop(∃ d, owns (c : Thread nD τ) (st0_6 t) fullShare ((dats m 0 c).before 6 t d)))) := by
  have hN := t_lt t
  have hc := cond_tab t
  unfold bodyPre bodyPost bodyAt0 Phi
  simp only [before0_0, before0_1, before0_2, before0_3, before0_4, before0_5]
  iintro ⟨⟨⟨%x9, %x10, %x11, %hI, H9, H10, H11⟩, Hr⟩, Ho, ⟨%d0, H0⟩, ⟨%d1, H1⟩, ⟨%d2, H2⟩, ⟨%d3, H3⟩, ⟨%d4, H4⟩, ⟨%d5, H5⟩, ⟨%d6, H6⟩⟩
  iapply (body_first_last c (grid0.coords t) _ _ _ _ _ _ _ _ _ _ _ _ _ _ _ _ _ _ _ _ (iblk m c 0 t) (iblk m c 1 t) (iblk m c 2 t) (iblk m c 3 t) (iblk m c 4 t) (iblk m c 5 t) ((dats m 0 c).before 6 t d6) x9 x10 x11
    (hc.1.2 (by omega)) (fun h => absurd (hc.2.1.1 h) (by omega)) (fun h => absurd (hc.2.2.1.1 h) (by omega)) (hc.2.2.2.2 (by omega)) Set.univ _)
  unfold held
  isplitl [H0 H1 H2 H3 H4 H5 H6 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    iexact H11
  iintro ⟨H0, H1, H2, H3, H4, H5, H6, H9, H10, H11⟩
  isplitl [H9 H10 H11 Hr]
  · isplitl [H9 H10 H11]
    · iexists _; iexists _; iexists _
      isplitr; swap
      · isplitl [H9]; · iexact H9
        isplitl [H10]; · iexact H10
        iexact H11
      ipureintro
      exact inv_step m hI (by omega) (fun _ => rfl) (fun h => absurd h (by omega))
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 1000000 in
/-- The body at a point of a middle row before its end. -/
theorem sound_mid (c : Dev nD) (t : Fin cfg0.N) (h : 9 ≤ t.val) (h2 : t.val < 270) (h' : t.val % 9 ≠ 8) :
    bodyPre m c t ⊢ wp frame (wpE (defs₀ (F := F)) Variants.none c none) Set.univ (bodyAt0 t) (fun _ => bodyPost m c t (iprop(owns (c : Thread nD τ) (st0_6 t) fullShare (OUTat m c t.val)))) := by
  have hN := t_lt t
  have hc := cond_tab t
  unfold bodyPre bodyPost bodyAt0 Phi
  simp only [before0_0, before0_1, before0_2, before0_3, before0_4, before0_5]
  iintro ⟨⟨⟨%x9, %x10, %x11, %hI, H9, H10, H11⟩, Hr⟩, Ho, ⟨%d0, H0⟩, ⟨%d1, H1⟩, ⟨%d2, H2⟩, ⟨%d3, H3⟩, ⟨%d4, H4⟩, ⟨%d5, H5⟩, ⟨%d6, H6⟩⟩
  iapply (body_mid c (grid0.coords t) _ _ _ _ _ _ _ _ _ _ _ _ _ _ _ _ _ _ _ _ (iblk m c 0 t) (iblk m c 1 t) (iblk m c 2 t) (iblk m c 3 t) (iblk m c 4 t) (iblk m c 5 t) ((dats m 0 c).before 6 t d6) x9 x10 x11
    (fun h => absurd (hc.1.1 h) (by omega)) (hc.2.1.2 (by omega)) (fun h => absurd (hc.2.2.1.1 h) (by omega)) (fun h => absurd (hc.2.2.2.1 h) (by omega)) Set.univ _)
  unfold held
  isplitl [H0 H1 H2 H3 H4 H5 H6 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    iexact H11
  iintro ⟨H0, H1, H2, H3, H4, H5, H6, H9, H10, H11⟩
  isplitl [H9 H10 H11 Hr]
  · isplitl [H9 H10 H11]
    · iexists _; iexists _; iexists _
      isplitr; swap
      · isplitl [H9]; · iexact H9
        isplitl [H10]; · iexact H10
        iexact H11
      ipureintro
      exact inv_step m hI (by omega) (fun h => absurd h (by omega)) (fun _ => rfl)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [out_eq m hI (by omega)]; iexact H6

set_option maxHeartbeats 1000000 in
/-- The body at the last point of a middle row. -/
theorem sound_mid_last (c : Dev nD) (t : Fin cfg0.N) (h : 9 ≤ t.val) (h2 : t.val < 270) (h' : t.val % 9 = 8) :
    bodyPre m c t ⊢ wp frame (wpE (defs₀ (F := F)) Variants.none c none) Set.univ (bodyAt0 t) (fun _ => bodyPost m c t (iprop(owns (c : Thread nD τ) (st0_6 t) fullShare (OUTat m c t.val)))) := by
  have hN := t_lt t
  have hc := cond_tab t
  unfold bodyPre bodyPost bodyAt0 Phi
  simp only [before0_0, before0_1, before0_2, before0_3, before0_4, before0_5]
  iintro ⟨⟨⟨%x9, %x10, %x11, %hI, H9, H10, H11⟩, Hr⟩, Ho, ⟨%d0, H0⟩, ⟨%d1, H1⟩, ⟨%d2, H2⟩, ⟨%d3, H3⟩, ⟨%d4, H4⟩, ⟨%d5, H5⟩, ⟨%d6, H6⟩⟩
  iapply (body_mid_last c (grid0.coords t) _ _ _ _ _ _ _ _ _ _ _ _ _ _ _ _ _ _ _ _ (iblk m c 0 t) (iblk m c 1 t) (iblk m c 2 t) (iblk m c 3 t) (iblk m c 4 t) (iblk m c 5 t) ((dats m 0 c).before 6 t d6) x9 x10 x11
    (fun h => absurd (hc.1.1 h) (by omega)) (hc.2.1.2 (by omega)) (fun h => absurd (hc.2.2.1.1 h) (by omega)) (hc.2.2.2.2 (by omega)) Set.univ _)
  unfold held
  isplitl [H0 H1 H2 H3 H4 H5 H6 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    iexact H11
  iintro ⟨H0, H1, H2, H3, H4, H5, H6, H9, H10, H11⟩
  isplitl [H9 H10 H11 Hr]
  · isplitl [H9 H10 H11]
    · iexists _; iexists _; iexists _
      isplitr; swap
      · isplitl [H9]; · iexact H9
        isplitl [H10]; · iexact H10
        iexact H11
      ipureintro
      exact inv_step m hI (by omega) (fun _ => rfl) (fun h => absurd h (by omega))
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [out_eq m hI (by omega)]; iexact H6

set_option maxHeartbeats 1000000 in
/-- The body at a point after the last row. -/
theorem sound_end (c : Dev nD) (t : Fin cfg0.N) (h : 270 ≤ t.val) :
    bodyPre m c t ⊢ wp frame (wpE (defs₀ (F := F)) Variants.none c none) Set.univ (bodyAt0 t) (fun _ => bodyPost m c t (iprop(owns (c : Thread nD τ) (st0_6 t) fullShare (OUTat m c t.val)))) := by
  have hN := t_lt t
  have hc := cond_tab t
  unfold bodyPre bodyPost bodyAt0 Phi
  simp only [before0_0, before0_1, before0_2, before0_3, before0_4, before0_5]
  iintro ⟨⟨⟨%x9, %x10, %x11, %hI, H9, H10, H11⟩, Hr⟩, Ho, ⟨%d0, H0⟩, ⟨%d1, H1⟩, ⟨%d2, H2⟩, ⟨%d3, H3⟩, ⟨%d4, H4⟩, ⟨%d5, H5⟩, ⟨%d6, H6⟩⟩
  iapply (body_end c (grid0.coords t) _ _ _ _ _ _ _ _ _ _ _ _ _ _ _ _ _ _ _ _ (iblk m c 0 t) (iblk m c 1 t) (iblk m c 2 t) (iblk m c 3 t) (iblk m c 4 t) (iblk m c 5 t) ((dats m 0 c).before 6 t d6) x9 x10 x11
    (fun h => absurd (hc.1.1 h) (by omega)) (fun h => absurd (hc.2.1.1 h) (by omega)) (hc.2.2.1.2 (by omega)) (fun h => absurd (hc.2.2.2.1 h) (by omega)) Set.univ _)
  unfold held
  isplitl [H0 H1 H2 H3 H4 H5 H6 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    iexact H11
  iintro ⟨H0, H1, H2, H3, H4, H5, H6, H9, H10, H11⟩
  isplitl [H9 H10 H11 Hr]
  · isplitl [H9 H10 H11]
    · iexists _; iexists _; iexists _
      isplitr; swap
      · isplitl [H9]; · iexact H9
        isplitl [H10]; · iexact H10
        iexact H11
      ipureintro
      exact inv_end m hI h hN
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [out_eq m hI (by omega)]; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  by_cases h9 : t.val < 9
  · have hO : (match cfg0.idle 6 (cfg0.grid.coords t) with
        | true => match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t) : sProp 𝕄)
        = iprop(∃ d, owns (c : Thread nD τ) (st0_6 t) fullShare ((dats m 0 c).before 6 t d)) := by
      rw [idle_tab t, flush_tab t h9, decide_eq_true h9]
    have hs := if h' : t.val % 9 = 8 then sound_first_last m c t h9 h' else sound_first m c t h9 h'
    rw [← hO] at hs
    exact triple_restated hs rfl .rfl fun _ => .rfl
  · have hO : (match cfg0.idle 6 (cfg0.grid.coords t) with
        | true => match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t) : sProp 𝕄)
        = iprop(owns (c : Thread nD τ) (st0_6 t) fullShare (OUTat m c t.val)) := by
      rw [idle_tab t, decide_eq_false h9]; rfl
    have hs := if h2 : t.val < 270 then (if h' : t.val % 9 = 8 then sound_mid_last m c t (by omega) h2 h' else sound_mid m c t (by omega) h2 h') else sound_end m c t (by omega)
    rw [← hO] at hs
    exact triple_restated hs rfl .rfl fun _ => .rfl

/-! ## The run and the frame -/

/-- Before the first point the scratch holds anything, -/
theorem phi_in (c : Dev nD) : Pipeline.ΦA spec0 c ⊢ (dats (F := F) m 0 c).Φ 0 := by
  show Pipeline.ΦA spec0 c ⊢ Phi m c 0
  unfold Pipeline.ΦA Phi
  rw [scopedRest0_eq]
  simp only [owns_whole]
  iintro ⟨⟨⟨%f9, H9⟩, ⟨%f10, H10⟩, ⟨%f11, H11⟩⟩, Hr⟩
  isplitl [H9 H10 H11]
  · iexists f9; iexists f10; iexists f11
    isplitr; swap
    · isplitl [H9]; · iexact H9
      isplitl [H10]; · iexact H10
      iexact H11
    ipureintro
    exact inv_zero m c _ _ _
  iexact Hr

/-- and after the last its contents are forgotten. -/
theorem phi_out (c : Dev nD) : (dats (F := F) m 0 c).Φ (Fin.last cfg0.N) ⊢ Pipeline.ΦA spec0 c := by
  show Phi m c cfg0.N ⊢ Pipeline.ΦA spec0 c
  unfold Pipeline.ΦA Phi
  rw [scopedRest0_eq]
  simp only [owns_whole]
  iintro ⟨⟨%x9, %x10, %x11, %hI, H9, H10, H11⟩, Hr⟩
  isplitl [H9 H10 H11]
  · isplitl [H9]; · iexists x9; iexact H9
    isplitl [H10]; · iexists x10; iexact H10
    iexists x11; iexact H11
  iexact Hr

set_option backward.isDefEq.respectTransparency.types false in
set_option maxHeartbeats 800000 in
/-- The launch: every array of the pipeline ends at what the proof data computes, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.DownIdeal.Hand

end
-- ==== Proof.DownRefValue.lean ====
/- The reference of the down projection computes the formula of `DownSpec`. -/
module

public import proofs.«01_k».proof.Proof.Gen.DownRefIdeal.Value
public import proofs.«01_k».proof.Proof.DownSpec
public import Idealize.ShloMosaic.Lib.MatmulPlain
public import Idealize.ShloMosaic.Lib.Pointwise.Reshape
public import Idealize.ShloMosaic.Lib.Pointwise.Reduce

@[expose] public section

set_option maxRecDepth 16384

noncomputable section

namespace Cert.DownRefIdeal.Hand

open Cert.DownRefIdeal Cert.DownRefIdeal.Gen Idealize.ShloMosaic Idealize.ShloMosaic.TcCoe
open scoped BigOperators

/-- The body's payload at a row and a column. -/
theorem pay1_apply (v0 : Vec Ideal S15360x9216 .fp8e4m3) (v1 : Vec Ideal S15360x1 .f32) (v3 : Vec Ideal S9216x4608 .fp8e4m3) (v4 : Vec Ideal S1x4608 .f32)
    (v11 : Vec Ideal S15360x4608 .f32) (v12 : Vec Ideal S1x4608 .f32) (r : Fin 15360) (n : Fin 4608) :
    k0_pay1 (F := Ideal) v0 v1 v3 v4 v11 v12 (ix2 r n)
      = DownSpec.out v0 (fun r => v1 (ix2 r 0)) v3 (fun n => v4 (ix2 0 n)) (fun n => v12 (ix2 0 n)) v11 r n := by
  unfold k0_pay1 DownSpec.out
  generalize hM : matmul (F := Ideal) dot_S15360x9216_S9216x4608_S15360x4608_1_0_0_1_n_n none v0 v3 (constant S15360x4608 .f32 0x00000000#32) = M
  have hm : ∀ r n, DownSpec.dot v0 v3 r n = M (ix2 r n) := fun r n => by rw [← hM]; exact (DownSpec.mm_apply (φ₁ := .fp8e4m3) (φ₂ := .fp8e4m3) v0 v3 r n).symm
  simp only [hm]
  pointwise

variable (m : (ℓ : Loc nD τ sig) → Buf (Elt Ideal) ℓ) (ρ : Dev nD → PrngReg)

/-- The one grid point. -/
abbrev t0 : Fin cfg0.N := ⟨0, by decide⟩

theorem V0_apply (c : Dev nD) (r : Fin 15360) : V m c main_v0 (ix2 r 0) = m ((c : Thread nD τ).loc main_arg1) (ix1 r) := by
  have h : V m c main_v0 = broadcastInDim S15360x1 ![0] bcast_S15360_S15360x1_0 (m ((c : Thread nD τ).loc main_arg1)) := by
    show StableHlo.after hostOps0 _ (Proc.devRef .tc main_v0) = _
    after_results
  rw [h]
  pointwise

theorem V1_apply (c : Dev nD) (n : Fin 4608) : V m c main_v1 (ix2 0 n) = m ((c : Thread nD τ).loc main_arg3) (ix1 n) := by
  have h : V m c main_v1 = broadcastInDim S1x4608 ![1] bcast_S4608_S1x4608_1 (m ((c : Thread nD τ).loc main_arg3)) := by
    show StableHlo.after hostOps0 _ (Proc.devRef .tc main_v1) = _
    after_results
  rw [h]
  pointwise

theorem V2_apply (c : Dev nD) (n : Fin 4608) : V m c main_v2 (ix2 0 n) = m ((c : Thread nD τ).loc main_arg4) (ix1 n) := by
  have h : V m c main_v2 = broadcastInDim S1x4608 ![1] bcast_S4608_S1x4608_1 (m ((c : Thread nD τ).loc main_arg4)) := by
    show StableHlo.after hostOps0 _ (Proc.devRef .tc main_v2) = _
    after_results
  rw [h]
  pointwise

theorem idx_0 : ∀ t : Fin cfg0.N, win0_0.index t (0 : Fin 2) = 0 ∧ win0_0.index t (1 : Fin 2) = 0 := by decide +kernel

theorem emb_0 (t : Fin cfg0.N) (j : S15360x9216.Idx) : ((cfg0.win 0).blk t).view.emb j = j := by
  obtain ⟨e0, e1⟩ := idx_0 t
  funext a; apply Fin.ext
  match a with
  | ⟨0, _⟩ => show win0_0.index t (0 : Fin 2) * 15360 + 1 * (j 0).val = (j 0).val; omega
  | ⟨1, _⟩ => show win0_0.index t (1 : Fin 2) * 9216 + 1 * (j 1).val = (j 1).val; omega

theorem iblk_0 (c : Dev nD) (t : Fin cfg0.N) : iblk m c 0 t = V m c main_arg0 := by
  funext j; show V m c main_arg0 (((cfg0.win 0).blk t).view.emb j) = V m c main_arg0 j; rw [emb_0]

theorem idx_1 : ∀ t : Fin cfg0.N, win0_1.index t (0 : Fin 2) = 0 ∧ win0_1.index t (1 : Fin 2) = 0 := by decide +kernel

theorem emb_1 (t : Fin cfg0.N) (j : S15360x1.Idx) : ((cfg0.win 1).blk t).view.emb j = j := by
  obtain ⟨e0, e1⟩ := idx_1 t
  funext a; apply Fin.ext
  match a with
  | ⟨0, _⟩ => show win0_1.index t (0 : Fin 2) * 15360 + 1 * (j 0).val = (j 0).val; omega
  | ⟨1, _⟩ => show win0_1.index t (1 : Fin 2) * 1 + 1 * (j 1).val = (j 1).val; omega

theorem iblk_1 (c : Dev nD) (t : Fin cfg0.N) : iblk m c 1 t = V m c main_v0 := by
  funext j; show V m c main_v0 (((cfg0.win 1).blk t).view.emb j) = V m c main_v0 j; rw [emb_1]

theorem idx_2 : ∀ t : Fin cfg0.N, win0_2.index t (0 : Fin 2) = 0 ∧ win0_2.index t (1 : Fin 2) = 0 := by decide +kernel

theorem emb_2 (t : Fin cfg0.N) (j : S9216x4608.Idx) : ((cfg0.win 2).blk t).view.emb j = j := by
  obtain ⟨e0, e1⟩ := idx_2 t
  funext a; apply Fin.ext
  match a with
  | ⟨0, _⟩ => show win0_2.index t (0 : Fin 2) * 9216 + 1 * (j 0).val = (j 0).val; omega
  | ⟨1, _⟩ => show win0_2.index t (1 : Fin 2) * 4608 + 1 * (j 1).val = (j 1).val; omega

theorem iblk_2 (c : Dev nD) (t : Fin cfg0.N) : iblk m c 2 t = V m c main_arg2 := by
  funext j; show V m c main_arg2 (((cfg0.win 2).blk t).view.emb j) = V m c main_arg2 j; rw [emb_2]

theorem idx_3 : ∀ t : Fin cfg0.N, win0_3.index t (0 : Fin 2) = 0 ∧ win0_3.index t (1 : Fin 2) = 0 := by decide +kernel

theorem emb_3 (t : Fin cfg0.N) (j : S1x4608.Idx) : ((cfg0.win 3).blk t).view.emb j = j := by
  obtain ⟨e0, e1⟩ := idx_3 t
  funext a; apply Fin.ext
  match a with
  | ⟨0, _⟩ => show win0_3.index t (0 : Fin 2) * 1 + 1 * (j 0).val = (j 0).val; omega
  | ⟨1, _⟩ => show win0_3.index t (1 : Fin 2) * 4608 + 1 * (j 1).val = (j 1).val; omega

theorem iblk_3 (c : Dev nD) (t : Fin cfg0.N) : iblk m c 3 t = V m c main_v1 := by
  funext j; show V m c main_v1 (((cfg0.win 3).blk t).view.emb j) = V m c main_v1 j; rw [emb_3]

theorem idx_4 : ∀ t : Fin cfg0.N, win0_4.index t (0 : Fin 2) = 0 ∧ win0_4.index t (1 : Fin 2) = 0 := by decide +kernel

theorem emb_4 (t : Fin cfg0.N) (j : S1x4608.Idx) : ((cfg0.win 4).blk t).view.emb j = j := by
  obtain ⟨e0, e1⟩ := idx_4 t
  funext a; apply Fin.ext
  match a with
  | ⟨0, _⟩ => show win0_4.index t (0 : Fin 2) * 1 + 1 * (j 0).val = (j 0).val; omega
  | ⟨1, _⟩ => show win0_4.index t (1 : Fin 2) * 4608 + 1 * (j 1).val = (j 1).val; omega

theorem iblk_4 (c : Dev nD) (t : Fin cfg0.N) : iblk m c 4 t = V m c main_v2 := by
  funext j; show V m c main_v2 (((cfg0.win 4).blk t).view.emb j) = V m c main_v2 j; rw [emb_4]

theorem idx_5 : ∀ t : Fin cfg0.N, win0_5.index t (0 : Fin 2) = 0 ∧ win0_5.index t (1 : Fin 2) = 0 := by decide +kernel

theorem emb_5 (t : Fin cfg0.N) (j : S15360x4608.Idx) : ((cfg0.win 5).blk t).view.emb j = j := by
  obtain ⟨e0, e1⟩ := idx_5 t
  funext a; apply Fin.ext
  match a with
  | ⟨0, _⟩ => show win0_5.index t (0 : Fin 2) * 15360 + 1 * (j 0).val = (j 0).val; omega
  | ⟨1, _⟩ => show win0_5.index t (1 : Fin 2) * 4608 + 1 * (j 1).val = (j 1).val; omega

theorem iblk_5 (c : Dev nD) (t : Fin cfg0.N) : iblk m c 5 t = V m c main_arg5 := by
  funext j; show V m c main_arg5 (((cfg0.win 5).blk t).view.emb j) = V m c main_arg5 j; rw [emb_5]

theorem idx_6 : ∀ t : Fin cfg0.N, win0_6.index t (0 : Fin 2) = 0 ∧ win0_6.index t (1 : Fin 2) = 0 := by decide +kernel

theorem emb_6 (t : Fin cfg0.N) (j : S15360x4608.Idx) : ((cfg0.win 6).blk t).view.emb j = j := by
  obtain ⟨e0, e1⟩ := idx_6 t
  funext a; apply Fin.ext
  match a with
  | ⟨0, _⟩ => show win0_6.index t (0 : Fin 2) * 15360 + 1 * (j 0).val = (j 0).val; omega
  | ⟨1, _⟩ => show win0_6.index t (1 : Fin 2) * 4608 + 1 * (j 1).val = (j 1).val; omega

/-- The whole result array as one payload of whole arrays. -/
theorem out_eq (x0 : Vec Ideal S15360x9216 .fp8e4m3) (x1 : Vec Ideal S15360x1 .f32) (x2 : Vec Ideal S9216x4608 .fp8e4m3) (x3 x4 : Vec Ideal S1x4608 .f32)
    (x5 : Vec Ideal S15360x4608 .f32) : out0_6 x0 x1 x2 x3 x4 x5 = k0_pay1 x0 x1 x2 x3 x5 x4 := by
  have hz : (![0, 0] : Fin 2 → Nat) = fun _ => 0 := funext fun a => by fin_cases a <;> rfl
  unfold out0_6
  rw [View.canon_unit_zero hz, View.ld_unit_zero hz, View.ld_unit_zero hz, View.ld_unit_zero hz, View.ld_unit_zero hz,
    View.ld_unit_zero hz, View.ld_unit_zero hz]

/-- The result array of the reference. -/
def G (c : Dev nD) : S15360x4608.Idx → EReal := fun i => DownSpec.out (m ((c : Thread nD τ).loc main_arg0)) (fun r => m ((c : Thread nD τ).loc main_arg1) (ix1 r))
  (m ((c : Thread nD τ).loc main_arg2)) (fun n => m ((c : Thread nD τ).loc main_arg3) (ix1 n)) (fun n => m ((c : Thread nD τ).loc main_arg4) (ix1 n))
  (m ((c : Thread nD τ).loc main_arg5)) (i 0) (i 1)

theorem final (c : Dev nD) : (dats m 0 c).arrAt 6 cfg0.N = G m c := by
  refine (dats m 0 c).arrAt_eq_of_cover 6 (G m c) (fun t _ => ?_) (fun i => ?_)
  · rw [Value.flushed6, out_eq, iblk_0, iblk_1, iblk_2, iblk_3, iblk_4, iblk_5, V_main_arg0, V_main_arg2, V_main_arg5]
    funext j
    show k0_pay1 (F := Ideal) _ _ _ _ _ _ j = G m c (((cfg0.win 6).blk t).view.emb j)
    rw [emb_6]
    obtain ⟨r, n, rfl⟩ : ∃ r n, j = ix2 r n := ⟨j 0, j 1, (ix2_eta (n0 := 15360) (n1 := 4608) j).symm⟩
    refine (pay1_apply _ _ _ _ _ _ r n).trans ?_
    show _ = DownSpec.out _ _ _ _ _ _ r n
    exact DownSpec.out_congr rfl rfl rfl (V0_apply m c) (V1_apply m c) (V2_apply m c)
  · have h := ((cfg0.win 6).blk t0).view.emb_mem_set i
    rw [emb_6] at h
    exact ⟨t0, by decide +kernel, h⟩

end Cert.DownRefIdeal.Hand

end
-- ==== Proof.DownValue.lean ====
/- The array the down kernel leaves is the formula of `DownSpec`: its blocks read at an index, the running sums summed up, and the two
   programs set side by side. -/
module

public import proofs.«01_k».proof.Proof.DownIdealRun
public import proofs.«01_k».proof.Proof.DownAlgebra
public import proofs.«01_k».proof.Proof.DownRefValue
public import proofs.«01_k».proof.Defs
public import Idealize.ShloMosaic.Lib.Pipeline.Value

@[expose] public section

set_option maxRecDepth 16384

noncomputable section

namespace Cert.DownIdeal.Hand

open Cert.DownIdeal Cert.DownIdeal.Gen Idealize.ShloMosaic Idealize.ShloMosaic.TcCoe Idealize.SL.Sem
open scoped BigOperators

/-! ## The payloads at an index -/

theorem cols_apply (i : grid0.Coords) (x : S1x4608.Idx → EReal) (q : Fin 512) (n : Fin 4608) (hn : n.val = 512 * (i 1).val + q.val) :
    cols (F := Ideal) i x (ix2 0 q) = x (ix2 0 n) := by
  unfold cols VecWindow.window
  refine congrArg x (funext fun a => Fin.ext ?_)
  match a with
  | ⟨0, _⟩ => rfl
  | ⟨1, _⟩ => rw [Rect.emb_apply]; show 512 * (i 1).val + 1 * q.val = n.val; omega

theorem pay1_apply (a : Vec Ideal S512x9216 .fp8e4m3) (b : Vec Ideal S9216x512 .fp8e4m3) (d : Vec Ideal S1x512 .f32) (p q : Fin 512) :
    k0_pay1 (F := Ideal) a b d (ix2 p q) = (∑ k : Fin 9216, a (ix2 p k) * b (ix2 k q)) * d (ix2 0 q) := by
  rw [← DownSpec.mm_apply (φ₁ := .fp8e4m3) (φ₂ := .fp8e4m3) a b p q]
  unfold k0_pay1
  generalize hM : matmul (F := Ideal) dot_S512x9216_S9216x512_S512x512_1_0_0_1_n_n none a b (constant S512x512 .f32 0x00000000#32) = M
  have hM' : FloatOps.matmul (DotDims.plain 512 9216 512) none a b (constant (F := Ideal) ⟨2, ![512, 512]⟩ .f32 0x00000000#32) = M := hM
  rw [hM']
  pointwise

theorem pay2_apply (a : Vec Ideal S512x9216 .fp8e4m3) (b : Vec Ideal S9216x512 .fp8e4m3) (d : Vec Ideal S1x512 .f32) (p q : Fin 512) :
    k0_pay2 (F := Ideal) a b d (ix3 0 p q) = k0_pay1 a b d (ix2 p q) := by
  unfold k0_pay2
  generalize k0_pay1 a b d = M
  pointwise

theorem pay5_apply (h : Vec Ideal S512x512 .f32) (y : Vec Ideal S1x512x512 .f32) (f : Vec Ideal S512x1 .f32) (g : Vec Ideal S1x512 .f32) (p q : Fin 512) :
    k0_pay5 (F := Ideal) h y f g (ix2 p q) = h (ix2 p q) + y (ix3 0 p q) * f (ix2 p 0) * (1 + g (ix2 0 q)) := by
  unfold k0_pay5
  pointwise

theorem pay6_apply (s : Vec Ideal S512x1 .f32) (x : Vec Ideal S512x128 .f32) (p : Fin 512) :
    k0_pay6 (F := Ideal) s x (ix2 p 0) = Ideal.div (s (ix2 p 0)) (Ideal.sqrt (Ideal.div (∑ l : Fin 128, x (ix2 p l)) (Ideal.ofBits .f32 0x45900000#32)
      * (s (ix2 p 0) * s (ix2 p 0)) + Ideal.ofBits .f32 0x358637BD#32)) := by
  unfold k0_pay6
  pointwise

/-- The four quarters of a block's row of squares, lane by lane. -/
def quarters (M : Fin 512 → Fin 512 → EReal) (p : Fin 512) (l : Fin 128) : EReal :=
  (M p ⟨l.val, by omega⟩ * M p ⟨l.val, by omega⟩ + M p ⟨128 + l.val, by omega⟩ * M p ⟨128 + l.val, by omega⟩)
    + (M p ⟨256 + l.val, by omega⟩ * M p ⟨256 + l.val, by omega⟩ + M p ⟨384 + l.val, by omega⟩ * M p ⟨384 + l.val, by omega⟩)

theorem first_col : ∀ k : Fin 9, Scalar.cmpi .eq (BitVec.ofNat 32 k.val) 0#32 = if k.val = 0 then 1#1 else 0#1 := by decide

theorem pay3_apply (i : grid0.Coords) (a : Vec Ideal S512x9216 .fp8e4m3) (b : Vec Ideal S9216x512 .fp8e4m3) (d : Vec Ideal S1x512 .f32)
    (x : Vec Ideal S512x128 .f32) (p : Fin 512) (l : Fin 128) :
    k0_pay3 (F := Ideal) i a b d x (ix2 p l)
      = if (i 1).val = 0 then quarters (fun p q => k0_pay1 a b d (ix2 p q)) p l else x (ix2 p l) + quarters (fun p q => k0_pay1 a b d (ix2 p q)) p l := by
  unfold k0_pay3 quarters
  generalize k0_pay1 a b d = M
  have h := first_col (i 1)
  by_cases h0 : (i 1).val = 0
  · rw [if_pos h0] at h ⊢
    simp only [h]
    pointwise
    exact if_pos rfl
  · rw [if_neg h0] at h ⊢
    simp only [h]
    pointwise
    exact if_neg (by decide)

/-! ## The windows' blocks at an index -/

variable (m : (ℓ : Loc nD τ sig) → Buf (Elt Ideal) ℓ) (ρ : Dev nD → PrngReg)

theorem V0_apply (c : Dev nD) (n : Fin 4608) : V m c main_v0 (ix2 0 n) = m ((c : Thread nD τ).loc main_arg3) (ix1 n) := by
  have h : V m c main_v0 = shapeCast S1x4608 (m ((c : Thread nD τ).loc main_arg3)) shapeCasts_S4608_S1x4608 := by
    show StableHlo.after hostOps0 _ (Proc.devRef .tc main_v0) = _
    after_results
    rfl
  rw [h]
  refine (shapeCast_addUnit_apply (n := 1) ![4608] _ shapeCasts_S4608_S1x4608 (ix2 0 n)).trans (congrArg _ (funext fun a => ?_))
  match a with
  | ⟨0, _⟩ => rfl

theorem V1_apply (c : Dev nD) (n : Fin 4608) : V m c main_v1 (ix2 0 n) = m ((c : Thread nD τ).loc main_arg4) (ix1 n) := by
  have h : V m c main_v1 = shapeCast S1x4608 (m ((c : Thread nD τ).loc main_arg4)) shapeCasts_S4608_S1x4608 := by
    show StableHlo.after hostOps0 _ (Proc.devRef .tc main_v1) = _
    after_results
    rfl
  rw [h]
  refine (shapeCast_addUnit_apply (n := 1) ![4608] _ shapeCasts_S4608_S1x4608 (ix2 0 n)).trans (congrArg _ (funext fun a => ?_))
  match a with
  | ⟨0, _⟩ => rfl

theorem V2_apply (c : Dev nD) (r : Fin 15360) : V m c main_v2 (ix2 r 0) = m ((c : Thread nD τ).loc main_arg1) (ix1 r) := by
  have h : V m c main_v2 = shapeCast S15360x1 (m ((c : Thread nD τ).loc main_arg1)) shapeCasts_S15360_S15360x1 := by
    show StableHlo.after hostOps0 _ (Proc.devRef .tc main_v2) = _
    after_results
    rfl
  rw [h]
  pointwise

theorem idx_0 : ∀ t : Fin cfg0.N, t.val < 270 → win0_0.index t (0 : Fin 2) = (t.val / 9) ∧ win0_0.index t (1 : Fin 2) = 0 := by decide +kernel

theorem emb_0 (t : Fin cfg0.N) (ht : t.val < 270) (p : Fin 512) (q : Fin 9216) (r : Fin 15360) (n : Fin 9216)
    (hr : r.val = (t.val / 9) * 512 + p.val) (hn : n.val = q.val) : ((cfg0.win 0).blk t).view.emb (ix2 p q) = ix2 r n := by
  obtain ⟨e0, e1⟩ := idx_0 t ht
  funext a; apply Fin.ext
  match a with
  | ⟨0, _⟩ => show win0_0.index t (0 : Fin 2) * 512 + 1 * p.val = r.val; rw [e0]; omega
  | ⟨1, _⟩ => show win0_0.index t (1 : Fin 2) * 9216 + 1 * q.val = n.val; rw [e1]; omega

theorem iblk_0 (c : Dev nD) (t : Fin cfg0.N) (ht : t.val < 270) (p : Fin 512) (q : Fin 9216) (r : Fin 15360) (n : Fin 9216)
    (hr : r.val = (t.val / 9) * 512 + p.val) (hn : n.val = q.val) : iblk m c 0 t (ix2 p q) = V m c main_arg0 (ix2 r n) := by
  show V m c main_arg0 (((cfg0.win 0).blk t).view.emb (ix2 p q)) = V m c main_arg0 (ix2 r n); rw [emb_0 t ht p q r n hr hn]

theorem idx_1 : ∀ t : Fin cfg0.N, t.val < 270 → win0_1.index t (0 : Fin 2) = (t.val / 9) ∧ win0_1.index t (1 : Fin 2) = 0 := by decide +kernel

theorem emb_1 (t : Fin cfg0.N) (ht : t.val < 270) (p : Fin 512) (q : Fin 1) (r : Fin 15360) (n : Fin 1)
    (hr : r.val = (t.val / 9) * 512 + p.val) (hn : n.val = q.val) : ((cfg0.win 1).blk t).view.emb (ix2 p q) = ix2 r n := by
  obtain ⟨e0, e1⟩ := idx_1 t ht
  funext a; apply Fin.ext
  match a with
  | ⟨0, _⟩ => show win0_1.index t (0 : Fin 2) * 512 + 1 * p.val = r.val; rw [e0]; omega
  | ⟨1, _⟩ => show win0_1.index t (1 : Fin 2) * 1 + 1 * q.val = n.val; rw [e1]; omega

theorem iblk_1 (c : Dev nD) (t : Fin cfg0.N) (ht : t.val < 270) (p : Fin 512) (q : Fin 1) (r : Fin 15360) (n : Fin 1)
    (hr : r.val = (t.val / 9) * 512 + p.val) (hn : n.val = q.val) : iblk m c 1 t (ix2 p q) = V m c main_v2 (ix2 r n) := by
  show V m c main_v2 (((cfg0.win 1).blk t).view.emb (ix2 p q)) = V m c main_v2 (ix2 r n); rw [emb_1 t ht p q r n hr hn]

theorem idx_2 : ∀ t : Fin cfg0.N, t.val < 270 → win0_2.index t (0 : Fin 2) = 0 ∧ win0_2.index t (1 : Fin 2) = (t.val % 9) := by decide +kernel

theorem emb_2 (t : Fin cfg0.N) (ht : t.val < 270) (p : Fin 9216) (q : Fin 512) (r : Fin 9216) (n : Fin 4608)
    (hr : r.val = p.val) (hn : n.val = (t.val % 9) * 512 + q.val) : ((cfg0.win 2).blk t).view.emb (ix2 p q) = ix2 r n := by
  obtain ⟨e0, e1⟩ := idx_2 t ht
  funext a; apply Fin.ext
  match a with
  | ⟨0, _⟩ => show win0_2.index t (0 : Fin 2) * 9216 + 1 * p.val = r.val; rw [e0]; omega
  | ⟨1, _⟩ => show win0_2.index t (1 : Fin 2) * 512 + 1 * q.val = n.val; rw [e1]; omega

theorem iblk_2 (c : Dev nD) (t : Fin cfg0.N) (ht : t.val < 270) (p : Fin 9216) (q : Fin 512) (r : Fin 9216) (n : Fin 4608)
    (hr : r.val = p.val) (hn : n.val = (t.val % 9) * 512 + q.val) : iblk m c 2 t (ix2 p q) = V m c main_arg2 (ix2 r n) := by
  show V m c main_arg2 (((cfg0.win 2).blk t).view.emb (ix2 p q)) = V m c main_arg2 (ix2 r n); rw [emb_2 t ht p q r n hr hn]

theorem idx_3 : ∀ t : Fin cfg0.N, t.val < 279 → win0_3.index t (0 : Fin 2) = 0 ∧ win0_3.index t (1 : Fin 2) = 0 := by decide +kernel

theorem emb_3 (t : Fin cfg0.N) (ht : t.val < 279) (p : Fin 1) (q : Fin 4608) (r : Fin 1) (n : Fin 4608)
    (hr : r.val = p.val) (hn : n.val = q.val) : ((cfg0.win 3).blk t).view.emb (ix2 p q) = ix2 r n := by
  obtain ⟨e0, e1⟩ := idx_3 t ht
  funext a; apply Fin.ext
  match a with
  | ⟨0, _⟩ => show win0_3.index t (0 : Fin 2) * 1 + 1 * p.val = r.val; rw [e0]; omega
  | ⟨1, _⟩ => show win0_3.index t (1 : Fin 2) * 4608 + 1 * q.val = n.val; rw [e1]; omega

theorem iblk_3 (c : Dev nD) (t : Fin cfg0.N) (ht : t.val < 279) (p : Fin 1) (q : Fin 4608) (r : Fin 1) (n : Fin 4608)
    (hr : r.val = p.val) (hn : n.val = q.val) : iblk m c 3 t (ix2 p q) = V m c main_v0 (ix2 r n) := by
  show V m c main_v0 (((cfg0.win 3).blk t).view.emb (ix2 p q)) = V m c main_v0 (ix2 r n); rw [emb_3 t ht p q r n hr hn]

theorem idx_4 : ∀ t : Fin cfg0.N, t.val < 279 → win0_4.index t (0 : Fin 2) = 0 ∧ win0_4.index t (1 : Fin 2) = 0 := by decide +kernel

theorem emb_4 (t : Fin cfg0.N) (ht : t.val < 279) (p : Fin 1) (q : Fin 4608) (r : Fin 1) (n : Fin 4608)
    (hr : r.val = p.val) (hn : n.val = q.val) : ((cfg0.win 4).blk t).view.emb (ix2 p q) = ix2 r n := by
  obtain ⟨e0, e1⟩ := idx_4 t ht
  funext a; apply Fin.ext
  match a with
  | ⟨0, _⟩ => show win0_4.index t (0 : Fin 2) * 1 + 1 * p.val = r.val; rw [e0]; omega
  | ⟨1, _⟩ => show win0_4.index t (1 : Fin 2) * 4608 + 1 * q.val = n.val; rw [e1]; omega

theorem iblk_4 (c : Dev nD) (t : Fin cfg0.N) (ht : t.val < 279) (p : Fin 1) (q : Fin 4608) (r : Fin 1) (n : Fin 4608)
    (hr : r.val = p.val) (hn : n.val = q.val) : iblk m c 4 t (ix2 p q) = V m c main_v1 (ix2 r n) := by
  show V m c main_v1 (((cfg0.win 4).blk t).view.emb (ix2 p q)) = V m c main_v1 (ix2 r n); rw [emb_4 t ht p q r n hr hn]

theorem idx_5 : ∀ t : Fin cfg0.N, 9 ≤ t.val → win0_5.index t (0 : Fin 2) = (t.val / 9 - 1) ∧ win0_5.index t (1 : Fin 2) = (t.val % 9) := by decide +kernel

theorem emb_5 (t : Fin cfg0.N) (ht : 9 ≤ t.val) (p : Fin 512) (q : Fin 512) (r : Fin 15360) (n : Fin 4608)
    (hr : r.val = (t.val / 9 - 1) * 512 + p.val) (hn : n.val = (t.val % 9) * 512 + q.val) : ((cfg0.win 5).blk t).view.emb (ix2 p q) = ix2 r n := by
  obtain ⟨e0, e1⟩ := idx_5 t ht
  funext a; apply Fin.ext
  match a with
  | ⟨0, _⟩ => show win0_5.index t (0 : Fin 2) * 512 + 1 * p.val = r.val; rw [e0]; omega
  | ⟨1, _⟩ => show win0_5.index t (1 : Fin 2) * 512 + 1 * q.val = n.val; rw [e1]; omega

theorem iblk_5 (c : Dev nD) (t : Fin cfg0.N) (ht : 9 ≤ t.val) (p : Fin 512) (q : Fin 512) (r : Fin 15360) (n : Fin 4608)
    (hr : r.val = (t.val / 9 - 1) * 512 + p.val) (hn : n.val = (t.val % 9) * 512 + q.val) : iblk m c 5 t (ix2 p q) = V m c main_arg5 (ix2 r n) := by
  show V m c main_arg5 (((cfg0.win 5).blk t).view.emb (ix2 p q)) = V m c main_arg5 (ix2 r n); rw [emb_5 t ht p q r n hr hn]

theorem idx_6 : ∀ t : Fin cfg0.N, 9 ≤ t.val → win0_6.index t (0 : Fin 2) = (t.val / 9 - 1) ∧ win0_6.index t (1 : Fin 2) = (t.val % 9) := by decide +kernel

theorem emb_6 (t : Fin cfg0.N) (ht : 9 ≤ t.val) (p : Fin 512) (q : Fin 512) (r : Fin 15360) (n : Fin 4608)
    (hr : r.val = (t.val / 9 - 1) * 512 + p.val) (hn : n.val = (t.val % 9) * 512 + q.val) : ((cfg0.win 6).blk t).view.emb (ix2 p q) = ix2 r n := by
  obtain ⟨e0, e1⟩ := idx_6 t ht
  funext a; apply Fin.ext
  match a with
  | ⟨0, _⟩ => show win0_6.index t (0 : Fin 2) * 512 + 1 * p.val = r.val; rw [e0]; omega
  | ⟨1, _⟩ => show win0_6.index t (1 : Fin 2) * 512 + 1 * q.val = n.val; rw [e1]; omega

/-! ## The scratch at an index -/

/-- The unscaled product of row `r` and column `n`, times the column's scale. -/
def prod (c : Dev nD) (r : Fin 15360) (n : Fin 4608) : EReal :=
  DownSpec.dot (m ((c : Thread nD τ).loc main_arg0)) (m ((c : Thread nD τ).loc main_arg2)) r n * m ((c : Thread nD τ).loc main_arg3) (ix1 n)

/-- Its square, at a column number. -/
def sq (c : Dev nD) (r : Fin 15360) (k : ℕ) : EReal := if h : k < 4608 then prod m c r ⟨k, h⟩ * prod m c r ⟨k, h⟩ else 0

theorem block_apply (c : Dev nD) (t : Fin cfg0.N) (ht : t.val < 270) (p q : Fin 512) (r : Fin 15360) (n : Fin 4608)
    (hr : r.val = t.val / 9 * 512 + p.val) (hn : n.val = t.val % 9 * 512 + q.val) :
    k0_pay1 (F := Ideal) (iblk m c 0 t) (iblk m c 2 t) (cols (grid0.coords t) (iblk m c 3 t)) (ix2 p q) = prod m c r n := by
  have hc := (coords_tab t).2
  refine (pay1_apply _ _ _ p q).trans ?_
  unfold prod DownSpec.dot
  rw [cols_apply (grid0.coords t) _ q n (by rw [hc]; omega), iblk_3 m c t (t_lt t) 0 n 0 n rfl rfl, V0_apply]
  congr 1
  refine Finset.sum_congr rfl fun k _ => ?_
  rw [iblk_0 m c t ht p k r k hr rfl, iblk_2 m c t ht k q k n rfl hn, V_main_arg0, V_main_arg2]

theorem Yat_apply (c : Dev nD) (n : ℕ) (hn : n < 270) (p q : Fin 512) (r : Fin 15360) (k : Fin 4608)
    (hr : r.val = n / 9 * 512 + p.val) (hk : k.val = n % 9 * 512 + q.val) : Yat m c n (ix3 0 p q) = prod m c r k := by
  have hv : (pt n).val = n := by show min n 278 = n; omega
  unfold Yat blockY
  refine (pay2_apply _ _ _ p q).trans ?_
  exact block_apply m c (pt n) (by omega) p q r k (by rw [hv]; exact hr) (by rw [hv]; exact hk)

/-- A point's four quarters are the squares of its columns. -/
theorem quarters_apply (c : Dev nD) (t : Fin cfg0.N) (ht : t.val < 270) (p : Fin 512) (l : Fin 128) (r : Fin 15360) (hr : r.val = t.val / 9 * 512 + p.val) :
    quarters (fun p q => k0_pay1 (F := Ideal) (iblk m c 0 t) (iblk m c 2 t) (cols (grid0.coords t) (iblk m c 3 t)) (ix2 p q)) p l
      = (sq m c r (512 * (t.val % 9) + l.val) + sq m c r (512 * (t.val % 9) + 128 + l.val))
        + (sq m c r (512 * (t.val % 9) + 256 + l.val) + sq m c r (512 * (t.val % 9) + 384 + l.val)) := by
  have hl := l.isLt
  have e : ∀ (o : ℕ) (k : ℕ) (q : Fin 512), q.val = o + l.val → k = 512 * (t.val % 9) + o + l.val →
      k0_pay1 (F := Ideal) (iblk m c 0 t) (iblk m c 2 t) (cols (grid0.coords t) (iblk m c 3 t)) (ix2 p q)
        * k0_pay1 (F := Ideal) (iblk m c 0 t) (iblk m c 2 t) (cols (grid0.coords t) (iblk m c 3 t)) (ix2 p q) = sq m c r k := by
    intro o k q hq hk
    have hq' := q.isLt
    have hk' : k < 4608 := by omega
    unfold sq
    rw [dif_pos hk', block_apply m c t ht p q r ⟨k, hk'⟩ hr (by show k = _; omega)]
  unfold quarters
  dsimp only
  rw [e 0 _ ⟨l.val, by omega⟩ (by show l.val = _; omega) (by rw [Nat.add_zero]), e 128 _ ⟨128 + l.val, by omega⟩ rfl rfl, e 256 _ ⟨256 + l.val, by omega⟩ rfl rfl,
    e 384 _ ⟨384 + l.val, by omega⟩ rfl rfl]

/-- The running sums after point `n`: the squares of the columns seen so far in this row of blocks. -/
theorem SSat_apply (c : Dev nD) (p : Fin 512) (l : Fin 128) : ∀ (n : ℕ) (hn : n < 270) (r : Fin 15360) (hr : r.val = n / 9 * 512 + p.val),
    SSat m c n (ix2 p l) = ∑ j ∈ Finset.range (n % 9 + 1), ((sq m c r (512 * j + l.val) + sq m c r (512 * j + 128 + l.val))
        + (sq m c r (512 * j + 256 + l.val) + sq m c r (512 * j + 384 + l.val)))
  | 0, hn, r, hr => by
    have hv : (pt 0).val = 0 := rfl
    rw [show SSat m c 0 = next10 (grid0.coords (pt 0)) (iblk m c 0 (pt 0)) (iblk m c 2 (pt 0)) (iblk m c 3 (pt 0)) (fun _ => Scalar.ofBits (F := Ideal) .f32 0#32) from rfl]
    unfold next10
    rw [pay3_apply, if_pos (by rw [(coords_tab (pt 0)).2]; rfl), quarters_apply m c (pt 0) (by omega) p l r (by rw [hv]; exact hr), hv]
    show _ = ∑ j ∈ Finset.range 1, _
    rw [Finset.sum_range_one]
  | n + 1, hn, r, hr => by
    have hv : (pt (n + 1)).val = n + 1 := by show min (n + 1) 278 = n + 1; omega
    rw [show SSat m c (n + 1) = next10 (grid0.coords (pt (n + 1))) (iblk m c 0 (pt (n + 1))) (iblk m c 2 (pt (n + 1))) (iblk m c 3 (pt (n + 1))) (SSat m c n) from rfl]
    unfold next10
    rw [pay3_apply, quarters_apply m c (pt (n + 1)) (by omega) p l r (by rw [hv]; exact hr), (coords_tab (pt (n + 1))).2, hv]
    split
    · rename_i h
      rw [h]
      show _ = ∑ j ∈ Finset.range 1, _
      rw [Finset.sum_range_one]
    · rename_i h
      rw [SSat_apply c p l n (by omega) r (by omega), Finset.sum_range_succ _ ((n + 1) % 9), show n % 9 + 1 = (n + 1) % 9 by omega]

/-- After a row of blocks the running sums add up to the row's sum of squares. -/
theorem SSat_sum (c : Dev nD) (p : Fin 512) (n : ℕ) (hn : n < 270) (h8 : n % 9 = 8) (r : Fin 15360) (hr : r.val = n / 9 * 512 + p.val) :
    ∑ l : Fin 128, SSat m c n (ix2 p l) = ∑ k : Fin 4608, prod m c r k * prod m c r k := by
  have h1 : ∀ l : Fin 128, SSat m c n (ix2 p l) = ∑ j ∈ Finset.range 9, ((sq m c r (512 * j + l.val) + sq m c r (512 * j + 128 + l.val))
        + (sq m c r (512 * j + 256 + l.val) + sq m c r (512 * j + 384 + l.val))) := fun l => by
    rw [SSat_apply m c p l n hn r hr, h8]
  rw [Finset.sum_congr rfl fun l _ => h1 l]
  rw [← Finset.sum_range (fun l => ∑ j ∈ Finset.range 9, ((sq m c r (512 * j + l) + sq m c r (512 * j + 128 + l))
        + (sq m c r (512 * j + 256 + l) + sq m c r (512 * j + 384 + l)))), DownSpec.sum_lanes, Finset.sum_range]
  refine Finset.sum_congr rfl fun k _ => ?_
  unfold sq
  rw [dif_pos k.isLt]

/-! ## The result array -/

/-- The result array, at a row and a column. -/
def kval (c : Dev nD) (r : Fin 15360) (n : Fin 4608) : EReal :=
  DownSpec.kout (m ((c : Thread nD τ).loc main_arg0)) (fun r => m ((c : Thread nD τ).loc main_arg1) (ix1 r)) (m ((c : Thread nD τ).loc main_arg2))
    (fun n => m ((c : Thread nD τ).loc main_arg3) (ix1 n)) (fun n => m ((c : Thread nD τ).loc main_arg4) (ix1 n)) (m ((c : Thread nD τ).loc main_arg5)) r n

theorem OUTat_apply (c : Dev nD) (t : Fin cfg0.N) (ht : 9 ≤ t.val) (p q : Fin 512) (r : Fin 15360) (n : Fin 4608)
    (hr : r.val = (t.val / 9 - 1) * 512 + p.val) (hn : n.val = t.val % 9 * 512 + q.val) : OUTat m c t.val (ix2 p q) = kval m c r n := by
  have hN := t_lt t
  have hv : (pt (t.val / 9 * 9 - 1)).val = t.val / 9 * 9 - 1 := by show min (t.val / 9 * 9 - 1) 278 = _; omega
  unfold OUTat
  rw [pt_val]
  refine (pay5_apply _ _ _ _ p q).trans ?_
  unfold kval DownSpec.kout FACat
  rw [cols_apply (grid0.coords t) _ q n (by rw [(coords_tab t).2]; omega), iblk_4 m c t hN 0 n 0 n rfl rfl, V1_apply,
    iblk_5 m c t ht p q r n hr hn, V_main_arg5, Yat_apply m c (t.val - 9) (by omega) p q r n (by omega) (by omega), pay6_apply,
    SSat_sum m c p (t.val / 9 * 9 - 1) (by omega) (by omega) r (by omega),
    iblk_1 m c (pt (t.val / 9 * 9 - 1)) (by omega) p 0 r 0 (by omega) rfl, V2_apply]
  rfl

theorem flush_late : ∀ t : Fin cfg0.N, 9 ≤ t.val → (cfg0.win 6).flush t = true := by decide +kernel

theorem final (c : Dev nD) : (dats m 0 c).arrAt 6 cfg0.N = fun i : S15360x4608.Idx => kval m c (i 0) (i 1) := by
  refine (dats m 0 c).arrAt_eq_of_cover 6 _ (fun t hf => ?_) (fun i => ?_)
  · have h9 : 9 ≤ t.val := by
      by_contra h
      rw [flush_tab t (by omega)] at hf
      exact absurd hf (by decide)
    have hN := t_lt t
    show (cfg0.win 6).cut (grid0.coords t) ((dats m 0 c).after 6 t) = _
    rw [after0_6]
    funext j
    obtain ⟨p, q, rfl⟩ : ∃ p q, j = ix2 p q := ⟨j 0, j 1, (ix2_eta (n0 := 512) (n1 := 512) j).symm⟩
    have hp := p.isLt
    have hq := q.isLt
    have hr : (t.val / 9 - 1) * 512 + p.val < 15360 := by omega
    have hn : t.val % 9 * 512 + q.val < 4608 := by omega
    show OUTat m c t.val (ix2 p q) = (fun i : S15360x4608.Idx => kval m c (i 0) (i 1)) (((cfg0.win 6).blk t).view.emb (ix2 p q))
    rw [emb_6 t h9 p q ⟨_, hr⟩ ⟨_, hn⟩ rfl rfl]
    exact OUTat_apply m c t h9 p q ⟨_, hr⟩ ⟨_, hn⟩ rfl rfl
  · obtain ⟨r, n, rfl⟩ : ∃ r n, i = ix2 r n := ⟨i 0, i 1, (ix2_eta (n0 := 15360) (n1 := 4608) i).symm⟩
    have hr := r.isLt
    have hn := n.isLt
    have hN : (r.val / 512 + 1) * 9 + n.val / 512 < cfg0.N := Nat.lt_of_lt_of_eq (by omega) N_0.symm
    refine ⟨⟨_, hN⟩, flush_late _ (by show 9 ≤ (r.val / 512 + 1) * 9 + n.val / 512; omega), ?_⟩
    have h := ((cfg0.win 6).blk ⟨_, hN⟩).view.emb_mem_set (ix2 (⟨r.val % 512, by omega⟩ : Fin 512) (⟨n.val % 512, by omega⟩ : Fin 512))
    rw [emb_6 ⟨_, hN⟩ (by show 9 ≤ (r.val / 512 + 1) * 9 + n.val / 512; omega) _ _ r n
      (by show r.val = ((((r.val / 512 + 1) * 9 + n.val / 512) / 9 - 1)) * 512 + r.val % 512; omega)
      (by show n.val = ((r.val / 512 + 1) * 9 + n.val / 512) % 9 * 512 + n.val % 512; omega)] at h
    exact h

/-- The kernel's run: its result array, and the arguments unchanged. -/
theorem run_value : θ_run defs (onTc (τ := τ) (main (F := Ideal))) ⟨m, fun _ => 0, ρ⟩ (fun r => ∀ c : Dev nD,
      r.2.mem ((c.tc : Thread nD τ).loc main_v3) = (fun i : S15360x4608.Idx => kval m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.2 c).1 6).trans (final m c), h.1.1 c⟩) (θ_run_and (frame m ρ) (run_main m ρ))

end Cert.DownIdeal.Hand

namespace Cert.DownAlgebraic

open Idealize.ShloMosaic Idealize.ShloMosaic.TcCoe Idealize.SL.Sem

/-- From memories that agree on the arguments, the kernel and the reference end with the same result. -/
theorem algebraic : Cert.algebraic_DownIdeal_DownRefIdeal := by
  intro m ρ m' ρ' _ hagree
  refine ⟨_, Cert.DownIdeal.Hand.run_value m ρ, ?_⟩
  refine (θ_run Cert.DownRefIdeal.defs _ _).mono (fun _ h c => ⟨(h c).1.trans ?_, (h c).2⟩) (Cert.DownRefIdeal.Value.run_blocks (F := Ideal) m' ρ')
  obtain ⟨h0, h1, h2, h3, h4, h5⟩ := hagree c
  rw [Cert.DownRefIdeal.Hand.final m' c]
  funext i
  show DownSpec.out _ _ _ _ _ _ (i 0) (i 1) = DownSpec.kout _ _ _ _ _ _ (i 0) (i 1)
  refine Eq.trans ?_ (DownSpec.kout_eq _ _ _ _ _ _ _ _).symm
  exact DownSpec.out_congr h0 h2 h5 (fun r => congrFun h1 (ix1 r)) (fun n => congrFun h3 (ix1 n)) (fun n => congrFun h4 (ix1 n))

end Cert.DownAlgebraic

end
-- ==== Proof.OProjSpec.lean ====
/- What the output projection computes, row by row, as formulas over extended reals; and the arithmetic between the kernel's order of
   operations and theirs. -/
module

public import proofs.«01_k».proof.Proof.GateUpSpec

@[expose] public section

noncomputable section

namespace Cert.OProjSpec

open Idealize.ShloMosaic
open scoped BigOperators

/-- A row of a product. -/
def dot {M K N : ℕ} (C : Shape.Idx ⟨2, ![M, K]⟩ → EReal) (W : Shape.Idx ⟨2, ![K, N]⟩ → EReal) (r : Fin M) (n : Fin N) : EReal :=
  ∑ k : Fin K, C (ix2 r k) * W (ix2 k n)

/-- A magnitude. -/
def mag (x : EReal) : EReal := max x (-x)

/-- The root of a row's mean square plus epsilon. -/
def rms (a : Fin 4608 → EReal) : EReal :=
  Ideal.sqrt (Ideal.div (∑ k : Fin 4608, a k * a k) (Ideal.ofBits .f32 0x45900000#32) + Ideal.ofBits .f32 0x358637BD#32)

/-- A row, normalized and scaled by one plus the gain. -/
def norm (a g : Fin 4608 → EReal) (n : Fin 4608) : EReal := Ideal.div (a n) (rms a) * (1 + g n)

/-- The linear layer: the product of codes, times the row's and the column's scale. -/
def lin (d : Fin 4608 → EReal) (s : EReal) (ws : Fin 4608 → EReal) (n : Fin 4608) : EReal := d n * s * ws n

/-- The residual stream after attention. -/
def res (x d : Fin 4608 → EReal) (s : EReal) (ws g : Fin 4608 → EReal) (n : Fin 4608) : EReal := x n + norm (lin d s ws) g n

/-- A row's scale, from its largest magnitude. -/
def scale (z : Fin 4608 → EReal) : EReal := GateUpSpec.scale (Finset.univ.fold max ⊥ fun n => mag (z n))

/-- The row's factor as the kernel has it, from the unscaled products. -/
def kfac (y : Fin 4608 → EReal) (s : EReal) : EReal :=
  Ideal.div s (Ideal.sqrt (Ideal.div (∑ k : Fin 4608, y k * y k) (Ideal.ofBits .f32 0x45900000#32) * (s * s) + Ideal.ofBits .f32 0x358637BD#32))

/-- The kernel's residual stream. -/
def kres (x y : Fin 4608 → EReal) (s : EReal) (g : Fin 4608 → EReal) (n : Fin 4608) : EReal := x n + y n * kfac y s * (1 + g n)

/-- The kernel's scale: the largest magnitude before the division by the root. -/
def kscale (h g : Fin 4608 → EReal) : EReal :=
  GateUpSpec.scale ((Finset.univ.fold max ⊥ fun n => mag (h n * (1 + g n))) * Ideal.div 1 (rms h))

theorem h4608 : ((4608 : ℝ) : EReal) ≠ 0 := EReal.coe_ne_zero.2 (by norm_num)

theorem mean_nonneg (a : Fin 4608 → EReal) : 0 ≤ Ideal.div (∑ k : Fin 4608, a k * a k) (Ideal.ofBits .f32 0x45900000#32) := by
  rw [DownSpec.ofBits_4608, DownSpec.div_def h4608]
  exact EReal.mul_nonneg (Finset.sum_nonneg fun k _ => DownSpec.sq_nonneg _) (EReal.inv_nonneg_of_nonneg (EReal.coe_nonneg.2 (by norm_num)))

theorem rms_ne_zero (a : Fin 4608 → EReal) : rms a ≠ 0 := by
  unfold rms
  refine DownSpec.sqrt_ne_zero ?_
  rw [add_comm]
  exact EReal.add_pos_of_pos_of_nonneg DownSpec.eps_pos (mean_nonneg a)

theorem sqrt_nonneg {x : EReal} (h : 0 ≤ x) : 0 ≤ Ideal.sqrt x := by
  induction x using EReal.rec with
  | bot => simp at h
  | top => exact le_top
  | coe r =>
    have hr : 0 ≤ r := by exact_mod_cast h
    rw [Ideal.sqrt_coe, if_neg (not_lt.2 hr)]
    exact_mod_cast Real.sqrt_nonneg r

theorem rms_nonneg (a : Fin 4608 → EReal) : 0 ≤ rms a :=
  sqrt_nonneg (add_nonneg (mean_nonneg a) DownSpec.eps_pos.le)

/-- The kernel's residual stream is the reference's. -/
theorem kres_eq (x d : Fin 4608 → EReal) (s : EReal) (ws g : Fin 4608 → EReal) (n : Fin 4608) :
    kres x (fun n => d n * ws n) s g n = res x d s ws g n := by
  have hsum : ∑ k : Fin 4608, lin d s ws k * lin d s ws k = (∑ k : Fin 4608, (d k * ws k) * (d k * ws k)) * (s * s) := by
    rw [← DownSpec.sum_mul_of_nonneg _ _ _ fun k => DownSpec.sq_nonneg _]
    exact Finset.sum_congr rfl fun k _ => DownSpec.ac1 _ _ _
  have hsq : Ideal.div (∑ k : Fin 4608, lin d s ws k * lin d s ws k) (Ideal.ofBits .f32 0x45900000#32)
      = Ideal.div (∑ k : Fin 4608, (d k * ws k) * (d k * ws k)) (Ideal.ofBits .f32 0x45900000#32) * (s * s) := by
    rw [hsum, DownSpec.ofBits_4608, DownSpec.div_def h4608, DownSpec.div_def h4608, DownSpec.ac2]
  have hne := rms_ne_zero (lin d s ws)
  unfold kres res norm kfac
  unfold rms at hne ⊢
  rw [hsq] at hne ⊢
  rw [DownSpec.div_def hne, DownSpec.div_def hne]
  unfold lin
  rw [DownSpec.ac3]

/-- A factor that is not negative comes out of a magnitude … -/
theorem mag_mul (x c : EReal) (hc : 0 ≤ c) : mag (x * c) = mag x * c := by
  unfold mag
  rw [← EReal.neg_mul]
  exact (Monotone.map_max (f := fun t => t * c) (fun a b h => mul_le_mul_of_nonneg_right h hc)).symm

/-- … and out of a row's maximum. -/
theorem fold_max_mul (f : Fin 4608 → EReal) (c : EReal) (hc : 0 ≤ c) :
    (Finset.univ.fold max ⊥ fun n => f n * c) = (Finset.univ.fold max ⊥ f) * c := by
  show (Finset.univ.sup fun n => f n * c) = (Finset.univ.sup f) * c
  obtain ⟨k, hk, e⟩ := Finset.exists_mem_eq_sup (Finset.univ : Finset (Fin 4608)) ⟨0, Finset.mem_univ _⟩ f
  apply le_antisymm
  · exact Finset.sup_le fun n hn => mul_le_mul_of_nonneg_right (Finset.le_sup (f := f) hn) hc
  · rw [e]
    exact Finset.le_sup (f := fun n => f n * c) hk

theorem norm_eq (h g : Fin 4608 → EReal) (n : Fin 4608) : norm h g n = h n * (1 + g n) * Ideal.div 1 (rms h) := by
  unfold norm
  rw [DownSpec.div_def (rms_ne_zero h), DownSpec.div_def (rms_ne_zero h), one_mul]
  ac_rfl

/-- The kernel's scale is the reference's. -/
theorem kscale_eq (h g : Fin 4608 → EReal) : kscale h g = scale (norm h g) := by
  have hc : 0 ≤ Ideal.div 1 (rms h) := by
    rw [DownSpec.div_def (rms_ne_zero h), one_mul]
    exact EReal.inv_nonneg_of_nonneg (rms_nonneg h)
  unfold kscale scale
  rw [← fold_max_mul _ _ hc]
  refine congrArg (fun f => GateUpSpec.scale (Finset.univ.fold max (⊥ : EReal) f)) (funext fun n => ?_)
  rw [norm_eq, mag_mul _ _ hc]

/-- The kernel's code is the reference's. -/
theorem kcode_eq (h g : Fin 4608 → EReal) (n : Fin 4608) :
    GateUpSpec.kcode (h n * (1 + g n)) (Ideal.div 1 (rms h) * Ideal.div 1 (kscale h g)) = GateUpSpec.code (norm h g n) (scale (norm h g)) := by
  have e := GateUpSpec.kcode_eq (norm h g n) (Finset.univ.fold max (⊥ : EReal) fun n => mag (norm h g n))
  rw [kscale_eq]
  refine Eq.trans ?_ e
  unfold GateUpSpec.kcode
  rw [norm_eq, mul_assoc (h n * (1 + g n))]
  rfl

end Cert.OProjSpec

end
-- ==== Proof.OProjFlow.lean ====
/- The output projection's kernel at one grid point, as three passes over nine chunks of 512 columns: the products, the residual stream (read
   back and stored over the products), and the codes. What its run found is these passes. -/
module

public import proofs.«01_k».proof.Proof.Gen.OProjIdeal.Value
public import proofs.«01_k».proof.Proof.OProjSpec
public import Idealize.ShloMosaic.Lib.WholeRead

@[expose] public section

set_option maxRecDepth 65536

noncomputable section

namespace Cert.OProjIdeal.Hand

open Cert.OProjIdeal Cert.OProjIdeal.Gen Idealize.ShloMosaic Idealize.ShloMosaic.TcCoe Idealize.SL.Sem
open scoped BigOperators

/-- One grid point: its memrefs and its input blocks. -/
structure Args where
  c : Dev nD
  i : grid0.Coords
  arg1 : Memref sig .tc .vmem S256x4608 .bf16
  harg1 : arg1.IsWhole
  arg2 : Memref sig .tc .vmem S256x1024 .fp8e4m3
  harg2 : arg2.IsWhole
  arg3 : Memref sig .tc .vmem S1x2x128 .f32
  harg3 : arg3.IsWhole
  arg4 : Memref sig .tc .vmem S1024x4608 .fp8e4m3
  harg4 : arg4.IsWhole
  arg5 : Memref sig .tc .vmem S1x4608 .f32
  harg5 : arg5.IsWhole
  arg6 : Memref sig .tc .vmem S1x4608 .f32
  harg6 : arg6.IsWhole
  arg7 : Memref sig .tc .vmem S1x4608 .f32
  harg7 : arg7.IsWhole
  arg8 : Memref sig .tc .vmem S256x4608 .f32
  harg8 : arg8.IsWhole
  arg9 : Memref sig .tc .vmem S256x4608 .fp8e4m3
  harg9 : arg9.IsWhole
  arg10 : Memref sig .tc .vmem S1x2x128 .f32
  harg10 : arg10.IsWhole
  x0 : Vec Ideal S256x4608 .bf16
  x1 : Vec Ideal S256x1024 .fp8e4m3
  x2 : Vec Ideal S1x2x128 .f32
  x3 : Vec Ideal S1024x4608 .fp8e4m3
  x4 : Vec Ideal S1x4608 .f32
  x5 : Vec Ideal S1x4608 .f32
  x6 : Vec Ideal S1x4608 .f32

/-! ## The operations of one chunk -/

/-- The four quarters of a chunk added to the running sums. -/
def add4 (acc : FVec Ideal S256x128 .f32) (z : FVec Ideal S256x512 .f32) : FVec Ideal S256x128 .f32 :=
  addf acc (addf (addf (extractStridedSlice S256x128 ![0, 0] z slices_S256x512_o0_0_S256x128) (extractStridedSlice S256x128 ![0, 128] z slices_S256x512_o0_128_S256x128))
    (addf (extractStridedSlice S256x128 ![0, 256] z slices_S256x512_o0_256_S256x128) (extractStridedSlice S256x128 ![0, 384] z slices_S256x512_o0_384_S256x128)))

/-- The four quarters of a chunk taken into the running maxima. -/
def max4 (acc : FVec Ideal S256x128 .f32) (z : FVec Ideal S256x512 .f32) : FVec Ideal S256x128 .f32 :=
  maximumf acc (maximumf (maximumf (extractStridedSlice S256x128 ![0, 0] z slices_S256x512_o0_0_S256x128) (extractStridedSlice S256x128 ![0, 128] z slices_S256x512_o0_128_S256x128))
    (maximumf (extractStridedSlice S256x128 ![0, 256] z slices_S256x512_o0_256_S256x128) (extractStridedSlice S256x128 ![0, 384] z slices_S256x512_o0_384_S256x128)))

/-- Running sums over the chunks. -/
def sums (Z : (k : ℕ) → k < 9 → FVec Ideal S256x512 .f32) : (k : ℕ) → k ≤ 9 → FVec Ideal S256x128 .f32
  | 0, _ => k0_pay17
  | k + 1, h => add4 (sums Z k (Nat.le_of_succ_le h)) (Z k h)

/-- Running maxima over the chunks. -/
def maxs (Z : (k : ℕ) → k < 9 → FVec Ideal S256x512 .f32) : (k : ℕ) → k ≤ 9 → FVec Ideal S256x128 .f32
  | 0, _ => k0_pay18
  | k + 1, h => max4 (maxs Z k (Nat.le_of_succ_le h)) (Z k h)

/-- The row factor, from the rows' scales and the running sums. -/
def fac (s : FVec Ideal S256x1 .f32) (ss : FVec Ideal S256x128 .f32) : FVec Ideal S256x1 .f32 :=
  divf s (sqrt (addf (mulf (divf (shapeCast S256x1 (multiReduction .add [1] S256 ss 0x00000000#32 reduces_S256x128_S256 (.inl rfl) rfl) shapeCasts_S256_S256x1)
    (broadcast S256x1 (Scalar.ofBits .f32 0x45900000#32))) (mulf s s)) (broadcast S256x1 (Scalar.ofBits .f32 0x358637BD#32))))

/-- One plus a gain. -/
def gain (g : Vec Ideal S1x512 .f32) : FVec Ideal S256x512 .f32 :=
  broadcastTo S256x512 (addf (broadcast S1x512 (Scalar.ofBits .f32 0x3F800000#32)) (shapeCast S1x512 g shapeCasts_S1x512_S1x512)) broadcasts_S1x512_S256x512

/-- The magnitudes of a chunk of the stream, times one plus the gain. -/
def mags (h : FVec Ideal S256x512 .f32) (g : Vec Ideal S1x512 .f32) : FVec Ideal S256x512 .f32 := absf (mulf h (gain g))

/-- The scales, from the running maxima and the running sums. -/
def scl (am ss : FVec Ideal S256x128 .f32) : FVec Ideal S256x1 .f32 :=
  select (cmpf .oeq (mulf (shapeCast S256x1 (multiReduction .maximumf [1] S256 am 0xFF800000#32 reduces_S256x128_S256 (.inl rfl) rfl) shapeCasts_S256_S256x1) (k0_pay56 ss))
      (broadcast S256x1 (Scalar.ofBits .f32 0x00000000#32))) (broadcast S256x1 (Scalar.ofBits .f32 0x3F800000#32))
    (divf (mulf (shapeCast S256x1 (multiReduction .maximumf [1] S256 am 0xFF800000#32 reduces_S256x128_S256 (.inl rfl) rfl) shapeCasts_S256_S256x1) (k0_pay56 ss))
      (broadcast S256x1 (Scalar.ofBits .f32 0x43E00000#32)))

/-- The factor of the codes. -/
def fac2 (am ss : FVec Ideal S256x128 .f32) : FVec Ideal S256x1 .f32 := mulf (k0_pay56 ss) (divf (broadcast S256x1 (Scalar.ofBits .f32 0x3F800000#32)) (scl am ss))

/-! ## The passes -/

namespace Args

variable (A : Args)

theorem inb {R k : ℕ} (h : k < 9) : ∀ a : Fin 2, (![0, 512 * k] : Fin 2 → ℕ) a + (![R, 512] : Fin 2 → ℕ) a ≤ (![R, 4608] : Fin 2 → ℕ) a
  | ⟨0, _⟩ => show 0 + R ≤ R by omega
  | ⟨1, _⟩ => show 512 * k + 512 ≤ 4608 by omega

/-- The columns of chunk `k`, of an array of `R` rows. -/
abbrev cols (R k : ℕ) (h : k < 9) : Rect ⟨2, ![R, 4608]⟩ := Rect.unit (s := ⟨2, ![R, 4608]⟩) ![0, 512 * k] ![R, 512] (inb h)

def X (k : ℕ) (h : k < 9) : Vec Ideal S256x512 .bf16 := View.readAt (Elt Ideal) A.arg1.view (cols 256 k h).toLoadRect (A.harg1.unread A.x0)
def W (k : ℕ) (h : k < 9) : Vec Ideal S1024x512 .fp8e4m3 := View.readAt (Elt Ideal) A.arg4.view (cols 1024 k h).toLoadRect (A.harg4.unread A.x3)
def D (k : ℕ) (h : k < 9) : Vec Ideal S1x512 .f32 := View.readAt (Elt Ideal) A.arg5.view (cols 1 k h).toLoadRect (A.harg5.unread A.x4)
def P (k : ℕ) (h : k < 9) : Vec Ideal S1x512 .f32 := View.readAt (Elt Ideal) A.arg6.view (cols 1 k h).toLoadRect (A.harg6.unread A.x5)
def G (k : ℕ) (h : k < 9) : Vec Ideal S1x512 .f32 := View.readAt (Elt Ideal) A.arg7.view (cols 1 k h).toLoadRect (A.harg7.unread A.x6)
def C : Vec Ideal S256x1024 .fp8e4m3 :=
  View.readAt (Elt Ideal) A.arg2.view (Rect.unit ![0, 0] S256x1024.size inb_S256x1024_S256x1024_0_0).toLoadRect (A.harg2.unread A.x1)

/-- The rows' scales. -/
def S : FVec Ideal S256x1 .f32 :=
  k0_pay2 (View.readAt (Elt Ideal) A.arg3.view (Rect.unit (s := S1x2x128) ![0, 0, 0] S1x1x128.size inb_S1x2x128_S1x1x128_0_0_0).toLoadRect (A.harg3.unread A.x2))
    (View.readAt (Elt Ideal) A.arg3.view (Rect.unit (s := S1x2x128) ![0, 1, 0] S1x1x128.size inb_S1x2x128_S1x1x128_0_1_0).toLoadRect (A.harg3.unread A.x2))

/-- A chunk of products. -/
def Y (k : ℕ) (h : k < 9) : FVec Ideal S256x512 .f32 := k0_pay3 A.C (A.W k h) (A.D k h)

/-- The first pass's stores, last first. -/
def YL : (k : ℕ) → k ≤ 9 → List (View.Piece (Elt Ideal) S256x4608 .f32)
  | 0, _ => []
  | k + 1, h => ⟨cols 256 k h, A.Y k h⟩ :: YL k (Nat.le_of_succ_le h)

/-- The running sums of the products' squares. -/
def SS : (k : ℕ) → k ≤ 9 → FVec Ideal S256x128 .f32 := sums fun k h => mulf (A.Y k h) (A.Y k h)

/-- The row factor. -/
def F : FVec Ideal S256x1 .f32 := fac A.S (A.SS 9 (Nat.le_refl 9))

/-- A chunk of a buffer, read back from the stores so far. -/
def back (L : List (View.Piece (Elt Ideal) S256x4608 .f32)) (k : ℕ) (h : k < 9) : Vec Ideal S256x512 .f32 := A.arg8.view.readCov L (cols 256 k h).toLoadRect

/-- The second pass's stores over the first's, last first. -/
def HL : (k : ℕ) → k ≤ 9 → List (View.Piece (Elt Ideal) S256x4608 .f32)
  | 0, _ => A.YL 9 (Nat.le_refl 9)
  | k + 1, h => ⟨cols 256 k h, k0_pay24 A.F (A.X k h) (A.back (HL k (Nat.le_of_succ_le h)) k h) (A.P k h)⟩ :: HL k (Nat.le_of_succ_le h)

/-- A chunk of the stream. -/
def H (k : ℕ) (h : k < 9) : FVec Ideal S256x512 .f32 := k0_pay24 A.F (A.X k h) (A.back (A.HL k (Nat.le_of_lt h)) k h) (A.P k h)

/-- The running sums of the stream's squares. -/
def S2 : (k : ℕ) → k ≤ 9 → FVec Ideal S256x128 .f32 := sums fun k h => mulf (A.H k h) (A.H k h)

/-- The running maxima of the scaled stream's magnitudes. -/
def AM : (k : ℕ) → k ≤ 9 → FVec Ideal S256x128 .f32 := maxs fun k h => mags (A.H k h) (A.G k h)

def scales : FVec Ideal S256x1 .f32 := scl (A.AM 9 (Nat.le_refl 9)) (A.S2 9 (Nat.le_refl 9))
def F2 : FVec Ideal S256x1 .f32 := fac2 (A.AM 9 (Nat.le_refl 9)) (A.S2 9 (Nat.le_refl 9))

/-- The third pass's stores, last first. -/
def CL : (k : ℕ) → k ≤ 9 → List (View.Piece (Elt Ideal) S256x4608 .fp8e4m3)
  | 0, _ => []
  | k + 1, h => ⟨cols 256 k h, k0_pay60 A.F2 (A.back (A.HL 9 (Nat.le_refl 9)) k h) (A.G k h)⟩ :: CL k (Nat.le_of_succ_le h)

/-! ## What the run found is these passes -/

theorem YL_eq : kernelRun0_A.sl.H7_9 A.c A.arg2 A.harg2 A.arg4 A.harg4 A.arg5 A.harg5 A.x1 A.x3 A.x4 = A.YL 9 (by omega) := rfl

theorem F_eq : kernelRun0_A.sl.r_8 A.c A.arg2 A.harg2 A.arg3 A.harg3 A.arg4 A.harg4 A.arg5 A.harg5 A.x1 A.x2 A.x3 A.x4 = A.F := rfl

theorem HL1_eq : kernelRun0_A.sl.H7_10 A.c A.arg1 A.harg1 A.arg2 A.harg2 A.arg3 A.harg3 A.arg4 A.harg4 A.arg5 A.harg5 A.arg6 A.harg6 A.arg8 A.x0 A.x1 A.x2 A.x3 A.x4 A.x5 = A.HL 1 (by omega) := by
  unfold kernelRun0_A.sl.H7_10  kernelRun0_A.sl.v180 k0_pay19
  rw [YL_eq]
  rfl

theorem HL2_eq : kernelRun0_A.sl.H7_11 A.c A.arg1 A.harg1 A.arg2 A.harg2 A.arg3 A.harg3 A.arg4 A.harg4 A.arg5 A.harg5 A.arg6 A.harg6 A.arg8 A.x0 A.x1 A.x2 A.x3 A.x4 A.x5 = A.HL 2 (by omega) := by
  unfold kernelRun0_A.sl.H7_11  kernelRun0_A.sl.v218
  rw [HL1_eq, F_eq]
  rfl

theorem HL3_eq : kernelRun0_A.sl.H7_12 A.c A.arg1 A.harg1 A.arg2 A.harg2 A.arg3 A.harg3 A.arg4 A.harg4 A.arg5 A.harg5 A.arg6 A.harg6 A.arg8 A.x0 A.x1 A.x2 A.x3 A.x4 A.x5 = A.HL 3 (by omega) := by
  unfold kernelRun0_A.sl.H7_12  kernelRun0_A.sl.v256
  rw [HL2_eq, F_eq]
  rfl

theorem HL4_eq : kernelRun0_A.sl.H7_13 A.c A.arg1 A.harg1 A.arg2 A.harg2 A.arg3 A.harg3 A.arg4 A.harg4 A.arg5 A.harg5 A.arg6 A.harg6 A.arg8 A.x0 A.x1 A.x2 A.x3 A.x4 A.x5 = A.HL 4 (by omega) := by
  unfold kernelRun0_A.sl.H7_13  kernelRun0_A.sl.v294
  rw [HL3_eq, F_eq]
  rfl

theorem HL5_eq : kernelRun0_A.sl.H7_14 A.c A.arg1 A.harg1 A.arg2 A.harg2 A.arg3 A.harg3 A.arg4 A.harg4 A.arg5 A.harg5 A.arg6 A.harg6 A.arg8 A.x0 A.x1 A.x2 A.x3 A.x4 A.x5 = A.HL 5 (by omega) := by
  unfold kernelRun0_A.sl.H7_14 kernelRun0_A.sl.r_22 kernelRun0_A.sl.v332
  rw [HL4_eq, F_eq]
  rfl

theorem HL6_eq : kernelRun0_A.sl.H7_15 A.c A.arg1 A.harg1 A.arg2 A.harg2 A.arg3 A.harg3 A.arg4 A.harg4 A.arg5 A.harg5 A.arg6 A.harg6 A.arg8 A.x0 A.x1 A.x2 A.x3 A.x4 A.x5 = A.HL 6 (by omega) := by
  unfold kernelRun0_A.sl.H7_15 kernelRun0_A.sl.r_25 kernelRun0_A.sl.r_26 kernelRun0_A.sl.r_27 kernelRun0_A.sl.v370
  rw [HL5_eq, F_eq]
  rfl

theorem HL7_eq : kernelRun0_A.sl.H7_16 A.c A.arg1 A.harg1 A.arg2 A.harg2 A.arg3 A.harg3 A.arg4 A.harg4 A.arg5 A.harg5 A.arg6 A.harg6 A.arg8 A.x0 A.x1 A.x2 A.x3 A.x4 A.x5 = A.HL 7 (by omega) := by
  unfold kernelRun0_A.sl.H7_16  kernelRun0_A.sl.v408
  rw [HL6_eq, F_eq]
  rfl

theorem HL8_eq : kernelRun0_A.sl.H7_17 A.c A.arg1 A.harg1 A.arg2 A.harg2 A.arg3 A.harg3 A.arg4 A.harg4 A.arg5 A.harg5 A.arg6 A.harg6 A.arg8 A.x0 A.x1 A.x2 A.x3 A.x4 A.x5 = A.HL 8 (by omega) := by
  unfold kernelRun0_A.sl.H7_17  kernelRun0_A.sl.v446
  rw [HL7_eq, F_eq]
  rfl

theorem HL9_eq : kernelRun0_A.sl.H7_18 A.c A.arg1 A.harg1 A.arg2 A.harg2 A.arg3 A.harg3 A.arg4 A.harg4 A.arg5 A.harg5 A.arg6 A.harg6 A.arg8 A.x0 A.x1 A.x2 A.x3 A.x4 A.x5 = A.HL 9 (by omega) := by
  unfold kernelRun0_A.sl.H7_18  kernelRun0_A.sl.v484
  rw [HL8_eq, F_eq]
  rfl

/-! The running sums and maxima, as the run names them. -/

theorem r14_eq : kernelRun0_A.sl.r_14 A.c A.arg1 A.harg1 A.arg2 A.harg2 A.arg3 A.harg3 A.arg4 A.harg4 A.arg5 A.harg5 A.arg6 A.harg6 A.arg8 A.x0 A.x1 A.x2 A.x3 A.x4 A.x5 = A.S2 2 (by omega) := by
  unfold kernelRun0_A.sl.r_14 kernelRun0_A.sl.r_10 kernelRun0_A.sl.r_11 kernelRun0_A.sl.v180 kernelRun0_A.sl.v218
  rw [YL_eq, HL1_eq, F_eq]
  rfl

theorem r16_eq : kernelRun0_A.sl.r_16 A.c A.arg1 A.harg1 A.arg2 A.harg2 A.arg3 A.harg3 A.arg4 A.harg4 A.arg5 A.harg5 A.arg6 A.harg6 A.arg7 A.harg7 A.arg8 A.x0 A.x1 A.x2 A.x3 A.x4 A.x5 A.x6 = A.AM 2 (by omega) := by
  unfold kernelRun0_A.sl.r_16 kernelRun0_A.sl.r_12 kernelRun0_A.sl.r_13 kernelRun0_A.sl.r_9 kernelRun0_A.sl.v180 kernelRun0_A.sl.v218
  rw [YL_eq, HL1_eq, F_eq]
  rfl

theorem r17_eq : kernelRun0_A.sl.r_17 A.c A.arg1 A.harg1 A.arg2 A.harg2 A.arg3 A.harg3 A.arg4 A.harg4 A.arg5 A.harg5 A.arg6 A.harg6 A.arg8 A.x0 A.x1 A.x2 A.x3 A.x4 A.x5 = A.S2 3 (by omega) := by
  unfold kernelRun0_A.sl.r_17 kernelRun0_A.sl.v256
  rw [r14_eq, HL2_eq, F_eq]
  rfl

theorem r20_eq : kernelRun0_A.sl.r_20 A.c A.arg1 A.harg1 A.arg2 A.harg2 A.arg3 A.harg3 A.arg4 A.harg4 A.arg5 A.harg5 A.arg6 A.harg6 A.arg8 A.x0 A.x1 A.x2 A.x3 A.x4 A.x5 = A.S2 4 (by omega) := by
  unfold kernelRun0_A.sl.r_20 kernelRun0_A.sl.v294
  rw [r17_eq, HL3_eq, F_eq]
  rfl

theorem r21_eq : kernelRun0_A.sl.r_21 A.c A.arg1 A.harg1 A.arg2 A.harg2 A.arg3 A.harg3 A.arg4 A.harg4 A.arg5 A.harg5 A.arg6 A.harg6 A.arg7 A.harg7 A.arg8 A.x0 A.x1 A.x2 A.x3 A.x4 A.x5 A.x6 = A.AM 4 (by omega) := by
  unfold kernelRun0_A.sl.r_21 kernelRun0_A.sl.r_18 kernelRun0_A.sl.r_19 kernelRun0_A.sl.v256 kernelRun0_A.sl.v294
  rw [r16_eq, HL2_eq, HL3_eq, F_eq]
  rfl

theorem r23_eq : kernelRun0_A.sl.r_23 A.c A.arg1 A.harg1 A.arg2 A.harg2 A.arg3 A.harg3 A.arg4 A.harg4 A.arg5 A.harg5 A.arg6 A.harg6 A.arg8 A.x0 A.x1 A.x2 A.x3 A.x4 A.x5 = A.S2 5 (by omega) := by
  unfold kernelRun0_A.sl.r_23 kernelRun0_A.sl.v332
  rw [r20_eq, HL4_eq, F_eq]
  rfl

theorem r24_eq : kernelRun0_A.sl.r_24 A.c A.arg1 A.harg1 A.arg2 A.harg2 A.arg3 A.harg3 A.arg4 A.harg4 A.arg5 A.harg5 A.arg6 A.harg6 A.arg7 A.harg7 A.arg8 A.x0 A.x1 A.x2 A.x3 A.x4 A.x5 A.x6 = A.AM 5 (by omega) := by
  unfold kernelRun0_A.sl.r_24 kernelRun0_A.sl.v332
  rw [r21_eq, HL4_eq, F_eq]
  rfl

theorem r28_eq : kernelRun0_A.sl.r_28 A.c A.arg1 A.harg1 A.arg2 A.harg2 A.arg3 A.harg3 A.arg4 A.harg4 A.arg5 A.harg5 A.arg6 A.harg6 A.arg8 A.x0 A.x1 A.x2 A.x3 A.x4 A.x5 = A.S2 6 (by omega) := by
  unfold kernelRun0_A.sl.r_28 kernelRun0_A.sl.r_26 kernelRun0_A.sl.v370
  rw [r23_eq, HL5_eq, F_eq]
  rfl

theorem r29_eq : kernelRun0_A.sl.r_29 A.c A.arg1 A.harg1 A.arg2 A.harg2 A.arg3 A.harg3 A.arg4 A.harg4 A.arg5 A.harg5 A.arg6 A.harg6 A.arg7 A.harg7 A.arg8 A.x0 A.x1 A.x2 A.x3 A.x4 A.x5 A.x6 = A.AM 6 (by omega) := by
  unfold kernelRun0_A.sl.r_29 kernelRun0_A.sl.r_26 kernelRun0_A.sl.v370
  rw [r24_eq, HL5_eq, F_eq]
  rfl

theorem r32_eq : kernelRun0_A.sl.r_32 A.c A.arg1 A.harg1 A.arg2 A.harg2 A.arg3 A.harg3 A.arg4 A.harg4 A.arg5 A.harg5 A.arg6 A.harg6 A.arg7 A.harg7 A.arg8 A.x0 A.x1 A.x2 A.x3 A.x4 A.x5 A.x6 = A.AM 7 (by omega) := by
  unfold kernelRun0_A.sl.r_32 kernelRun0_A.sl.r_30 kernelRun0_A.sl.v408
  rw [r29_eq, HL6_eq, F_eq]
  rfl

theorem r34_eq : kernelRun0_A.sl.r_34 A.c A.arg1 A.harg1 A.arg2 A.harg2 A.arg3 A.harg3 A.arg4 A.harg4 A.arg5 A.harg5 A.arg6 A.harg6 A.arg8 A.x0 A.x1 A.x2 A.x3 A.x4 A.x5 = A.S2 8 (by omega) := by
  unfold kernelRun0_A.sl.r_34 kernelRun0_A.sl.r_31 kernelRun0_A.sl.v408 kernelRun0_A.sl.v446
  rw [r28_eq, HL6_eq, HL7_eq, F_eq]
  rfl

theorem r35_eq : kernelRun0_A.sl.r_35 A.c A.arg1 A.harg1 A.arg2 A.harg2 A.arg3 A.harg3 A.arg4 A.harg4 A.arg5 A.harg5 A.arg6 A.harg6 A.arg7 A.harg7 A.arg8 A.x0 A.x1 A.x2 A.x3 A.x4 A.x5 A.x6 = A.AM 8 (by omega) := by
  unfold kernelRun0_A.sl.r_35 kernelRun0_A.sl.r_33 kernelRun0_A.sl.v446
  rw [r32_eq, HL7_eq, F_eq]
  rfl

theorem r36_eq : kernelRun0_A.sl.r_36 A.c A.arg1 A.harg1 A.arg2 A.harg2 A.arg3 A.harg3 A.arg4 A.harg4 A.arg5 A.harg5 A.arg6 A.harg6 A.arg8 A.x0 A.x1 A.x2 A.x3 A.x4 A.x5 = A.S2 9 (by omega) := by
  unfold kernelRun0_A.sl.r_36 kernelRun0_A.sl.v484
  rw [r34_eq, HL8_eq, F_eq]
  rfl

theorem r37_eq : kernelRun0_A.sl.r_37 A.c A.arg1 A.harg1 A.arg2 A.harg2 A.arg3 A.harg3 A.arg4 A.harg4 A.arg5 A.harg5 A.arg6 A.harg6 A.arg7 A.harg7 A.arg8 A.x0 A.x1 A.x2 A.x3 A.x4 A.x5 A.x6 = mags (A.H 8 (by omega)) (A.G 8 (by omega)) := by
  unfold kernelRun0_A.sl.r_37 kernelRun0_A.sl.v484
  rw [HL8_eq, F_eq]
  rfl

theorem scales_eq : kernelRun0_A.sl.r_38 A.c A.arg1 A.harg1 A.arg2 A.harg2 A.arg3 A.harg3 A.arg4 A.harg4 A.arg5 A.harg5 A.arg6 A.harg6 A.arg7 A.harg7 A.arg8 A.x0 A.x1 A.x2 A.x3 A.x4 A.x5 A.x6 = A.scales := by
  unfold kernelRun0_A.sl.r_38
  rw [r35_eq, r36_eq, r37_eq]
  rfl

theorem F2_eq : kernelRun0_A.sl.r_39 A.c A.arg1 A.harg1 A.arg2 A.harg2 A.arg3 A.harg3 A.arg4 A.harg4 A.arg5 A.harg5 A.arg6 A.harg6 A.arg7 A.harg7 A.arg8 A.x0 A.x1 A.x2 A.x3 A.x4 A.x5 A.x6 = A.F2 := by
  unfold kernelRun0_A.sl.r_39
  rw [r35_eq, r36_eq, r37_eq]
  rfl

/-- The stream's stores. -/
theorem run_h : (kernelRun0_A A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3 A.x4 A.x5 A.x6).1 = A.HL 9 (by omega) := A.HL9_eq

/-- The codes' stores. -/
theorem run_c : (kernelRun0_A A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3 A.x4 A.x5 A.x6).2.1 = A.CL 9 (by omega) := by
  unfold kernelRun0_A
  dsimp only
  unfold kernelRun0_A.sl.r_44 kernelRun0_A.sl.r_42 kernelRun0_A.sl.r_41 kernelRun0_A.sl.r_40 kernelRun0_A.sl.v541 kernelRun0_A.sl.v557 kernelRun0_A.sl.v573 kernelRun0_A.sl.v589 kernelRun0_A.sl.v605 kernelRun0_A.sl.v621 kernelRun0_A.sl.v637 kernelRun0_A.sl.v653 kernelRun0_A.sl.v669
  rw [HL9_eq, F2_eq, r35_eq, r36_eq, r37_eq]
  rfl

/-- The scales' stores. -/
theorem run_s : (kernelRun0_A A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3 A.x4 A.x5 A.x6).2.2.1
    = [⟨Rect.unit (s := S1x2x128) ![0, 1, 0] S1x1x128.size inb_S1x2x128_S1x1x128_0_1_0, k0_pay1 (k0_pay75 A.scales)⟩,
      ⟨Rect.unit (s := S1x2x128) ![0, 0, 0] S1x1x128.size inb_S1x2x128_S1x1x128_0_0_0, k0_pay74 A.scales⟩] := by
  unfold kernelRun0_A
  dsimp only
  unfold kernelRun0_A.sl.r_45
  rw [scales_eq]

end Args

end Cert.OProjIdeal.Hand

end
-- ==== Proof.OProjPay.lean ====
/- The output projection's kernel at one grid point, read at an index: the chunk operations, the passes, and what they leave. -/
module

public import proofs.«01_k».proof.Proof.OProjFlow
public import Idealize.ShloMosaic.Lib.Pointwise.SelectCore

@[expose] public section

set_option maxRecDepth 16384

noncomputable section

namespace Cert.OProjIdeal.Hand

open Cert.OProjIdeal Cert.OProjIdeal.Gen Idealize.ShloMosaic Idealize.ShloMosaic.TcCoe Idealize.SL.Sem
open scoped BigOperators

/-! ## The chunk operations -/

theorem pay3_apply (a : Vec Ideal S256x1024 .fp8e4m3) (b : Vec Ideal S1024x512 .fp8e4m3) (d : Vec Ideal S1x512 .f32) (p : Fin 256) (q : Fin 512) :
    k0_pay3 (F := Ideal) a b d (ix2 p q) = OProjSpec.dot a b p q * (d (ix2 0 q) : EReal) := by
  unfold k0_pay3 OProjSpec.dot
  rw [← DownSpec.mm_apply (φ₁ := .fp8e4m3) (φ₂ := .fp8e4m3) a b p q]
  generalize hM : matmul (F := Ideal) dot_S256x1024_S1024x512_S256x512_1_0_0_1_n_n none a b (constant S256x512 .f32 0x00000000#32) = M
  have hM' : FloatOps.matmul (DotDims.plain 256 1024 512) none a b (constant (F := Ideal) ⟨2, ![256, 512]⟩ .f32 0x00000000#32) = M := hM
  rw [hM']
  pointwise

theorem pay24_apply (f : FVec Ideal S256x1 .f32) (x : Vec Ideal S256x512 .bf16) (y : Vec Ideal S256x512 .f32) (g : Vec Ideal S1x512 .f32) (p : Fin 256) (q : Fin 512) :
    k0_pay24 (F := Ideal) f x y g (ix2 p q) = (x (ix2 p q) : EReal) + (y (ix2 p q) : EReal) * (f (ix2 p 0) : EReal) * (1 + (g (ix2 0 q) : EReal)) := by
  unfold k0_pay24
  pointwise

theorem gain_apply (g : Vec Ideal S1x512 .f32) (p : Fin 256) (q : Fin 512) : gain g (ix2 p q) = 1 + (g (ix2 0 q) : EReal) := by
  unfold gain
  pointwise

theorem mags_apply (h : FVec Ideal S256x512 .f32) (g : Vec Ideal S1x512 .f32) (p : Fin 256) (q : Fin 512) :
    mags h g (ix2 p q) = OProjSpec.mag ((h (ix2 p q) : EReal) * (1 + (g (ix2 0 q) : EReal))) := by
  rw [← gain_apply g p q]
  rfl

theorem pay60_apply (f : FVec Ideal S256x1 .f32) (y : Vec Ideal S256x512 .f32) (g : Vec Ideal S1x512 .f32) (p : Fin 256) (q : Fin 512) :
    k0_pay60 (F := Ideal) f y g (ix2 p q) = GateUpSpec.kcode ((y (ix2 p q) : EReal) * (1 + (g (ix2 0 q) : EReal))) (f (ix2 p 0)) := by
  unfold k0_pay60
  refine GateUpSpec.clip_apply.trans ?_
  have e : mulf (F := Ideal) (mulf (shapeCast S256x512 y shapeCasts_S256x512_S256x512) (gain g)) (broadcastTo S256x512 f broadcasts_S256x1_S256x512) (ix2 p q)
      = (y (ix2 p q) : EReal) * (1 + (g (ix2 0 q) : EReal)) * (f (ix2 p 0) : EReal) := by
    unfold gain
    pointwise
  unfold GateUpSpec.kcode
  rw [← e]
  rfl

theorem slice_apply (z : FVec Ideal S256x512 .f32) (o : ℕ) (h : S256x512.Slices ![0, o] S256x128) (p : Fin 256) (l : Fin 128) (q : Fin 512) (hq : q.val = o + l.val) :
    extractStridedSlice S256x128 ![0, o] z h (ix2 p l) = z (ix2 p q) := by
  refine congrArg z (funext fun a => Fin.ext ?_)
  match a with
  | ⟨0, _⟩ => show 0 + p.val = p.val; omega
  | ⟨1, _⟩ => show o + l.val = q.val; omega

theorem add4_apply (acc : FVec Ideal S256x128 .f32) (z : FVec Ideal S256x512 .f32) (p : Fin 256) (l : Fin 128) :
    add4 acc z (ix2 p l) = (acc (ix2 p l) : EReal) + (((z (ix2 p ⟨l.val, by omega⟩) : EReal) + z (ix2 p ⟨128 + l.val, by omega⟩))
      + ((z (ix2 p ⟨256 + l.val, by omega⟩) : EReal) + z (ix2 p ⟨384 + l.val, by omega⟩))) := by
  rw [← slice_apply z 0 slices_S256x512_o0_0_S256x128 p l ⟨l.val, by omega⟩ (by show l.val = 0 + l.val; omega), ← slice_apply z 128 slices_S256x512_o0_128_S256x128 p l ⟨128 + l.val, by omega⟩ rfl,
    ← slice_apply z 256 slices_S256x512_o0_256_S256x128 p l ⟨256 + l.val, by omega⟩ rfl, ← slice_apply z 384 slices_S256x512_o0_384_S256x128 p l ⟨384 + l.val, by omega⟩ rfl]
  rfl

theorem max4_apply (acc : FVec Ideal S256x128 .f32) (z : FVec Ideal S256x512 .f32) (p : Fin 256) (l : Fin 128) :
    max4 acc z (ix2 p l) = max (α := EReal) (acc (ix2 p l)) (max (α := EReal) (max (α := EReal) (z (ix2 p ⟨l.val, by omega⟩)) (z (ix2 p ⟨128 + l.val, by omega⟩)))
      (max (α := EReal) (z (ix2 p ⟨256 + l.val, by omega⟩)) (z (ix2 p ⟨384 + l.val, by omega⟩)))) := by
  rw [← slice_apply z 0 slices_S256x512_o0_0_S256x128 p l ⟨l.val, by omega⟩ (by show l.val = 0 + l.val; omega), ← slice_apply z 128 slices_S256x512_o0_128_S256x128 p l ⟨128 + l.val, by omega⟩ rfl,
    ← slice_apply z 256 slices_S256x512_o0_256_S256x128 p l ⟨256 + l.val, by omega⟩ rfl, ← slice_apply z 384 slices_S256x512_o0_384_S256x128 p l ⟨384 + l.val, by omega⟩ rfl]
  rfl

theorem fac_apply (s : FVec Ideal S256x1 .f32) (ss : FVec Ideal S256x128 .f32) (p : Fin 256) :
    fac s ss (ix2 p 0) = Ideal.div (s (ix2 p 0)) (Ideal.sqrt (Ideal.div (∑ l : Fin 128, (ss (ix2 p l) : EReal)) (Ideal.ofBits .f32 0x45900000#32)
      * ((s (ix2 p 0) : EReal) * (s (ix2 p 0) : EReal)) + Ideal.ofBits .f32 0x358637BD#32)) := by
  unfold fac
  pointwise

theorem pay56_apply (ss : FVec Ideal S256x128 .f32) (p : Fin 256) :
    k0_pay56 (F := Ideal) ss (ix2 p 0) = Ideal.div 1 (Ideal.sqrt (Ideal.div (∑ l : Fin 128, (ss (ix2 p l) : EReal)) (Ideal.ofBits .f32 0x45900000#32)
      + Ideal.ofBits .f32 0x358637BD#32)) := by
  unfold k0_pay56
  pointwise

theorem scl_apply (am ss : FVec Ideal S256x128 .f32) (p : Fin 256) :
    scl am ss (ix2 p 0) = GateUpSpec.scale ((Finset.univ.fold max (⊥ : EReal) fun l : Fin 128 => (am (ix2 p l) : EReal)) * (k0_pay56 (F := Ideal) ss (ix2 p 0) : EReal)) := by
  unfold scl
  generalize k0_pay56 (F := Ideal) ss = M
  refine GateUpSpec.scale_apply.trans ?_
  rw [GateUpSpec.mul_apply]
  have e : shapeCast S256x1 (multiReduction (F := Ideal) .maximumf [1] S256 am 0xFF800000#32 reduces_S256x128_S256 (.inl rfl) rfl) shapeCasts_S256_S256x1 (ix2 p 0)
      = Finset.univ.fold max (⊥ : EReal) fun l : Fin 128 => (am (ix2 p l) : EReal) := by
    refine (shapeCast_apply _ shapeCasts_S256_S256x1 (ix2 p 0) (ix1 p) ?_).trans (GateUpSpec.rowmax_apply am _ _ _ p)
    rw [Shape.rowMajor_val_two, Shape.rowMajor_val_one]
    show p.val = p.val * 1 + 0
    omega
  rw [e]
  unfold GateUpSpec.scale
  rw [show (Scalar.ofBits (F := Ideal) .f32 0x00000000#32 : EReal) = 0 from Ideal.ofBits_zero_f32,
    show (Scalar.ofBits (F := Ideal) .f32 0x3F800000#32 : EReal) = 1 from Ideal.ofBits_one_f32]
  rfl

theorem fac2_apply (am ss : FVec Ideal S256x128 .f32) (p : Fin 256) :
    fac2 am ss (ix2 p 0) = (k0_pay56 (F := Ideal) ss (ix2 p 0) : EReal) * Ideal.div 1 (scl am ss (ix2 p 0)) := by
  unfold fac2
  generalize k0_pay56 (F := Ideal) ss = M
  generalize scl am ss = N
  pointwise

/-! ## Scales between a column and the lanes -/

/-- The mask picks the diagonal. -/
theorem mask_apply (p l : Fin 128) : k0_pay73 (ix2 p l) = if p = l then 1#1 else 0#1 := by
  show BitVec.ofBool (BitVec.ofNat 32 (0 * 128 + p.val) == BitVec.ofNat 32 (0 * 128 + l.val)) = _
  have hp := p.isLt
  have hl := l.isLt
  rw [Nat.zero_mul, Nat.zero_add, Nat.zero_add]
  by_cases h : p = l
  · rw [if_pos h, h, beq_self_eq_true]; rfl
  · have h' : ¬ BitVec.ofNat 32 p.val = BitVec.ofNat 32 l.val := fun e => h (Fin.ext (by
      have := congrArg BitVec.toNat e
      rw [BitVec.toNat_ofNat, BitVec.toNat_ofNat] at this
      omega))
    rw [if_neg h, beq_eq_false_iff_ne.2 h']; rfl

theorem select_mask (p l : Fin 128) (x : EReal) : Scalar.select (k0_pay73 (ix2 p l)) x 0 = if p = l then x else 0 := by
  rw [mask_apply]
  by_cases e : p = l
  · rw [if_pos e, if_pos e]; exact if_pos rfl
  · rw [if_neg e, if_neg e]; exact if_neg (by decide)

/-- A lane-dense row of scales, stood up as a column. -/
def stand (v : Vec Ideal S1x1x128 .f32) : FVec Ideal S128x1 .f32 :=
  shapeCast S128x1 (multiReduction .add [1] S128 (select k0_pay73 (broadcastTo S128x128 (shapeCast S1x128 (shapeCast S1x128 v shapeCasts_S1x1x128_S1x128) shapeCasts_S1x128_S1x128) broadcasts_S1x128_S128x128)
    (broadcast S128x128 (Scalar.ofBits .f32 0x00000000#32))) 0x00000000#32 reduces_S128x128_S128 (.inl rfl) rfl) shapeCasts_S128_S128x1

theorem stand_apply (v : Vec Ideal S1x1x128 .f32) (l : Fin 128) : stand v (ix2 l 0) = v (ix3 0 0 l) := by
  unfold stand
  have hs : (∑ p : Fin 128, Scalar.select (k0_pay73 (ix2 l p)) (v (ix3 0 0 p) : EReal) 0) = v (ix3 0 0 l) := by
    rw [Finset.sum_congr rfl fun p _ => select_mask l p _, Finset.sum_ite_eq Finset.univ l, if_pos (Finset.mem_univ l)]
  generalize k0_pay73 = K at hs ⊢
  refine Eq.trans ?_ hs
  pointwise

theorem pay2_apply (v w : Vec Ideal S1x1x128 .f32) (k : Fin 2) (l : Fin 128) (p : Fin 256) (hp : p.val = k.val * 128 + l.val) :
    k0_pay2 (F := Ideal) v w (ix2 p 0) = if k.val = 0 then v (ix3 0 0 l) else w (ix3 0 0 l) := by
  have e : k0_pay2 (F := Ideal) v w = concatenate S256x1 0 [⟨S128x1, stand v⟩, ⟨S128x1, stand w⟩] concatenates_S128x1_S128x1_S256x1_d0 := rfl
  have hl := l.isLt
  have hk := k.isLt
  rw [e, ← stand_apply v l, ← stand_apply w l]
  generalize stand v = M
  generalize stand w = N
  refine (concatenate_pair_apply _ _ _ _ _).trans ?_
  by_cases h : k.val = 0
  · rw [if_pos h]
    refine (dif_pos (by show p.val < 128; omega)).trans ?_
    refine congrArg M (funext fun a => Fin.ext ?_)
    match a with
    | ⟨0, _⟩ => show p.val = l.val; omega
    | ⟨1, _⟩ => rfl
  · rw [if_neg h]
    refine (dif_neg (by show ¬ p.val < 128; omega)).trans ?_
    refine congrArg N (funext fun a => Fin.ext ?_)
    match a with
    | ⟨0, _⟩ => show p.val - 128 = l.val; omega
    | ⟨1, _⟩ => rfl

/-- Half of a column of scales, laid along the lanes. -/
def lay (d : FVec Ideal S128x1 .f32) : FVec Ideal S1x1x128 .f32 :=
  shapeCast S1x1x128 (shapeCast S1x128 (multiReduction .add [0] S128 (select k0_pay73 (broadcastTo S128x128 (shapeCast S128x1 d shapeCasts_S128x1_S128x1) broadcasts_S128x1_S128x128)
    (broadcast S128x128 (Scalar.ofBits .f32 0x00000000#32))) 0x00000000#32 reduces_S128x128_S128_2 (.inl rfl) rfl) shapeCasts_S128_S1x128) shapeCasts_S1x128_S1x1x128

theorem lay_apply (d : FVec Ideal S128x1 .f32) (l : Fin 128) : lay d (ix3 0 0 l) = d (ix2 l 0) := by
  unfold lay
  have hs : (∑ p : Fin 128, Scalar.select (k0_pay73 (ix2 p l)) (d (ix2 p 0) : EReal) 0) = d (ix2 l 0) := by
    rw [Finset.sum_congr rfl fun p _ => select_mask p l _, Finset.sum_ite_eq' Finset.univ l, if_pos (Finset.mem_univ l)]
  generalize k0_pay73 = K at hs ⊢
  refine Eq.trans ?_ hs
  pointwise

theorem half_apply (M : FVec Ideal S256x1 .f32) (o : ℕ) (h : S256x1.Slices ![o, 0] S128x1) (l : Fin 128) (p : Fin 256) (hp : p.val = o + l.val) :
    extractStridedSlice S128x1 ![o, 0] M h (ix2 l 0) = M (ix2 p 0) := by
  refine congrArg M (funext fun a => Fin.ext ?_)
  match a with
  | ⟨0, _⟩ => show o + l.val = p.val; omega
  | ⟨1, _⟩ => rfl

theorem pay74_apply (M : FVec Ideal S256x1 .f32) (l : Fin 128) (p : Fin 256) (hp : p.val = l.val) : k0_pay74 (F := Ideal) M (ix3 0 0 l) = M (ix2 p 0) :=
  (lay_apply _ l).trans (half_apply M 0 slices_S256x1_o0_0_S128x1 l p (by omega))

theorem pay75_apply (M : FVec Ideal S256x1 .f32) (l : Fin 128) (p : Fin 256) (hp : p.val = 128 + l.val) :
    k0_pay1 (k0_pay75 (F := Ideal) M) (ix3 0 0 l) = M (ix2 p 0) :=
  (lay_apply _ l).trans (half_apply M 128 slices_S256x1_o128_0_S128x1 l p hp)

/-! ## The running sums and maxima of a row -/

/-- A row's entries by number, and a value past its end. -/
def ext (f : Fin 4608 → EReal) (n : ℕ) : EReal := if h : n < 4608 then f ⟨n, h⟩ else 0

theorem ext_of (f : Fin 4608 → EReal) (n : Fin 4608) (k : ℕ) (h : n.val = k) : ext f k = f n := by
  subst h; exact dif_pos n.isLt

section
variable (Z : (k : ℕ) → k < 9 → FVec Ideal S256x512 .f32) (p : Fin 256) (f : Fin 4608 → EReal)
  (hZ : ∀ k h (q : Fin 512) (n : Fin 4608), n.val = 512 * k + q.val → Z k h (ix2 p q) = f n)
include hZ

theorem chunk_ext (k : ℕ) (h : k < 9) (q : Fin 512) (n : ℕ) (hn : n = 512 * k + q.val) : Z k h (ix2 p q) = ext f n := by
  have hq := q.isLt
  rw [hZ k h q ⟨n, by omega⟩ hn]
  exact (ext_of f ⟨n, by omega⟩ n rfl).symm

theorem sums_apply (l : Fin 128) : ∀ (k : ℕ) (h : k ≤ 9), sums Z k h (ix2 p l) = ∑ j ∈ Finset.range k,
    ((ext f (512 * j + l.val) + ext f (512 * j + 128 + l.val)) + (ext f (512 * j + 256 + l.val) + ext f (512 * j + 384 + l.val)))
  | 0, _ => by rw [Finset.range_zero, Finset.sum_empty]; exact Ideal.ofBits_zero_f32
  | k + 1, h => by
    have hl := l.isLt
    rw [Finset.sum_range_succ, ← sums_apply l k (Nat.le_of_succ_le h)]
    refine (add4_apply _ _ p l).trans ?_
    rw [chunk_ext Z p f hZ k h ⟨l.val, by omega⟩ (512 * k + l.val) rfl, chunk_ext Z p f hZ k h ⟨128 + l.val, by omega⟩ (512 * k + 128 + l.val) (Nat.add_assoc _ _ _),
      chunk_ext Z p f hZ k h ⟨256 + l.val, by omega⟩ (512 * k + 256 + l.val) (Nat.add_assoc _ _ _), chunk_ext Z p f hZ k h ⟨384 + l.val, by omega⟩ (512 * k + 384 + l.val) (Nat.add_assoc _ _ _)]

/-- The lanes' sums together are the row's. -/
theorem sums_row : ∑ l : Fin 128, (sums Z 9 (Nat.le_refl 9) (ix2 p l) : EReal) = ∑ n : Fin 4608, f n := by
  rw [Finset.sum_congr rfl fun l _ => sums_apply Z p f hZ l 9 (Nat.le_refl 9)]
  rw [Finset.sum_congr rfl fun n _ => (ext_of f n n.val rfl).symm, Fin.sum_univ_eq_sum_range (ext f) 4608, ← DownSpec.sum_lanes]
  exact Fin.sum_univ_eq_sum_range (fun l => ∑ j ∈ Finset.range 9,
    ((ext f (512 * j + l) + ext f (512 * j + 128 + l)) + (ext f (512 * j + 256 + l) + ext f (512 * j + 384 + l)))) 128

/-- Four entries' maximum, one lane of one chunk. -/
theorem maxs_apply (l : Fin 128) : ∀ (k : ℕ) (h : k ≤ 9), maxs Z k h (ix2 p l) = max 0 ((Finset.range k).sup fun j =>
    max (max (ext f (512 * j + l.val)) (ext f (512 * j + 128 + l.val))) (max (ext f (512 * j + 256 + l.val)) (ext f (512 * j + 384 + l.val))))
  | 0, _ => by rw [Finset.range_zero, Finset.sup_empty, max_eq_left bot_le]; exact Ideal.ofBits_zero_f32
  | k + 1, h => by
    have hl := l.isLt
    rw [Finset.range_add_one, Finset.sup_insert]
    refine (max4_apply _ _ p l).trans ?_
    have ih : maxs Z k (Nat.le_of_succ_le h) (ix2 p l) = _ := maxs_apply l k (Nat.le_of_succ_le h)
    rw [ih, chunk_ext Z p f hZ k h ⟨l.val, by omega⟩ (512 * k + l.val) rfl, chunk_ext Z p f hZ k h ⟨128 + l.val, by omega⟩ (512 * k + 128 + l.val) (Nat.add_assoc _ _ _),
      chunk_ext Z p f hZ k h ⟨256 + l.val, by omega⟩ (512 * k + 256 + l.val) (Nat.add_assoc _ _ _), chunk_ext Z p f hZ k h ⟨384 + l.val, by omega⟩ (512 * k + 384 + l.val) (Nat.add_assoc _ _ _)]
    rw [max_assoc]
    exact congrArg (max 0) (max_comm _ _)

/-- The lanes' maxima together are the row's, of entries that are not negative. -/
theorem maxs_row (h0 : ∀ n, 0 ≤ f n) : (Finset.univ.fold max (⊥ : EReal) fun l : Fin 128 => (maxs Z 9 (Nat.le_refl 9) (ix2 p l) : EReal)) = Finset.univ.fold max ⊥ f := by
  have e : (fun l : Fin 128 => (maxs Z 9 (Nat.le_refl 9) (ix2 p l) : EReal)) = _ := funext fun l => maxs_apply Z p f hZ l 9 (Nat.le_refl 9)
  rw [e]
  have h1 : (0 : EReal) ≤ Finset.univ.sup f := le_trans (h0 0) (Finset.le_sup (f := f) (Finset.mem_univ (0 : Fin 4608)))
  have hle : ∀ n, ext f n ≤ Finset.univ.sup f := fun n => by
    unfold ext
    split
    · rename_i h; exact Finset.le_sup (f := f) (Finset.mem_univ (⟨n, h⟩ : Fin 4608))
    · exact h1
  show Finset.univ.sup _ = Finset.univ.sup f
  apply le_antisymm
  · exact Finset.sup_le fun l _ => max_le h1 (Finset.sup_le fun j _ => max_le (max_le (hle _) (hle _)) (max_le (hle _) (hle _)))
  · refine Finset.sup_le fun n _ => ?_
    have hn := n.isLt
    have hl : n.val % 128 < 128 := Nat.mod_lt _ (by omega)
    have four : ext f n.val ≤ max (max (ext f (512 * (n.val / 512) + n.val % 128)) (ext f (512 * (n.val / 512) + 128 + n.val % 128)))
        (max (ext f (512 * (n.val / 512) + 256 + n.val % 128)) (ext f (512 * (n.val / 512) + 384 + n.val % 128))) := by
      rcases (by omega : n.val = 512 * (n.val / 512) + n.val % 128 ∨ n.val = 512 * (n.val / 512) + 128 + n.val % 128
        ∨ n.val = 512 * (n.val / 512) + 256 + n.val % 128 ∨ n.val = 512 * (n.val / 512) + 384 + n.val % 128) with h | h | h | h
      · exact le_trans (le_of_eq (congrArg (ext f) h)) (le_trans (le_max_left _ _) (le_max_left _ _))
      · exact le_trans (le_of_eq (congrArg (ext f) h)) (le_trans (le_max_right _ _) (le_max_left _ _))
      · exact le_trans (le_of_eq (congrArg (ext f) h)) (le_trans (le_max_left _ _) (le_max_right _ _))
      · exact le_trans (le_of_eq (congrArg (ext f) h)) (le_trans (le_max_right _ _) (le_max_right _ _))
    rw [← ext_of f n n.val rfl]
    refine le_trans four (le_trans ?_ (Finset.le_sup (f := fun l : Fin 128 => max 0 ((Finset.range 9).sup fun j =>
      max (max (ext f (512 * j + l.val)) (ext f (512 * j + 128 + l.val))) (max (ext f (512 * j + 256 + l.val)) (ext f (512 * j + 384 + l.val)))))
      (Finset.mem_univ (⟨n.val % 128, hl⟩ : Fin 128))))
    refine le_trans ?_ (le_max_right _ _)
    exact Finset.le_sup (f := fun j => max (max (ext f (512 * j + n.val % 128)) (ext f (512 * j + 128 + n.val % 128)))
      (max (ext f (512 * j + 256 + n.val % 128)) (ext f (512 * j + 384 + n.val % 128)))) (Finset.mem_range.2 (by omega : n.val / 512 < 9))
end

end Cert.OProjIdeal.Hand

end
-- ==== Proof.OProjRows.lean ====
/- What the output projection's kernel leaves at one grid point, row by row: the passes of its chunks, read at an index. -/
module

public import proofs.«01_k».proof.Proof.OProjPay

@[expose] public section

set_option maxRecDepth 16384

noncomputable section

namespace Cert.OProjIdeal.Hand

open Cert.OProjIdeal Cert.OProjIdeal.Gen Idealize.ShloMosaic Idealize.ShloMosaic.TcCoe Idealize.SL.Sem
open scoped BigOperators

namespace Args

variable (A : Args)

/-! ## Chunks of a block -/

theorem cols_idx {R k : ℕ} (h : k < 9) (p : Fin R) (q : Fin 512) (n : Fin 4608) (hn : n.val = 512 * k + q.val) :
    (cols R k h).toLoadRect.idx (ix2 p q) = ix2 p n := by
  funext a; apply Fin.ext
  match a with
  | ⟨0, _⟩ => show 0 + 1 * p.val = p.val; omega
  | ⟨1, _⟩ => show 512 * k + 1 * q.val = n.val; omega

theorem cols_emb {R k : ℕ} (h : k < 9) (p : Fin R) (q : Fin 512) (n : Fin 4608) (hn : n.val = 512 * k + q.val) :
    (cols R k h).emb (ix2 p q) = ix2 p n := cols_idx h p q n hn

/-- A column outside a chunk. -/
theorem not_mem_cols {R k : ℕ} (h : k < 9) (p : Fin R) (n : Fin 4608) (hn : n.val < 512 * k ∨ 512 * k + 512 ≤ n.val) :
    (ix2 p n : Shape.Idx ⟨2, ![R, 4608]⟩) ∉ (cols R k h).set := fun hm => by
  have := Rect.mem_set_unit.1 hm (1 : Fin 2)
  have h1 : 512 * k ≤ n.val := this.1
  have h2 : n.val < 512 * k + 512 := this.2
  omega

/-- A last store into a chunk, read inside it and outside it. -/
theorem canon_in {e : EltTy} (L : List (View.Piece (Elt Ideal) S256x4608 e)) (k : ℕ) (h : k < 9) (w : Vec Ideal S256x512 e) (p : Fin 256) (q : Fin 512) (n : Fin 4608)
    (hn : n.val = 512 * k + q.val) : View.canon ((⟨cols 256 k h, w⟩ : View.Piece (Elt Ideal) S256x4608 e) :: L) (ix2 p n) = w (ix2 p q) := by
  have i : (ix2 p n : S256x4608.Idx) = (cols 256 k h).emb (ix2 p q) := (cols_emb h p q n hn).symm
  rw [i]
  exact View.canon_cons_emb (cols 256 k h) w L (ix2 p q)

theorem canon_off {e : EltTy} (L : List (View.Piece (Elt Ideal) S256x4608 e)) (k : ℕ) (h : k < 9) (w : Vec Ideal S256x512 e) (p : Fin 256) (n : Fin 4608)
    (hn : n.val < 512 * k ∨ 512 * k + 512 ≤ n.val) : View.canon ((⟨cols 256 k h, w⟩ : View.Piece (Elt Ideal) S256x4608 e) :: L) (ix2 p n) = View.canon L (ix2 p n) :=
  View.canon_cons_of_not_mem (⟨cols 256 k h, w⟩ : View.Piece (Elt Ideal) S256x4608 e) L (not_mem_cols h p n hn)

section
variable (k : ℕ) (h : k < 9) (p : Fin 256) (q : Fin 512) (n : Fin 4608) (hn : n.val = 512 * k + q.val)
include hn

theorem X_apply : A.X k h (ix2 p q) = A.x0 (ix2 p n) := (A.harg1.readAt_unread A.x0 _ _).trans (congrArg A.x0 (cols_idx h p q n hn))
theorem W_apply (j : Fin 1024) : A.W k h (ix2 j q) = A.x3 (ix2 j n) := (A.harg4.readAt_unread A.x3 _ _).trans (congrArg A.x3 (cols_idx h j q n hn))
theorem D_apply : A.D k h (ix2 0 q) = A.x4 (ix2 0 n) := (A.harg5.readAt_unread A.x4 _ _).trans (congrArg A.x4 (cols_idx h 0 q n hn))
theorem P_apply : A.P k h (ix2 0 q) = A.x5 (ix2 0 n) := (A.harg6.readAt_unread A.x5 _ _).trans (congrArg A.x5 (cols_idx h 0 q n hn))
theorem G_apply : A.G k h (ix2 0 q) = A.x6 (ix2 0 n) := (A.harg7.readAt_unread A.x6 _ _).trans (congrArg A.x6 (cols_idx h 0 q n hn))

theorem back_apply (L : List (View.Piece (Elt Ideal) S256x4608 .f32)) : A.back L k h (ix2 p q) = View.canon L (ix2 p n) :=
  (congrFun (View.readCov_eq_canon' A.arg8.view L (cols 256 k h).toLoadRect) (ix2 p q)).trans (congrArg (View.canon L) (cols_idx h p q n hn))
end

theorem C_apply (p : Fin 256) (j : Fin 1024) : A.C (ix2 p j) = A.x1 (ix2 p j) := by
  refine (A.harg2.readAt_unread A.x1 _ _).trans (congrArg A.x1 (funext fun a => Fin.ext ?_))
  match a with
  | ⟨0, _⟩ => show 0 + 1 * p.val = p.val; omega
  | ⟨1, _⟩ => show 0 + 1 * j.val = j.val; omega

theorem S_apply (p : Fin 256) (k : Fin 2) (l : Fin 128) (hp : p.val = k.val * 128 + l.val) : A.S (ix2 p 0) = A.x2 (ix3 0 k l) := by
  unfold S
  refine (pay2_apply _ _ k l p hp).trans ?_
  have hk := k.isLt
  by_cases h : k.val = 0
  · rw [if_pos h]
    refine (A.harg3.readAt_unread A.x2 _ _).trans (congrArg A.x2 (funext fun a => Fin.ext ?_))
    match a with
    | ⟨0, _⟩ => rfl
    | ⟨1, _⟩ => exact h.symm
    | ⟨2, _⟩ => show 0 + 1 * l.val = l.val; omega
  · rw [if_neg h]
    refine (A.harg3.readAt_unread A.x2 _ _).trans (congrArg A.x2 (funext fun a => Fin.ext ?_))
    match a with
    | ⟨0, _⟩ => rfl
    | ⟨1, _⟩ => show 1 = k.val; omega
    | ⟨2, _⟩ => show 0 + 1 * l.val = l.val; omega

/-! ## The products -/

/-- A row's products, times the columns' scales. -/
def yv (p : Fin 256) (n : Fin 4608) : EReal := OProjSpec.dot A.x1 A.x3 p n * A.x4 (ix2 0 n)

theorem Y_apply (k : ℕ) (h : k < 9) (p : Fin 256) (q : Fin 512) (n : Fin 4608) (hn : n.val = 512 * k + q.val) : A.Y k h (ix2 p q) = A.yv p n := by
  unfold Y yv
  rw [← A.D_apply k h q n hn]
  have e : OProjSpec.dot A.x1 A.x3 p n = OProjSpec.dot A.C (A.W k h) p q := by
    unfold OProjSpec.dot
    exact Finset.sum_congr rfl fun j _ => congrArg₂ (· * · : EReal → EReal → EReal) (A.C_apply p j).symm (A.W_apply k h q n hn j).symm
  rw [e]
  exact pay3_apply _ _ _ p q

/-- Stores of chunks, last first, read at a column some chunk has stored. -/
theorem canon_YL (p : Fin 256) (n : Fin 4608) : ∀ (k : ℕ) (h : k ≤ 9), n.val < 512 * k → View.canon (A.YL k h) (ix2 p n) = A.yv p n
  | 0, _, hn => absurd hn (by omega)
  | k + 1, h, hn => by
    rw [show A.YL (k + 1) h = ⟨cols 256 k h, A.Y k h⟩ :: A.YL k (Nat.le_of_succ_le h) from rfl]
    by_cases hk : n.val < 512 * k
    · rw [canon_off _ k h _ p n (.inl hk)]
      exact canon_YL p n k (Nat.le_of_succ_le h) hk
    · have hq : n.val - 512 * k < 512 := by omega
      have e : n.val = 512 * k + (⟨n.val - 512 * k, hq⟩ : Fin 512).val := by show n.val = 512 * k + (n.val - 512 * k); omega
      rw [canon_in _ k h _ p _ n e]
      exact A.Y_apply k h p _ n e

/-! ## The residual stream -/

/-- A row's scale. -/
def sv (p : Fin 256) : EReal := A.S (ix2 p 0)

/-- A row of the residual stream, in the kernel's order of operations. -/
def hv (p : Fin 256) : Fin 4608 → EReal := OProjSpec.kres (fun n => A.x0 (ix2 p n)) (A.yv p) (A.sv p) (fun n => A.x5 (ix2 0 n))

/-- The squares' running sums are of the rows' squares. -/
theorem squares (Z : (k : ℕ) → k < 9 → FVec Ideal S256x512 .f32) (p : Fin 256) (f : Fin 4608 → EReal)
    (hZ : ∀ k h (q : Fin 512) (n : Fin 4608), n.val = 512 * k + q.val → Z k h (ix2 p q) = f n) :
    ∑ l : Fin 128, (sums (fun k h => mulf (Z k h) (Z k h)) 9 (Nat.le_refl 9) (ix2 p l) : EReal) = ∑ n : Fin 4608, f n * f n :=
  sums_row (fun k h => mulf (Z k h) (Z k h)) p (fun n => f n * f n)
    fun k h q n hn => congrArg₂ (· * · : EReal → EReal → EReal) (hZ k h q n hn) (hZ k h q n hn)

theorem F_apply (p : Fin 256) : A.F (ix2 p 0) = OProjSpec.kfac (A.yv p) (A.sv p) := by
  unfold F
  refine (fac_apply _ _ p).trans ?_
  have e := squares A.Y p (A.yv p) fun k h q n hn => A.Y_apply k h p q n hn
  unfold SS
  rw [e]
  rfl

/-- A chunk of the second pass, where the products of its columns are still stored. -/
theorem chunk_apply (L : List (View.Piece (Elt Ideal) S256x4608 .f32)) (k : ℕ) (h : k < 9) (p : Fin 256) (q : Fin 512) (n : Fin 4608) (hn : n.val = 512 * k + q.val)
    (hL : View.canon L (ix2 p n) = A.yv p n) : k0_pay24 A.F (A.X k h) (A.back L k h) (A.P k h) (ix2 p q) = A.hv p n := by
  refine (pay24_apply _ _ _ _ p q).trans ?_
  rw [A.X_apply k h p q n hn, A.back_apply k h p q n hn L, hL, A.P_apply k h q n hn, A.F_apply p]
  rfl

/-- The columns the second pass has stored hold the stream, the others still the products. -/
theorem canon_HL (p : Fin 256) (n : Fin 4608) : ∀ (k : ℕ) (h : k ≤ 9), View.canon (A.HL k h) (ix2 p n) = if n.val < 512 * k then A.hv p n else A.yv p n
  | 0, _ => by
    have hn := n.isLt
    rw [if_neg (by omega)]
    exact A.canon_YL p n 9 (Nat.le_refl 9) (by omega)
  | k + 1, h => by
    have ih := canon_HL p n k (Nat.le_of_succ_le h)
    rw [show A.HL (k + 1) h = ⟨cols 256 k h, k0_pay24 A.F (A.X k h) (A.back (A.HL k (Nat.le_of_succ_le h)) k h) (A.P k h)⟩ :: A.HL k (Nat.le_of_succ_le h) from rfl]
    by_cases hk : n.val < 512 * k
    · rw [if_pos hk] at ih
      rw [if_pos (by omega), canon_off _ k h _ p n (.inl hk)]
      exact ih
    · rw [if_neg hk] at ih
      by_cases hq : n.val < 512 * (k + 1)
      · have hq' : n.val - 512 * k < 512 := by omega
        have e : n.val = 512 * k + (⟨n.val - 512 * k, hq'⟩ : Fin 512).val := by show n.val = 512 * k + (n.val - 512 * k); omega
        rw [if_pos hq, canon_in _ k h _ p _ n e]
        exact A.chunk_apply _ k h p _ n e ih
      · rw [if_neg hq, canon_off _ k h _ p n (.inr (by omega))]
        exact ih

theorem H_apply (k : ℕ) (h : k < 9) (p : Fin 256) (q : Fin 512) (n : Fin 4608) (hn : n.val = 512 * k + q.val) : A.H k h (ix2 p q) = A.hv p n :=
  A.chunk_apply _ k h p q n hn ((A.canon_HL p n k (Nat.le_of_lt h)).trans (if_neg (by omega)))

/-- What the second pass leaves. -/
theorem stream_apply (p : Fin 256) (n : Fin 4608) : View.canon (A.HL 9 (Nat.le_refl 9)) (ix2 p n) = A.hv p n :=
  (A.canon_HL p n 9 (Nat.le_refl 9)).trans (if_pos (by have := n.isLt; omega))

/-! ## The scales and the codes -/

/-- The gains of the second normalization. -/
def gv (n : Fin 4608) : EReal := A.x6 (ix2 0 n)

theorem root_apply (p : Fin 256) : k0_pay56 (F := Ideal) (A.S2 9 (Nat.le_refl 9)) (ix2 p 0) = Ideal.div 1 (OProjSpec.rms (A.hv p)) := by
  refine (pay56_apply _ p).trans ?_
  have e := squares A.H p (A.hv p) fun k h q n hn => A.H_apply k h p q n hn
  unfold S2
  rw [e]
  rfl

theorem scales_apply (p : Fin 256) : A.scales (ix2 p 0) = OProjSpec.kscale (A.hv p) A.gv := by
  unfold scales
  refine (scl_apply _ _ p).trans ?_
  rw [A.root_apply p]
  have e := maxs_row (fun k h => mags (A.H k h) (A.G k h)) p (fun n => OProjSpec.mag (A.hv p n * (1 + A.gv n)))
    (fun k h q n hn => (mags_apply _ _ p q).trans (by rw [A.H_apply k h p q n hn, A.G_apply k h q n hn]; rfl))
    (fun n => (le_total 0 (A.hv p n * (1 + A.gv n))).elim (fun h => le_trans h (le_max_left _ _)) fun h => le_trans (EReal.neg_nonneg.2 h) (le_max_right _ _))
  unfold AM
  rw [e]
  rfl

theorem F2_apply (p : Fin 256) : A.F2 (ix2 p 0) = Ideal.div 1 (OProjSpec.rms (A.hv p)) * Ideal.div 1 (OProjSpec.kscale (A.hv p) A.gv) := by
  have e := A.scales_apply p
  unfold F2
  refine (fac2_apply _ _ p).trans ?_
  unfold scales at e
  rw [A.root_apply p, e]

/-- A row's codes. -/
def cv (p : Fin 256) (n : Fin 4608) : EReal :=
  GateUpSpec.code (OProjSpec.norm (A.hv p) A.gv n) (OProjSpec.scale (OProjSpec.norm (A.hv p) A.gv))

theorem code_apply (k : ℕ) (h : k < 9) (p : Fin 256) (q : Fin 512) (n : Fin 4608) (hn : n.val = 512 * k + q.val) :
    k0_pay60 A.F2 (A.back (A.HL 9 (Nat.le_refl 9)) k h) (A.G k h) (ix2 p q) = A.cv p n := by
  refine (pay60_apply _ _ _ p q).trans ?_
  rw [A.back_apply k h p q n hn, A.stream_apply p n, A.G_apply k h q n hn, A.F2_apply p]
  exact OProjSpec.kcode_eq (A.hv p) A.gv n

theorem canon_CL (p : Fin 256) (n : Fin 4608) : ∀ (k : ℕ) (h : k ≤ 9), n.val < 512 * k → View.canon (A.CL k h) (ix2 p n) = A.cv p n
  | 0, _, hn => absurd hn (by omega)
  | k + 1, h, hn => by
    rw [show A.CL (k + 1) h = ⟨cols 256 k h, k0_pay60 A.F2 (A.back (A.HL 9 (Nat.le_refl 9)) k h) (A.G k h)⟩ :: A.CL k (Nat.le_of_succ_le h) from rfl]
    by_cases hk : n.val < 512 * k
    · rw [canon_off _ k h _ p n (.inl hk)]
      exact canon_CL p n k (Nat.le_of_succ_le h) hk
    · have hq : n.val - 512 * k < 512 := by omega
      have e : n.val = 512 * k + (⟨n.val - 512 * k, hq⟩ : Fin 512).val := by show n.val = 512 * k + (n.val - 512 * k); omega
      rw [canon_in _ k h _ p _ n e]
      exact A.code_apply k h p _ n e

/-! ## What the run leaves in its three result blocks -/

/-- What the run leaves in window 7's block. -/
def res7 : Vec Ideal S256x4608 .f32 :=
  out0_A_7 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3 A.x4 A.x5 A.x6

theorem res7_apply (p : Fin 256) (n : Fin 4608) : A.res7 (ix2 p n) = A.hv p n := by
  unfold res7 out0_A_7
  rw [A.run_h, View.read_writes_junk_eq_canon]
  exact A.stream_apply p n

/-- What the run leaves in window 8's block. -/
def res8 : Vec Ideal S256x4608 .fp8e4m3 :=
  out0_A_8 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3 A.x4 A.x5 A.x6

theorem res8_apply (p : Fin 256) (n : Fin 4608) : A.res8 (ix2 p n) = A.cv p n := by
  unfold res8 out0_A_8
  rw [A.run_c, View.read_writes_junk_eq_canon]
  exact A.canon_CL p n 9 (Nat.le_refl 9) (by have := n.isLt; omega)

/-- What the run leaves in window 9's block. -/
def res9 : Vec Ideal S1x2x128 .f32 :=
  out0_A_9 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3 A.x4 A.x5 A.x6

theorem res9_apply (k : Fin 2) (l : Fin 128) (p : Fin 256) (hp : p.val = k.val * 128 + l.val) : A.res9 (ix3 0 k l)
    = OProjSpec.scale (OProjSpec.norm (A.hv p) A.gv) := by
  have hk := k.isLt
  have e := (A.scales_apply p).trans (OProjSpec.kscale_eq (A.hv p) A.gv)
  unfold res9 out0_A_9
  rw [A.run_s, View.read_writes_junk_eq_canon, ← e]
  by_cases h : k.val = 0
  · refine (View.canon_cons_of_not_mem _ _ fun hm => ?_).trans ?_
    · have h1 : 1 ≤ k.val := (Rect.mem_set_unit (s := S1x2x128) (off := ![0, 1, 0]) (size := S1x1x128.size) (inb := inb_S1x2x128_S1x1x128_0_1_0) |>.1 hm (1 : Fin 3)).1
      omega
    · have i : (ix3 0 k l : S1x2x128.Idx) = (Rect.unit (s := S1x2x128) ![0, 0, 0] S1x1x128.size inb_S1x2x128_S1x1x128_0_0_0).emb (ix3 0 0 l) := by
        funext a; apply Fin.ext
        match a with
        | ⟨0, _⟩ => rfl
        | ⟨1, _⟩ => exact h
        | ⟨2, _⟩ => show l.val = 0 + 1 * l.val; omega
      rw [i]
      exact (View.canon_cons_emb _ _ _ _).trans (pay74_apply A.scales l p (by omega))
  · have i : (ix3 0 k l : S1x2x128.Idx) = (Rect.unit (s := S1x2x128) ![0, 1, 0] S1x1x128.size inb_S1x2x128_S1x1x128_0_1_0).emb (ix3 0 0 l) := by
      funext a; apply Fin.ext
      match a with
      | ⟨0, _⟩ => rfl
      | ⟨1, _⟩ => show k.val = 1; omega
      | ⟨2, _⟩ => show l.val = 0 + 1 * l.val; omega
    rw [i]
    exact (View.canon_cons_emb _ _ _ _).trans (pay75_apply A.scales l p (by omega))

end Args

end Cert.OProjIdeal.Hand

end
-- ==== Proof.OProjRefValue.lean ====
/- The reference of the output projection computes the formulas of `OProjSpec`. -/
module

public import proofs.«01_k».proof.Proof.Gen.OProjRefIdeal.Value
public import proofs.«01_k».proof.Proof.OProjSpec
public import Idealize.ShloMosaic.Lib.MatmulPlain
public import Idealize.ShloMosaic.Lib.Pointwise.Reshape
public import Idealize.ShloMosaic.Lib.Pointwise.Reduce

@[expose] public section

set_option maxRecDepth 16384

noncomputable section

namespace Cert.OProjRefIdeal.Hand

open Cert.OProjRefIdeal Cert.OProjRefIdeal.Gen Idealize.ShloMosaic Idealize.ShloMosaic.TcCoe
open scoped BigOperators

/-- The residual stream's payload at a row and a column. -/
theorem pay5_apply (v0 : Vec Ideal S15360x1024 .fp8e4m3) (v1 : Vec Ideal S15360x1 .f32) (v3 : Vec Ideal S1024x4608 .fp8e4m3) (v4 : Vec Ideal S1x4608 .f32)
    (v11 : Vec Ideal S15360x4608 .bf16) (v13 : Vec Ideal S1x4608 .f32) (r : Fin 15360) (n : Fin 4608) :
    k0_pay5 (F := Ideal) v0 v1 v3 v4 v11 v13 (ix2 r n)
      = OProjSpec.res (fun n => v11 (ix2 r n)) (OProjSpec.dot v0 v3 r) (v1 (ix2 r 0)) (fun n => v4 (ix2 0 n)) (fun n => v13 (ix2 0 n)) n := by
  unfold k0_pay5 OProjSpec.res OProjSpec.norm OProjSpec.rms OProjSpec.lin OProjSpec.dot
  generalize hM : matmul (F := Ideal) dot_S15360x1024_S1024x4608_S15360x4608_1_0_0_1_n_n none v0 v3 (constant S15360x4608 .f32 0x00000000#32) = M
  have hm : ∀ n, (∑ k : Fin 1024, v0 (ix2 r k) * v3 (ix2 k n) : EReal) = M (ix2 r n) := fun n => by
    rw [← hM]; exact (DownSpec.mm_apply (φ₁ := .fp8e4m3) (φ₂ := .fp8e4m3) v0 v3 r n).symm
  simp only [hm]
  pointwise

theorem pay7_apply (v0 : Vec Ideal S15360x1024 .fp8e4m3) (v1 : Vec Ideal S15360x1 .f32) (v3 : Vec Ideal S1024x4608 .fp8e4m3) (v4 : Vec Ideal S1x4608 .f32)
    (v11 : Vec Ideal S15360x4608 .bf16) (v13 : Vec Ideal S1x4608 .f32) (r : Fin 15360) :
    k0_pay7 (F := Ideal) v0 v1 v3 v4 v11 v13 (ix2 r 0)
      = Ideal.div (∑ n : Fin 4608, (k0_pay5 (F := Ideal) v0 v1 v3 v4 v11 v13 (ix2 r n) : EReal) * k0_pay5 (F := Ideal) v0 v1 v3 v4 v11 v13 (ix2 r n))
          (Ideal.ofBits .f32 0x45900000#32) := by
  unfold k0_pay7
  generalize k0_pay5 (F := Ideal) v0 v1 v3 v4 v11 v13 = M
  pointwise

/-- The normalized stream's payload, from a stream and its mean square. -/
theorem pay1_apply (h : FVec Ideal S15360x4608 .f32) (g : Vec Ideal S1x4608 .f32) (q : FVec Ideal S15360x1 .f32) (r : Fin 15360) (n : Fin 4608) :
    k0_pay1 (F := Ideal) h (k0_pay6 g) q k0_pay8 (ix2 r n)
      = Ideal.div (h (ix2 r n)) (Ideal.sqrt ((q (ix2 r 0) : EReal) + Ideal.ofBits .f32 0x358637BD#32)) * (1 + (g (ix2 0 n) : EReal)) := by
  unfold k0_pay1 k0_pay6 k0_pay8
  pointwise

theorem pay2_apply (h : FVec Ideal S15360x4608 .f32) (g : FVec Ideal S1x4608 .f32) (q e : FVec Ideal S15360x1 .f32) (r : Fin 15360) :
    k0_pay2 (F := Ideal) h g q e (ix2 r 0) = OProjSpec.scale (fun n => k0_pay1 (F := Ideal) h g q e (ix2 r n)) := by
  unfold k0_pay2 OProjSpec.scale
  generalize k0_pay1 (F := Ideal) h g q e = M
  exact GateUpSpec.rowscale_apply (absf M) _ _ _ _ r

theorem pay3_apply (h : FVec Ideal S15360x4608 .f32) (g : FVec Ideal S1x4608 .f32) (q e : FVec Ideal S15360x1 .f32) (r : Fin 15360) (n : Fin 4608) :
    k0_pay3 (F := Ideal) h g q e (ix2 r n) = GateUpSpec.code (k0_pay1 (F := Ideal) h g q e (ix2 r n)) (k0_pay2 (F := Ideal) h g q e (ix2 r 0)) := by
  unfold k0_pay3
  refine GateUpSpec.clip_apply.trans ?_
  rw [GateUpSpec.div_apply]
  generalize k0_pay2 (F := Ideal) h g q e = M
  have h : broadcastTo S15360x4608 M broadcasts_S15360x1_S15360x4608 (ix2 r n) = M (ix2 r 0) := by pointwise
  rw [h]
  rfl

/-- The scales' payload, lane-dense: scale `k * 128 + l` of block `b`. -/
theorem pay4_apply (h : FVec Ideal S15360x4608 .f32) (g : FVec Ideal S1x4608 .f32) (q e : FVec Ideal S15360x1 .f32) (b : Fin 60) (k : Fin 2) (l : Fin 128)
    (r : Fin 15360) (hr : r.val = b.val * 256 + k.val * 128 + l.val) : k0_pay4 (F := Ideal) h g q e (ix3 b k l) = k0_pay2 (F := Ideal) h g q e (ix2 r 0) := by
  unfold k0_pay4
  generalize k0_pay2 (F := Ideal) h g q e = M
  refine shapeCast_apply M _ (ix3 b k l) (ix2 r 0) ?_
  rw [Shape.rowMajor_val_two, Shape.rowMajor_val_three]
  show r.val * 1 + 0 = (b.val * 2 + k.val) * 128 + l.val
  omega

variable (m : (ℓ : Loc nD τ sig) → Buf (Elt Ideal) ℓ) (ρ : Dev nD → PrngReg)

/-- The one grid point. -/
abbrev t0 : Fin cfg0.N := ⟨0, by decide⟩

theorem V0_apply (c : Dev nD) (r : Fin 15360) : V m c main_v0 (ix2 r 0) = m ((c : Thread nD τ).loc main_arg2) (ix1 r) := by
  have h : V m c main_v0 = shapeCast S15360x1 (m ((c : Thread nD τ).loc main_arg2)) shapeCasts_S15360_S15360x1 := by
    show StableHlo.after hostOps0 _ (Proc.devRef .tc main_v0) = _
    after_results
    rfl
  rw [h]
  pointwise

theorem V1_apply (c : Dev nD) (n : Fin 4608) : V m c main_v1 (ix2 0 n) = m ((c : Thread nD τ).loc main_arg4) (ix1 n) := by
  have h : V m c main_v1 = broadcastInDim S1x4608 ![1] bcast_S4608_S1x4608_1 (m ((c : Thread nD τ).loc main_arg4)) := by
    show StableHlo.after hostOps0 _ (Proc.devRef .tc main_v1) = _
    after_results
  rw [h]
  pointwise

theorem V2_apply (c : Dev nD) (n : Fin 4608) : V m c main_v2 (ix2 0 n) = m ((c : Thread nD τ).loc main_arg5) (ix1 n) := by
  have h : V m c main_v2 = broadcastInDim S1x4608 ![1] bcast_S4608_S1x4608_1 (m ((c : Thread nD τ).loc main_arg5)) := by
    show StableHlo.after hostOps0 _ (Proc.devRef .tc main_v2) = _
    after_results
  rw [h]
  pointwise

theorem V3_apply (c : Dev nD) (n : Fin 4608) : V m c main_v3 (ix2 0 n) = m ((c : Thread nD τ).loc main_arg6) (ix1 n) := by
  have h : V m c main_v3 = broadcastInDim S1x4608 ![1] bcast_S4608_S1x4608_1 (m ((c : Thread nD τ).loc main_arg6)) := by
    show StableHlo.after hostOps0 _ (Proc.devRef .tc main_v3) = _
    after_results
  rw [h]
  pointwise

/-! ## Each window is its whole array -/

theorem whole2 {n k : ℕ} {x y : Shape.Idx ⟨2, ![n, k]⟩} {i j : ℕ} (hi : i = 0 ∧ j = 0) (h0 : (x 0).val = i * n + 1 * (y 0).val) (h1 : (x 1).val = j * k + 1 * (y 1).val) : x = y := by
  obtain ⟨rfl, rfl⟩ := hi
  funext a; apply Fin.ext
  match a with
  | ⟨0, _⟩ => show (x 0).val = (y 0).val; omega
  | ⟨1, _⟩ => show (x 1).val = (y 1).val; omega

theorem idx_0 : ∀ t : Fin cfg0.N, win0_0.index t (0 : Fin 2) = 0 ∧ win0_0.index t (1 : Fin 2) = 0 := by decide +kernel

theorem emb_0 (t : Fin cfg0.N) (j : S15360x4608.Idx) : ((cfg0.win 0).blk t).view.emb j = j := whole2 (idx_0 t) rfl rfl

theorem iblk_0 (c : Dev nD) (t : Fin cfg0.N) : iblk m c 0 t = V m c main_arg0 := by
  funext j; show V m c main_arg0 (((cfg0.win 0).blk t).view.emb j) = V m c main_arg0 j; rw [emb_0]

theorem idx_1 : ∀ t : Fin cfg0.N, win0_1.index t (0 : Fin 2) = 0 ∧ win0_1.index t (1 : Fin 2) = 0 := by decide +kernel

theorem emb_1 (t : Fin cfg0.N) (j : S15360x1024.Idx) : ((cfg0.win 1).blk t).view.emb j = j := whole2 (idx_1 t) rfl rfl

theorem iblk_1 (c : Dev nD) (t : Fin cfg0.N) : iblk m c 1 t = V m c main_arg1 := by
  funext j; show V m c main_arg1 (((cfg0.win 1).blk t).view.emb j) = V m c main_arg1 j; rw [emb_1]

theorem idx_2 : ∀ t : Fin cfg0.N, win0_2.index t (0 : Fin 2) = 0 ∧ win0_2.index t (1 : Fin 2) = 0 := by decide +kernel

theorem emb_2 (t : Fin cfg0.N) (j : S15360x1.Idx) : ((cfg0.win 2).blk t).view.emb j = j := whole2 (idx_2 t) rfl rfl

theorem iblk_2 (c : Dev nD) (t : Fin cfg0.N) : iblk m c 2 t = V m c main_v0 := by
  funext j; show V m c main_v0 (((cfg0.win 2).blk t).view.emb j) = V m c main_v0 j; rw [emb_2]

theorem idx_3 : ∀ t : Fin cfg0.N, win0_3.index t (0 : Fin 2) = 0 ∧ win0_3.index t (1 : Fin 2) = 0 := by decide +kernel

theorem emb_3 (t : Fin cfg0.N) (j : S1024x4608.Idx) : ((cfg0.win 3).blk t).view.emb j = j := whole2 (idx_3 t) rfl rfl

theorem iblk_3 (c : Dev nD) (t : Fin cfg0.N) : iblk m c 3 t = V m c main_arg3 := by
  funext j; show V m c main_arg3 (((cfg0.win 3).blk t).view.emb j) = V m c main_arg3 j; rw [emb_3]

theorem idx_4 : ∀ t : Fin cfg0.N, win0_4.index t (0 : Fin 2) = 0 ∧ win0_4.index t (1 : Fin 2) = 0 := by decide +kernel

theorem emb_4 (t : Fin cfg0.N) (j : S1x4608.Idx) : ((cfg0.win 4).blk t).view.emb j = j := whole2 (idx_4 t) rfl rfl

theorem iblk_4 (c : Dev nD) (t : Fin cfg0.N) : iblk m c 4 t = V m c main_v1 := by
  funext j; show V m c main_v1 (((cfg0.win 4).blk t).view.emb j) = V m c main_v1 j; rw [emb_4]

theorem idx_5 : ∀ t : Fin cfg0.N, win0_5.index t (0 : Fin 2) = 0 ∧ win0_5.index t (1 : Fin 2) = 0 := by decide +kernel

theorem emb_5 (t : Fin cfg0.N) (j : S1x4608.Idx) : ((cfg0.win 5).blk t).view.emb j = j := whole2 (idx_5 t) rfl rfl

theorem iblk_5 (c : Dev nD) (t : Fin cfg0.N) : iblk m c 5 t = V m c main_v2 := by
  funext j; show V m c main_v2 (((cfg0.win 5).blk t).view.emb j) = V m c main_v2 j; rw [emb_5]

theorem idx_6 : ∀ t : Fin cfg0.N, win0_6.index t (0 : Fin 2) = 0 ∧ win0_6.index t (1 : Fin 2) = 0 := by decide +kernel

theorem emb_6 (t : Fin cfg0.N) (j : S1x4608.Idx) : ((cfg0.win 6).blk t).view.emb j = j := whole2 (idx_6 t) rfl rfl

theorem iblk_6 (c : Dev nD) (t : Fin cfg0.N) : iblk m c 6 t = V m c main_v3 := by
  funext j; show V m c main_v3 (((cfg0.win 6).blk t).view.emb j) = V m c main_v3 j; rw [emb_6]

theorem idx_7 : ∀ t : Fin cfg0.N, win0_7.index t (0 : Fin 2) = 0 ∧ win0_7.index t (1 : Fin 2) = 0 := by decide +kernel

theorem emb_7 (t : Fin cfg0.N) (j : S15360x4608.Idx) : ((cfg0.win 7).blk t).view.emb j = j := whole2 (idx_7 t) rfl rfl

theorem idx_8 : ∀ t : Fin cfg0.N, win0_8.index t (0 : Fin 2) = 0 ∧ win0_8.index t (1 : Fin 2) = 0 := by decide +kernel

theorem emb_8 (t : Fin cfg0.N) (j : S15360x4608.Idx) : ((cfg0.win 8).blk t).view.emb j = j := whole2 (idx_8 t) rfl rfl

theorem idx_9 : ∀ t : Fin cfg0.N, win0_9.index t (0 : Fin 3) = 0 ∧ win0_9.index t (1 : Fin 3) = 0 ∧ win0_9.index t (2 : Fin 3) = 0 := by decide +kernel

theorem emb_9 (t : Fin cfg0.N) (j : S60x2x128.Idx) : ((cfg0.win 9).blk t).view.emb j = j := by
  obtain ⟨e0, e1, e2⟩ := idx_9 t
  funext a; apply Fin.ext
  match a with
  | ⟨0, _⟩ => show win0_9.index t (0 : Fin 3) * 60 + 1 * (j 0).val = (j 0).val; omega
  | ⟨1, _⟩ => show win0_9.index t (1 : Fin 3) * 2 + 1 * (j 1).val = (j 1).val; omega
  | ⟨2, _⟩ => show win0_9.index t (2 : Fin 3) * 128 + 1 * (j 2).val = (j 2).val; omega

/-! ## The payloads over whole arrays -/

theorem hz2 : (![0, 0] : Fin 2 → Nat) = fun _ => 0 := funext fun a => by fin_cases a <;> rfl
theorem hz3 : (![0, 0, 0] : Fin 3 → Nat) = fun _ => 0 := funext fun a => by fin_cases a <;> rfl

section
variable (x0 : Vec Ideal S15360x4608 .bf16) (x1 : Vec Ideal S15360x1024 .fp8e4m3) (x2 : Vec Ideal S15360x1 .f32) (x3 : Vec Ideal S1024x4608 .fp8e4m3) (x4 x5 x6 : Vec Ideal S1x4608 .f32)

theorem pay9_eq : k0_pay9 x0 x1 x2 x3 x4 x5 x6 = k0_pay5 x1 x2 x3 x4 x0 x5 := by
  unfold k0_pay9
  repeat rw [View.ld_unit_zero hz2]

theorem pay10_eq : k0_pay10 x0 x1 x2 x3 x4 x5 x6 = k0_pay6 x6 := by
  unfold k0_pay10
  repeat rw [View.ld_unit_zero hz2]

theorem pay11_eq : k0_pay11 x0 x1 x2 x3 x4 x5 x6 = k0_pay7 x1 x2 x3 x4 x0 x5 := by
  unfold k0_pay11
  repeat rw [View.ld_unit_zero hz2]

theorem out7_eq : out0_7 x0 x1 x2 x3 x4 x5 x6 = k0_pay5 x1 x2 x3 x4 x0 x5 := by
  unfold out0_7
  rw [View.canon_unit_zero hz2, pay9_eq]

theorem out8_eq : out0_8 x0 x1 x2 x3 x4 x5 x6 = k0_pay3 (k0_pay5 x1 x2 x3 x4 x0 x5) (k0_pay6 x6) (k0_pay7 x1 x2 x3 x4 x0 x5) k0_pay8 := by
  unfold out0_8
  rw [View.canon_unit_zero hz2, pay9_eq, pay10_eq, pay11_eq, k0_pay12]

theorem out9_eq : out0_9 x0 x1 x2 x3 x4 x5 x6 = k0_pay4 (k0_pay5 x1 x2 x3 x4 x0 x5) (k0_pay6 x6) (k0_pay7 x1 x2 x3 x4 x0 x5) k0_pay8 := by
  unfold out0_9
  rw [View.canon_unit_zero hz3, pay9_eq, pay10_eq, pay11_eq, k0_pay12]
end

/-! ## The result arrays -/

/-- The residual stream after attention, row by row. -/
def H (c : Dev nD) (r : Fin 15360) : Fin 4608 → EReal :=
  OProjSpec.res (fun n => m ((c : Thread nD τ).loc main_arg0) (ix2 r n))
    (OProjSpec.dot (m ((c : Thread nD τ).loc main_arg1)) (m ((c : Thread nD τ).loc main_arg3)) r)
    (m ((c : Thread nD τ).loc main_arg2) (ix1 r)) (fun n => m ((c : Thread nD τ).loc main_arg4) (ix1 n)) (fun n => m ((c : Thread nD τ).loc main_arg5) (ix1 n))

/-- Its normalized rows. -/
def Z (c : Dev nD) (r : Fin 15360) : Fin 4608 → EReal := OProjSpec.norm (H m c r) (fun n => m ((c : Thread nD τ).loc main_arg6) (ix1 n))

theorem H_args (c : Dev nD) (r : Fin 15360) (n : Fin 4608) :
    k0_pay5 (F := Ideal) (V m c main_arg1) (V m c main_v0) (V m c main_arg3) (V m c main_v1) (V m c main_arg0) (V m c main_v2) (ix2 r n) = H m c r n := by
  refine (pay5_apply _ _ _ _ _ _ r n).trans ?_
  unfold H
  simp only [V0_apply m c, V1_apply m c, V2_apply m c]
  rw [V_main_arg0, V_main_arg1, V_main_arg3]

theorem Z_args (c : Dev nD) (r : Fin 15360) (n : Fin 4608) :
    k0_pay1 (F := Ideal) (k0_pay5 (F := Ideal) (V m c main_arg1) (V m c main_v0) (V m c main_arg3) (V m c main_v1) (V m c main_arg0) (V m c main_v2)) (k0_pay6 (V m c main_v3))
      (k0_pay7 (V m c main_arg1) (V m c main_v0) (V m c main_arg3) (V m c main_v1) (V m c main_arg0) (V m c main_v2)) k0_pay8 (ix2 r n) = Z m c r n := by
  have e : (fun n => (k0_pay5 (F := Ideal) (V m c main_arg1) (V m c main_v0) (V m c main_arg3) (V m c main_v1) (V m c main_arg0) (V m c main_v2) (ix2 r n) : EReal)) = H m c r :=
    funext (H_args m c r)
  have g : (fun n => (V m c main_v3 (ix2 0 n) : EReal)) = fun n => m ((c : Thread nD τ).loc main_arg6) (ix1 n) := funext (V3_apply m c)
  rw [pay1_apply, pay7_apply]
  unfold Z
  rw [← e, ← g]
  rfl

theorem scale_args (c : Dev nD) (r : Fin 15360) :
    k0_pay2 (F := Ideal) (k0_pay5 (F := Ideal) (V m c main_arg1) (V m c main_v0) (V m c main_arg3) (V m c main_v1) (V m c main_arg0) (V m c main_v2)) (k0_pay6 (V m c main_v3))
      (k0_pay7 (V m c main_arg1) (V m c main_v0) (V m c main_arg3) (V m c main_v1) (V m c main_arg0) (V m c main_v2)) k0_pay8 (ix2 r 0) = OProjSpec.scale (Z m c r) :=
  (pay2_apply _ _ _ _ r).trans (congrArg OProjSpec.scale (funext fun n => Z_args m c r n))

def G7 (c : Dev nD) : S15360x4608.Idx → EReal := fun i => H m c (i 0) (i 1)

/-- The codes. -/
def G8 (c : Dev nD) : S15360x4608.Idx → EReal := fun i => GateUpSpec.code (Z m c (i 0) (i 1)) (OProjSpec.scale (Z m c (i 0)))

/-- The row a lane-dense scale belongs to. -/
def row (b : Fin 60) (k : Fin 2) (l : Fin 128) : Fin 15360 := ⟨b.val * 256 + k.val * 128 + l.val, by omega⟩

/-- The scales. -/
def G9 (c : Dev nD) : S60x2x128.Idx → EReal := fun i => OProjSpec.scale (Z m c (row (i 0) (i 1) (i 2)))

theorem final7 (c : Dev nD) : (dats m 0 c).arrAt 7 cfg0.N = G7 m c := by
  refine (dats m 0 c).arrAt_eq_of_cover 7 (G7 m c) (fun t _ => ?_) (fun i => ?_)
  · rw [Value.flushed7, out7_eq, iblk_0, iblk_1, iblk_2, iblk_3, iblk_4, iblk_5]
    funext j
    show k0_pay5 (F := Ideal) _ _ _ _ _ _ j = G7 m c (((cfg0.win 7).blk t).view.emb j)
    rw [emb_7]
    obtain ⟨r, n, rfl⟩ : ∃ r n, j = ix2 r n := ⟨j 0, j 1, (ix2_eta (n0 := 15360) (n1 := 4608) j).symm⟩
    exact H_args m c r n
  · have h := ((cfg0.win 7).blk t0).view.emb_mem_set i
    rw [emb_7] at h
    exact ⟨t0, by decide +kernel, h⟩

theorem final8 (c : Dev nD) : (dats m 0 c).arrAt 8 cfg0.N = G8 m c := by
  refine (dats m 0 c).arrAt_eq_of_cover 8 (G8 m c) (fun t _ => ?_) (fun i => ?_)
  · rw [Value.flushed8, out8_eq, iblk_0, iblk_1, iblk_2, iblk_3, iblk_4, iblk_5, iblk_6]
    funext j
    show k0_pay3 (F := Ideal) _ _ _ _ j = G8 m c (((cfg0.win 8).blk t).view.emb j)
    rw [emb_8]
    obtain ⟨r, n, rfl⟩ : ∃ r n, j = ix2 r n := ⟨j 0, j 1, (ix2_eta (n0 := 15360) (n1 := 4608) j).symm⟩
    refine (pay3_apply _ _ _ _ r n).trans ?_
    rw [Z_args, scale_args]
    rfl
  · have h := ((cfg0.win 8).blk t0).view.emb_mem_set i
    rw [emb_8] at h
    exact ⟨t0, by decide +kernel, h⟩

theorem final9 (c : Dev nD) : (dats m 0 c).arrAt 9 cfg0.N = G9 m c := by
  refine (dats m 0 c).arrAt_eq_of_cover 9 (G9 m c) (fun t _ => ?_) (fun i => ?_)
  · rw [Value.flushed9, out9_eq, iblk_0, iblk_1, iblk_2, iblk_3, iblk_4, iblk_5, iblk_6]
    funext j
    show k0_pay4 (F := Ideal) _ _ _ _ j = G9 m c (((cfg0.win 9).blk t).view.emb j)
    rw [emb_9]
    obtain ⟨b, k, l, rfl⟩ : ∃ b k l, j = ix3 b k l := ⟨j 0, j 1, j 2, (ix3_eta (n0 := 60) (n1 := 2) (n2 := 128) j).symm⟩
    refine (pay4_apply _ _ _ _ b k l (row b k l) rfl).trans ?_
    rw [scale_args]
    rfl
  · have h := ((cfg0.win 9).blk t0).view.emb_mem_set i
    rw [emb_9] at h
    exact ⟨t0, by decide +kernel, h⟩

end Cert.OProjRefIdeal.Hand

end
-- ==== Proof.OProjValue.lean ====
/- The output projection's kernel, block by block and as whole arrays: its stream, its codes and its scales are the reference's. -/
module

public import proofs.«01_k».proof.Proof.OProjRows
public import proofs.«01_k».proof.Proof.OProjRefValue
public import proofs.«01_k».proof.Defs
public import Idealize.ShloMosaic.Lib.Pipeline.TableIdle

@[expose] public section

set_option maxRecDepth 16384

noncomputable section

namespace Cert.OProjIdeal.Hand

open Cert.OProjIdeal Cert.OProjIdeal.Gen Idealize.ShloMosaic Idealize.ShloMosaic.TcCoe Idealize.SL.Sem
open scoped BigOperators

variable (m : (ℓ : Loc nD τ sig) → Buf (Elt Ideal) ℓ) (ρ : Dev nD → PrngReg)

/-! ## The arrays the host lays out -/

theorem V0_apply (c : Dev nD) (n : Fin 4608) : V m c main_v0 (ix2 0 n) = m ((c : Thread nD τ).loc main_arg4) (ix1 n) := by
  have h : V m c main_v0 = shapeCast S1x4608 (m ((c : Thread nD τ).loc main_arg4)) shapeCasts_S4608_S1x4608 := by
    show StableHlo.after hostOps0 _ (Proc.devRef .tc main_v0) = _
    after_results
    rfl
  rw [h]
  refine (shapeCast_addUnit_apply (n := 1) ![4608] _ shapeCasts_S4608_S1x4608 (ix2 0 n)).trans (congrArg _ (funext fun a => ?_))
  match a with
  | ⟨0, _⟩ => rfl

theorem V1_apply (c : Dev nD) (n : Fin 4608) : V m c main_v1 (ix2 0 n) = m ((c : Thread nD τ).loc main_arg5) (ix1 n) := by
  have h : V m c main_v1 = shapeCast S1x4608 (m ((c : Thread nD τ).loc main_arg5)) shapeCasts_S4608_S1x4608 := by
    show StableHlo.after hostOps0 _ (Proc.devRef .tc main_v1) = _
    after_results
    rfl
  rw [h]
  refine (shapeCast_addUnit_apply (n := 1) ![4608] _ shapeCasts_S4608_S1x4608 (ix2 0 n)).trans (congrArg _ (funext fun a => ?_))
  match a with
  | ⟨0, _⟩ => rfl

theorem V2_apply (c : Dev nD) (n : Fin 4608) : V m c main_v2 (ix2 0 n) = m ((c : Thread nD τ).loc main_arg6) (ix1 n) := by
  have h : V m c main_v2 = shapeCast S1x4608 (m ((c : Thread nD τ).loc main_arg6)) shapeCasts_S4608_S1x4608 := by
    show StableHlo.after hostOps0 _ (Proc.devRef .tc main_v2) = _
    after_results
    rfl
  rw [h]
  refine (shapeCast_addUnit_apply (n := 1) ![4608] _ shapeCasts_S4608_S1x4608 (ix2 0 n)).trans (congrArg _ (funext fun a => ?_))
  match a with
  | ⟨0, _⟩ => rfl

theorem V3_apply (c : Dev nD) (b : Fin 60) (k : Fin 2) (l : Fin 128) (r : Fin 15360) (hr : r.val = b.val * 256 + k.val * 128 + l.val) :
    V m c main_v3 (ix3 b k l) = m ((c : Thread nD τ).loc main_arg2) (ix1 r) := by
  have h : V m c main_v3 = shapeCast S60x2x128 (m ((c : Thread nD τ).loc main_arg2)) shapeCasts_S15360_S60x2x128 := by
    show StableHlo.after hostOps0 _ (Proc.devRef .tc main_v3) = _
    after_results
    rfl
  rw [h]
  refine shapeCast_apply _ _ (ix3 b k l) (ix1 r) ?_
  rw [Shape.rowMajor_val_one, Shape.rowMajor_val_three]
  show r.val = (b.val * 2 + k.val) * 128 + l.val
  omega

/-! ## Which element of which array a block's element is -/

/-- An index of a block of rows, from its block's number. -/
theorem row_block {R n k : ℕ} {x : Shape.Idx ⟨2, ![R, k]⟩} {p : Fin n} {q : Fin k} {r : Fin R} {i j t : ℕ} (hi : i = t ∧ j = 0) (hr : r.val = t * n + p.val)
    (h0 : (x 0).val = i * n + 1 * p.val) (h1 : (x 1).val = j * k + 1 * q.val) : x = ix2 r q := by
  obtain ⟨rfl, rfl⟩ := hi
  funext a; apply Fin.ext
  match a with
  | ⟨0, _⟩ => show (x 0).val = r.val; omega
  | ⟨1, _⟩ => show (x 1).val = q.val; omega

/-- An index of a block that is its whole array. -/
theorem whole_block {n k : ℕ} {x y : Shape.Idx ⟨2, ![n, k]⟩} {i j : ℕ} (hi : i = 0 ∧ j = 0) (h0 : (x 0).val = i * n + 1 * (y 0).val) (h1 : (x 1).val = j * k + 1 * (y 1).val) : x = y := by
  obtain ⟨rfl, rfl⟩ := hi
  funext a; apply Fin.ext
  match a with
  | ⟨0, _⟩ => show (x 0).val = (y 0).val; omega
  | ⟨1, _⟩ => show (x 1).val = (y 1).val; omega

/-- An index of a block of scales. -/
theorem scale_block {x : S60x2x128.Idx} {k : Fin 2} {l : Fin 128} {b : Fin 60} {i j z : ℕ} (hi : i = b.val ∧ j = 0 ∧ z = 0)
    (h0 : (x 0).val = i * 1 + 1 * 0) (h1 : (x 1).val = j * 2 + 1 * k.val) (h2 : (x 2).val = z * 128 + 1 * l.val) : x = ix3 b k l := by
  obtain ⟨rfl, rfl, rfl⟩ := hi
  funext a; apply Fin.ext
  match a with
  | ⟨0, _⟩ => show (x 0).val = b.val; omega
  | ⟨1, _⟩ => show (x 1).val = k.val; omega
  | ⟨2, _⟩ => show (x 2).val = l.val; omega

theorem t_lt (t : Fin cfg0.N) : t.val < 60 := Nat.lt_of_lt_of_eq t.isLt N_0

theorem idx_0 : ∀ t : Fin cfg0.N, win0_0.index t (0 : Fin 2) = t.val ∧ win0_0.index t (1 : Fin 2) = 0 := by decide +kernel

theorem emb_0 (t : Fin cfg0.N) (p : Fin 256) (q : Fin 4608) (r : Fin 15360) (hr : r.val = t.val * 256 + p.val) : ((cfg0.win 0).blk t).view.emb (ix2 p q) = ix2 r q :=
  row_block (idx_0 t) hr rfl rfl

theorem iblk_0 (c : Dev nD) (t : Fin cfg0.N) (p : Fin 256) (q : Fin 4608) (r : Fin 15360) (hr : r.val = t.val * 256 + p.val) : iblk m c 0 t (ix2 p q) = V m c main_arg0 (ix2 r q) := by
  show V m c main_arg0 (((cfg0.win 0).blk t).view.emb (ix2 p q)) = V m c main_arg0 (ix2 r q); rw [emb_0 t p q r hr]

theorem idx_1 : ∀ t : Fin cfg0.N, win0_1.index t (0 : Fin 2) = t.val ∧ win0_1.index t (1 : Fin 2) = 0 := by decide +kernel

theorem emb_1 (t : Fin cfg0.N) (p : Fin 256) (q : Fin 1024) (r : Fin 15360) (hr : r.val = t.val * 256 + p.val) : ((cfg0.win 1).blk t).view.emb (ix2 p q) = ix2 r q :=
  row_block (idx_1 t) hr rfl rfl

theorem iblk_1 (c : Dev nD) (t : Fin cfg0.N) (p : Fin 256) (q : Fin 1024) (r : Fin 15360) (hr : r.val = t.val * 256 + p.val) : iblk m c 1 t (ix2 p q) = V m c main_arg1 (ix2 r q) := by
  show V m c main_arg1 (((cfg0.win 1).blk t).view.emb (ix2 p q)) = V m c main_arg1 (ix2 r q); rw [emb_1 t p q r hr]

theorem idx_7 : ∀ t : Fin cfg0.N, win0_7.index t (0 : Fin 2) = t.val ∧ win0_7.index t (1 : Fin 2) = 0 := by decide +kernel

theorem emb_7 (t : Fin cfg0.N) (p : Fin 256) (q : Fin 4608) (r : Fin 15360) (hr : r.val = t.val * 256 + p.val) : ((cfg0.win 7).blk t).view.emb (ix2 p q) = ix2 r q :=
  row_block (idx_7 t) hr rfl rfl

theorem idx_8 : ∀ t : Fin cfg0.N, win0_8.index t (0 : Fin 2) = t.val ∧ win0_8.index t (1 : Fin 2) = 0 := by decide +kernel

theorem emb_8 (t : Fin cfg0.N) (p : Fin 256) (q : Fin 4608) (r : Fin 15360) (hr : r.val = t.val * 256 + p.val) : ((cfg0.win 8).blk t).view.emb (ix2 p q) = ix2 r q :=
  row_block (idx_8 t) hr rfl rfl

theorem idx_3 : ∀ t : Fin cfg0.N, win0_3.index t (0 : Fin 2) = 0 ∧ win0_3.index t (1 : Fin 2) = 0 := by decide +kernel

theorem emb_3 (t : Fin cfg0.N) (j : S1024x4608.Idx) : ((cfg0.win 3).blk t).view.emb j = j := whole_block (idx_3 t) rfl rfl

theorem iblk_3 (c : Dev nD) (t : Fin cfg0.N) : iblk m c 3 t = V m c main_arg3 := by
  funext j; show V m c main_arg3 (((cfg0.win 3).blk t).view.emb j) = V m c main_arg3 j; rw [emb_3]

theorem idx_4 : ∀ t : Fin cfg0.N, win0_4.index t (0 : Fin 2) = 0 ∧ win0_4.index t (1 : Fin 2) = 0 := by decide +kernel

theorem emb_4 (t : Fin cfg0.N) (j : S1x4608.Idx) : ((cfg0.win 4).blk t).view.emb j = j := whole_block (idx_4 t) rfl rfl

theorem iblk_4 (c : Dev nD) (t : Fin cfg0.N) : iblk m c 4 t = V m c main_v0 := by
  funext j; show V m c main_v0 (((cfg0.win 4).blk t).view.emb j) = V m c main_v0 j; rw [emb_4]

theorem idx_5 : ∀ t : Fin cfg0.N, win0_5.index t (0 : Fin 2) = 0 ∧ win0_5.index t (1 : Fin 2) = 0 := by decide +kernel

theorem emb_5 (t : Fin cfg0.N) (j : S1x4608.Idx) : ((cfg0.win 5).blk t).view.emb j = j := whole_block (idx_5 t) rfl rfl

theorem iblk_5 (c : Dev nD) (t : Fin cfg0.N) : iblk m c 5 t = V m c main_v1 := by
  funext j; show V m c main_v1 (((cfg0.win 5).blk t).view.emb j) = V m c main_v1 j; rw [emb_5]

theorem idx_6 : ∀ t : Fin cfg0.N, win0_6.index t (0 : Fin 2) = 0 ∧ win0_6.index t (1 : Fin 2) = 0 := by decide +kernel

theorem emb_6 (t : Fin cfg0.N) (j : S1x4608.Idx) : ((cfg0.win 6).blk t).view.emb j = j := whole_block (idx_6 t) rfl rfl

theorem iblk_6 (c : Dev nD) (t : Fin cfg0.N) : iblk m c 6 t = V m c main_v2 := by
  funext j; show V m c main_v2 (((cfg0.win 6).blk t).view.emb j) = V m c main_v2 j; rw [emb_6]

theorem idx_2 : ∀ t : Fin cfg0.N, win0_2.index t (0 : Fin 3) = t.val ∧ win0_2.index t (1 : Fin 3) = 0 ∧ win0_2.index t (2 : Fin 3) = 0 := by decide +kernel

theorem emb_2 (t : Fin cfg0.N) (k : Fin 2) (l : Fin 128) (b : Fin 60) (hb : b.val = t.val) : ((cfg0.win 2).blk t).view.emb (ix3 0 k l) = ix3 b k l :=
  scale_block (hb.symm ▸ idx_2 t) rfl rfl rfl

theorem iblk_2 (c : Dev nD) (t : Fin cfg0.N) (k : Fin 2) (l : Fin 128) (b : Fin 60) (hb : b.val = t.val) : iblk m c 2 t (ix3 0 k l) = V m c main_v3 (ix3 b k l) := by
  show V m c main_v3 (((cfg0.win 2).blk t).view.emb (ix3 0 k l)) = V m c main_v3 (ix3 b k l); rw [emb_2 t k l b hb]

theorem idx_9 : ∀ t : Fin cfg0.N, win0_9.index t (0 : Fin 3) = t.val ∧ win0_9.index t (1 : Fin 3) = 0 ∧ win0_9.index t (2 : Fin 3) = 0 := by decide +kernel

theorem emb_9 (t : Fin cfg0.N) (k : Fin 2) (l : Fin 128) (b : Fin 60) (hb : b.val = t.val) : ((cfg0.win 9).blk t).view.emb (ix3 0 k l) = ix3 b k l :=
  scale_block (hb.symm ▸ idx_9 t) rfl rfl rfl

/-- A grid point's memrefs and blocks. -/
noncomputable def at0 (c : Dev nD) (t : Fin cfg0.N) : Args :=
  ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t,
    iblk m c 0 t, iblk m c 1 t, iblk m c 2 t, iblk m c 3 t, iblk m c 4 t, iblk m c 5 t, iblk m c 6 t⟩

theorem flushed7_at (c : Dev nD) (t : Fin cfg0.N) : (dats m 0 c).flushed 7 t = (cfg0.win 7).cut (grid0.coords t) (at0 m c t).res7 := Value.flushed7_A m c t
theorem flushed8_at (c : Dev nD) (t : Fin cfg0.N) : (dats m 0 c).flushed 8 t = (cfg0.win 8).cut (grid0.coords t) (at0 m c t).res8 := Value.flushed8_A m c t
theorem flushed9_at (c : Dev nD) (t : Fin cfg0.N) : (dats m 0 c).flushed 9 t = (cfg0.win 9).cut (grid0.coords t) (at0 m c t).res9 := Value.flushed9_A m c t

/-! ## The rows, of the arguments -/

/-- The residual stream after attention, row by row. -/
def H (c : Dev nD) (r : Fin 15360) : Fin 4608 → EReal :=
  OProjSpec.res (fun n => m ((c : Thread nD τ).loc main_arg0) (ix2 r n))
    (OProjSpec.dot (m ((c : Thread nD τ).loc main_arg1)) (m ((c : Thread nD τ).loc main_arg3)) r)
    (m ((c : Thread nD τ).loc main_arg2) (ix1 r)) (fun n => m ((c : Thread nD τ).loc main_arg4) (ix1 n)) (fun n => m ((c : Thread nD τ).loc main_arg5) (ix1 n))

/-- Its normalized rows. -/
def Z (c : Dev nD) (r : Fin 15360) : Fin 4608 → EReal := OProjSpec.norm (H m c r) (fun n => m ((c : Thread nD τ).loc main_arg6) (ix1 n))

section
variable (c : Dev nD) (t : Fin cfg0.N) (p : Fin 256) (r : Fin 15360) (hr : r.val = t.val * 256 + p.val)
include hr

theorem sv_at : (at0 m c t).sv p = m ((c : Thread nD τ).loc main_arg2) (ix1 r) := by
  have ht := t_lt t
  have hp := p.isLt
  have hk : p.val / 128 < 2 := by omega
  have hl : p.val % 128 < 128 := Nat.mod_lt _ (by omega)
  refine ((at0 m c t).S_apply p ⟨p.val / 128, hk⟩ ⟨p.val % 128, hl⟩ (by show p.val = p.val / 128 * 128 + p.val % 128; omega)).trans ?_
  refine (iblk_2 m c t ⟨p.val / 128, hk⟩ ⟨p.val % 128, hl⟩ ⟨t.val, ht⟩ rfl).trans ?_
  exact V3_apply m c ⟨t.val, ht⟩ _ _ r (by show r.val = t.val * 256 + p.val / 128 * 128 + p.val % 128; omega)

theorem yv_at (n : Fin 4608) : (at0 m c t).yv p n
    = OProjSpec.dot (m ((c : Thread nD τ).loc main_arg1)) (m ((c : Thread nD τ).loc main_arg3)) r n * m ((c : Thread nD τ).loc main_arg4) (ix1 n) := by
  have e4 : (at0 m c t).x4 (ix2 0 n) = m ((c : Thread nD τ).loc main_arg4) (ix1 n) := (congrFun (iblk_4 m c t) (ix2 0 n)).trans (V0_apply m c n)
  have e3 : (at0 m c t).x3 = m ((c : Thread nD τ).loc main_arg3) := (iblk_3 m c t).trans (V_main_arg3 m c)
  have e1 : ∀ j : Fin 1024, (at0 m c t).x1 (ix2 p j) = m ((c : Thread nD τ).loc main_arg1) (ix2 r j) := fun j =>
    (iblk_1 m c t p j r hr).trans (congrFun (V_main_arg1 m c) (ix2 r j))
  unfold Args.yv OProjSpec.dot
  rw [e4, e3]
  exact congrArg (fun x : EReal => x * m ((c : Thread nD τ).loc main_arg4) (ix1 n))
    (Finset.sum_congr rfl fun j _ => congrArg (fun x : EReal => x * m ((c : Thread nD τ).loc main_arg3) (ix2 j n)) (e1 j))

theorem hv_at : (at0 m c t).hv p = H m c r := by
  have e0 : (fun n => (at0 m c t).x0 (ix2 p n) : Fin 4608 → EReal) = fun n => m ((c : Thread nD τ).loc main_arg0) (ix2 r n) :=
    funext fun n => (iblk_0 m c t p n r hr).trans (congrFun (V_main_arg0 m c) (ix2 r n))
  have e5 : (fun n => (at0 m c t).x5 (ix2 0 n) : Fin 4608 → EReal) = fun n => m ((c : Thread nD τ).loc main_arg5) (ix1 n) :=
    funext fun n => (congrFun (iblk_5 m c t) (ix2 0 n)).trans (V1_apply m c n)
  unfold Args.hv
  rw [e0, e5, sv_at m c t p r hr, show (at0 m c t).yv p = _ from funext (yv_at m c t p r hr)]
  exact funext fun n => OProjSpec.kres_eq _ _ _ _ _ n

theorem zv_at : OProjSpec.norm ((at0 m c t).hv p) (at0 m c t).gv = Z m c r := by
  have e6 : (at0 m c t).gv = fun n => m ((c : Thread nD τ).loc main_arg6) (ix1 n) :=
    funext fun n => (congrFun (iblk_6 m c t) (ix2 0 n)).trans (V2_apply m c n)
  rw [hv_at m c t p r hr, e6]
  rfl
end

/-! ## The result arrays -/

def G7 (c : Dev nD) : S15360x4608.Idx → EReal := fun i => H m c (i 0) (i 1)

/-- The codes. -/
def G8 (c : Dev nD) : S15360x4608.Idx → EReal := fun i => GateUpSpec.code (Z m c (i 0) (i 1)) (OProjSpec.scale (Z m c (i 0)))

/-- The row a lane-dense scale belongs to. -/
def row (b : Fin 60) (k : Fin 2) (l : Fin 128) : Fin 15360 := ⟨b.val * 256 + k.val * 128 + l.val, by omega⟩

/-- The scales. -/
def G9 (c : Dev nD) : S60x2x128.Idx → EReal := fun i => OProjSpec.scale (Z m c (row (i 0) (i 1) (i 2)))

theorem flush_7 : ∀ t : Fin cfg0.N, (cfg0.win 7).flush t = true := by
  intro t; rw [Pipeline.Window.flush_eq_flushF]; revert t; decide +kernel

theorem flush_8 : ∀ t : Fin cfg0.N, (cfg0.win 8).flush t = true := by
  intro t; rw [Pipeline.Window.flush_eq_flushF]; revert t; decide +kernel

theorem flush_9 : ∀ t : Fin cfg0.N, (cfg0.win 9).flush t = true := by
  intro t; rw [Pipeline.Window.flush_eq_flushF]; revert t; decide +kernel

theorem final7 (c : Dev nD) : (dats m 0 c).arrAt 7 cfg0.N = G7 m c := by
  refine (dats m 0 c).arrAt_eq_of_cover 7 (G7 m c) (fun t _ => ?_) (fun i => ?_)
  · rw [flushed7_at]
    funext j
    obtain ⟨p, n, rfl⟩ : ∃ p n, j = ix2 p n := ⟨j 0, j 1, (ix2_eta (n0 := 256) (n1 := 4608) j).symm⟩
    have ht := t_lt t
    have hp := p.isLt
    have hr : t.val * 256 + p.val < 15360 := by omega
    refine Eq.trans ?_ (congrArg (G7 m c) (emb_7 t p n ⟨_, hr⟩ rfl)).symm
    have e := ((at0 m c t).res7_apply p n).trans (congrFun (hv_at m c t p ⟨_, hr⟩ rfl) n)
    generalize (at0 m c t).res7 = W at e ⊢
    exact e
  · obtain ⟨r, n, rfl⟩ : ∃ r n, i = ix2 r n := ⟨i 0, i 1, (ix2_eta (n0 := 15360) (n1 := 4608) i).symm⟩
    have hr := r.isLt
    have hN : r.val / 256 < cfg0.N := Nat.lt_of_lt_of_eq (by omega) N_0.symm
    refine ⟨⟨_, hN⟩, flush_7 _, ?_⟩
    have h := ((cfg0.win 7).blk ⟨_, hN⟩).view.emb_mem_set (ix2 (⟨r.val % 256, by omega⟩ : Fin 256) n)
    rw [emb_7 ⟨_, hN⟩ _ n r (by show r.val = r.val / 256 * 256 + r.val % 256; omega)] at h
    exact h

theorem final8 (c : Dev nD) : (dats m 0 c).arrAt 8 cfg0.N = G8 m c := by
  refine (dats m 0 c).arrAt_eq_of_cover 8 (G8 m c) (fun t _ => ?_) (fun i => ?_)
  · rw [flushed8_at]
    funext j
    obtain ⟨p, n, rfl⟩ : ∃ p n, j = ix2 p n := ⟨j 0, j 1, (ix2_eta (n0 := 256) (n1 := 4608) j).symm⟩
    have ht := t_lt t
    have hp := p.isLt
    have hr : t.val * 256 + p.val < 15360 := by omega
    refine Eq.trans ?_ (congrArg (G8 m c) (emb_8 t p n ⟨_, hr⟩ rfl)).symm
    have e := (at0 m c t).res8_apply p n
    unfold Args.cv at e
    rw [zv_at m c t p ⟨_, hr⟩ rfl] at e
    generalize (at0 m c t).res8 = W at e ⊢
    exact e
  · obtain ⟨r, n, rfl⟩ : ∃ r n, i = ix2 r n := ⟨i 0, i 1, (ix2_eta (n0 := 15360) (n1 := 4608) i).symm⟩
    have hr := r.isLt
    have hN : r.val / 256 < cfg0.N := Nat.lt_of_lt_of_eq (by omega) N_0.symm
    refine ⟨⟨_, hN⟩, flush_8 _, ?_⟩
    have h := ((cfg0.win 8).blk ⟨_, hN⟩).view.emb_mem_set (ix2 (⟨r.val % 256, by omega⟩ : Fin 256) n)
    rw [emb_8 ⟨_, hN⟩ _ n r (by show r.val = r.val / 256 * 256 + r.val % 256; omega)] at h
    exact h

theorem final9 (c : Dev nD) : (dats m 0 c).arrAt 9 cfg0.N = G9 m c := by
  refine (dats m 0 c).arrAt_eq_of_cover 9 (G9 m c) (fun t _ => ?_) (fun i => ?_)
  · rw [flushed9_at]
    funext j
    obtain ⟨z, k, l, rfl⟩ : ∃ z k l, j = ix3 z k l := ⟨j 0, j 1, j 2, (ix3_eta (n0 := 1) (n1 := 2) (n2 := 128) j).symm⟩
    obtain rfl : z = 0 := Subsingleton.elim _ _
    have ht := t_lt t
    have hk := k.isLt
    have hl := l.isLt
    refine Eq.trans ?_ (congrArg (G9 m c) (emb_9 t k l ⟨t.val, ht⟩ rfl)).symm
    have hp : k.val * 128 + l.val < 256 := by omega
    have e := (at0 m c t).res9_apply k l ⟨_, hp⟩ rfl
    rw [zv_at m c t ⟨_, hp⟩ (row ⟨t.val, ht⟩ k l) (by show t.val * 256 + k.val * 128 + l.val = t.val * 256 + (k.val * 128 + l.val); omega)] at e
    generalize (at0 m c t).res9 = W at e ⊢
    exact e
  · obtain ⟨b, k, l, rfl⟩ : ∃ b k l, i = ix3 b k l := ⟨i 0, i 1, i 2, (ix3_eta (n0 := 60) (n1 := 2) (n2 := 128) i).symm⟩
    have hN : b.val < cfg0.N := Nat.lt_of_lt_of_eq b.isLt N_0.symm
    refine ⟨⟨_, hN⟩, flush_9 _, ?_⟩
    have h := ((cfg0.win 9).blk ⟨_, hN⟩).view.emb_mem_set (ix3 0 k l)
    rw [emb_9 ⟨_, hN⟩ k l b rfl] at h
    exact h

/-- The kernel's run: its three result arrays, and the arguments unchanged. -/
theorem run_value : θ_run defs (onTc (τ := τ) (main (F := Ideal))) ⟨m, fun _ => 0, ρ⟩ (fun r => ∀ c : Dev nD,
      r.2.mem ((c.tc : Thread nD τ).loc main_v4_0) = G7 m c
      ∧ r.2.mem ((c.tc : Thread nD τ).loc main_v4_1) = G8 m c
      ∧ r.2.mem ((c.tc : Thread nD τ).loc main_v4_2) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (final7 m c), (h c).2.1.trans (final8 m c), (h c).2.2.1.trans (final9 m c), (h c).2.2.2⟩) (Value.run_blocks (F := Ideal) m ρ)

end Cert.OProjIdeal.Hand

namespace Cert.OProjAlgebraic

open Idealize.ShloMosaic Idealize.ShloMosaic.TcCoe Idealize.SL.Sem

/-- From memories that agree on the arguments, the kernel and the reference end with the same stream, the same codes and the same scales. -/
theorem algebraic : Cert.algebraic_OProjIdeal_OProjRefIdeal := by
  intro m ρ m' ρ' _ hagree
  refine ⟨_, _, _, Cert.OProjIdeal.Hand.run_value m ρ, ?_⟩
  have hH : ∀ c, Cert.OProjRefIdeal.Hand.H m' c = Cert.OProjIdeal.Hand.H m c := fun c => by
    obtain ⟨h0, h1, h2, h3, h4, h5, h6⟩ := hagree c
    unfold Cert.OProjRefIdeal.Hand.H Cert.OProjIdeal.Hand.H
    rw [h0, h1, h2, h3, h4, h5]
  have hZ : ∀ c, Cert.OProjRefIdeal.Hand.Z m' c = Cert.OProjIdeal.Hand.Z m c := fun c => by
    obtain ⟨h0, h1, h2, h3, h4, h5, h6⟩ := hagree c
    unfold Cert.OProjRefIdeal.Hand.Z Cert.OProjIdeal.Hand.Z
    rw [hH c, h6]
  refine (θ_run Cert.OProjRefIdeal.defs _ _).mono (fun _ h c => ⟨(h c).1.trans ?_, (h c).2.1.trans ?_, (h c).2.2.1.trans ?_, (h c).2.2.2⟩) (Cert.OProjRefIdeal.Value.run_blocks (F := Ideal) m' ρ')
  · rw [Cert.OProjRefIdeal.Hand.final7 m' c]
    unfold Cert.OProjRefIdeal.Hand.G7
    rw [hH c]
    rfl
  · rw [Cert.OProjRefIdeal.Hand.final8 m' c]
    unfold Cert.OProjRefIdeal.Hand.G8
    rw [hZ c]
    rfl
  · rw [Cert.OProjRefIdeal.Hand.final9 m' c]
    unfold Cert.OProjRefIdeal.Hand.G9
    rw [hZ c]
    rfl

end Cert.OProjAlgebraic

end
-- ==== Proof.lean ====
module

public import proofs.«01_k».proof.Defs
public import proofs.«01_k».proof.Proof.Gen.GateUp
public import proofs.«01_k».proof.Proof.Gen.GateUpIdeal
public import proofs.«01_k».proof.Proof.Gen.GateUpRefIdeal
public import proofs.«01_k».proof.Proof.Gen.GateUp.Skeleton
public import proofs.«01_k».proof.Proof.Gen.GateUp.Frame
public import proofs.«01_k».proof.Proof.Gen.GateUpIdeal.Skeleton
public import proofs.«01_k».proof.Proof.Gen.GateUpIdeal.Frame
public import proofs.«01_k».proof.Proof.Gen.GateUpRefIdeal.Frame
public import proofs.«01_k».proof.Proof.Gen.GateUpRefIdeal.Value
public import proofs.«01_k».proof.Proof.Gen.Down
public import proofs.«01_k».proof.Proof.Gen.DownIdeal
public import proofs.«01_k».proof.Proof.Gen.DownRefIdeal
public import proofs.«01_k».proof.Proof.Gen.DownRefIdeal.Frame
public import proofs.«01_k».proof.Proof.Gen.DownRefIdeal.Value
public import proofs.«01_k».proof.Proof.GateUpRun
public import proofs.«01_k».proof.Proof.GateUpIdealRun
public import proofs.«01_k».proof.Proof.GateUpValue
public import proofs.«01_k».proof.Proof.DownRun
public import proofs.«01_k».proof.Proof.DownIdealRun
public import proofs.«01_k».proof.Proof.DownValue
public import proofs.«01_k».proof.Proof.Gen.OProj
public import proofs.«01_k».proof.Proof.Gen.OProj.Frame
public import proofs.«01_k».proof.Proof.Gen.OProjIdeal.Frame
public import proofs.«01_k».proof.Proof.Gen.OProjIdeal.Value
public import proofs.«01_k».proof.Proof.Gen.OProjRefIdeal.Value
public import proofs.«01_k».proof.Proof.OProjValue
public import Idealize.ShloMosaic.Adequacy
public import Idealize.ShloMosaic.Init

@[expose] public section

noncomputable section

namespace Cert.Proof

open Idealize.ShloMosaic Idealize.SL.Sem

/-- The one rewrite of the gate/up program: its folded gelu constant is read as the exact product of the two it stands for. -/
theorem preserves_GateUp : Cert.preserves_GateUp_GateUpIdeal :=
  IdealRules.named_const.statement Cert.GateUpIdeal.κ "gelu_c1" .f32 0x3D122279#32 ((80338380498831 / 2251799813685248 : ℝ) : EReal) rfl

theorem claim : Cert.Claim :=
  ⟨Cert.GateUp.Gen.facts, Cert.GateUpIdeal.Gen.facts, Cert.GateUpRefIdeal.Gen.facts,
    Cert.Down.Gen.facts, Cert.DownIdeal.Gen.facts, Cert.DownRefIdeal.Gen.facts,
    Cert.OProj.Gen.facts, Cert.OProjIdeal.Gen.facts, Cert.OProjRefIdeal.Gen.facts,
    fun m ρ _ => Cert.GateUp.Hand.frame m ρ, fun m ρ _ => Cert.GateUpIdeal.Hand.frame m ρ, fun m ρ _ => Cert.GateUpRefIdeal.Gen.frame m ρ,
    fun m ρ _ => Cert.Down.Hand.frame m ρ, fun m ρ _ => Cert.DownIdeal.Hand.frame m ρ, fun m ρ _ => Cert.DownRefIdeal.Gen.frame m ρ,
    fun m ρ _ => Cert.OProj.Gen.frame m ρ, fun m ρ _ => Cert.OProjIdeal.Gen.frame m ρ, fun m ρ _ => Cert.OProjRefIdeal.Gen.frame m ρ,
    preserves_GateUp, Cert.GateUpAlgebraic.algebraic, trivial, Cert.DownAlgebraic.algebraic,
    trivial, Cert.OProjAlgebraic.algebraic⟩

end Cert.Proof

end
